-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeIdeal_branches_finite [hPre_branches_finite : Cert.Pre_branches_finite.Facts] (m : (ℓ : Loc Cert.MergeIdeal.nD Cert.MergeIdeal.τ Cert.MergeIdeal.sig) → Buf (Elt Ideal) ℓ) : Prop :=
  ∀ c : Dev Cert.MergeIdeal.nD,
    (Cert.Pre_branches_finite.fn (F := Ideal) (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (m ((c.tc : Thread Cert.MergeIdeal.nD Cert.MergeIdeal.τ).loc Cert.MergeIdeal.main_arg4)) (m ((c.tc : Thread Cert.MergeIdeal.nD Cert.MergeIdeal.τ).loc Cert.MergeIdeal.main_arg5)) (m ((c.tc : Thread Cert.MergeIdeal.nD Cert.MergeIdeal.τ).loc Cert.MergeIdeal.main_arg6)) (m ((c.tc : Thread Cert.MergeIdeal.nD Cert.MergeIdeal.τ).loc Cert.MergeIdeal.main_arg7)) (m ((c.tc : Thread Cert.MergeIdeal.nD Cert.MergeIdeal.τ).loc Cert.MergeIdeal.main_arg8)) (m ((c.tc : Thread Cert.MergeIdeal.nD Cert.MergeIdeal.τ).loc Cert.MergeIdeal.main_arg9)) (m ((c.tc : Thread Cert.MergeIdeal.nD Cert.MergeIdeal.τ).loc Cert.MergeIdeal.main_arg10)) (m ((c.tc : Thread Cert.MergeIdeal.nD Cert.MergeIdeal.τ).loc Cert.MergeIdeal.main_arg11)) (m ((c.tc : Thread Cert.MergeIdeal.nD Cert.MergeIdeal.τ).loc Cert.MergeIdeal.main_arg12)) (m ((c.tc : Thread Cert.MergeIdeal.nD Cert.MergeIdeal.τ).loc Cert.MergeIdeal.main_arg13)) (m ((c.tc : Thread Cert.MergeIdeal.nD Cert.MergeIdeal.τ).loc Cert.MergeIdeal.main_arg14)) (m ((c.tc : Thread Cert.MergeIdeal.nD Cert.MergeIdeal.τ).loc Cert.MergeIdeal.main_arg15)) (m ((c.tc : Thread Cert.MergeIdeal.nD Cert.MergeIdeal.τ).loc Cert.MergeIdeal.main_arg16)) (m ((c.tc : Thread Cert.MergeIdeal.nD Cert.MergeIdeal.τ).loc Cert.MergeIdeal.main_arg17)) (m ((c.tc : Thread Cert.MergeIdeal.nD Cert.MergeIdeal.τ).loc Cert.MergeIdeal.main_arg18))) = (fun _ => 1#1)

def Pre_MergeRefIdeal (m : (ℓ : Loc Cert.MergeRefIdeal.nD Cert.MergeRefIdeal.τ Cert.MergeRefIdeal.sig) → Buf (Elt Ideal) ℓ) : Prop :=
  True

def Pre_MergeRefIdeal_branches_finite [hPre_branches_finite : Cert.Pre_branches_finite.Facts] (m : (ℓ : Loc Cert.MergeRefIdeal.nD Cert.MergeRefIdeal.τ Cert.MergeRefIdeal.sig) → Buf (Elt Ideal) ℓ) : Prop :=
  ∀ c : Dev Cert.MergeRefIdeal.nD,
    (Cert.Pre_branches_finite.fn (F := Ideal) (m ((c.tc : Thread Cert.MergeRefIdeal.nD Cert.MergeRefIdeal.τ).loc Cert.MergeRefIdeal.main_arg0)) (m ((c.tc : Thread Cert.MergeRefIdeal.nD Cert.MergeRefIdeal.τ).loc Cert.MergeRefIdeal.main_arg1)) (m ((c.tc : Thread Cert.MergeRefIdeal.nD Cert.MergeRefIdeal.τ).loc Cert.MergeRefIdeal.main_arg2)) (m ((c.tc : Thread Cert.MergeRefIdeal.nD Cert.MergeRefIdeal.τ).loc Cert.MergeRefIdeal.main_arg3)) (m ((c.tc : Thread Cert.MergeRefIdeal.nD Cert.MergeRefIdeal.τ).loc Cert.MergeRefIdeal.main_arg4)) (m ((c.tc : Thread Cert.MergeRefIdeal.nD Cert.MergeRefIdeal.τ).loc Cert.MergeRefIdeal.main_arg5)) (m ((c.tc : Thread Cert.MergeRefIdeal.nD Cert.MergeRefIdeal.τ).loc Cert.MergeRefIdeal.main_arg6)) (m ((c.tc : Thread Cert.MergeRefIdeal.nD Cert.MergeRefIdeal.τ).loc Cert.MergeRefIdeal.main_arg7)) (m ((c.tc : Thread Cert.MergeRefIdeal.nD Cert.MergeRefIdeal.τ).loc Cert.MergeRefIdeal.main_arg8)) (m ((c.tc : Thread Cert.MergeRefIdeal.nD Cert.MergeRefIdeal.τ).loc Cert.MergeRefIdeal.main_arg9)) (m ((c.tc : Thread Cert.MergeRefIdeal.nD Cert.MergeRefIdeal.τ).loc Cert.MergeRefIdeal.main_arg10)) (m ((c.tc : Thread Cert.MergeRefIdeal.nD Cert.MergeRefIdeal.τ).loc Cert.MergeRefIdeal.main_arg11)) (m ((c.tc : Thread Cert.MergeRefIdeal.nD Cert.MergeRefIdeal.τ).loc Cert.MergeRefIdeal.main_arg12)) (m ((c.tc : Thread Cert.MergeRefIdeal.nD Cert.MergeRefIdeal.τ).loc Cert.MergeRefIdeal.main_arg13)) (m ((c.tc : Thread Cert.MergeRefIdeal.nD Cert.MergeRefIdeal.τ).loc Cert.MergeRefIdeal.main_arg14)) (m ((c.tc : Thread Cert.MergeRefIdeal.nD Cert.MergeRefIdeal.τ).loc Cert.MergeRefIdeal.main_arg15)) (m ((c.tc : Thread Cert.MergeRefIdeal.nD Cert.MergeRefIdeal.τ).loc Cert.MergeRefIdeal.main_arg16)) (m ((c.tc : Thread Cert.MergeRefIdeal.nD Cert.MergeRefIdeal.τ).loc Cert.MergeRefIdeal.main_arg17)) (m ((c.tc : Thread Cert.MergeRefIdeal.nD Cert.MergeRefIdeal.τ).loc Cert.MergeRefIdeal.main_arg18))) = (fun _ => 1#1)

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_Kin (m : (ℓ : Loc Cert.Kin.nD Cert.Kin.τ Cert.Kin.sig) → Buf (Elt Bits) ℓ) : Prop :=
  True

def Pre_KinIdeal (m : (ℓ : Loc Cert.KinIdeal.nD Cert.KinIdeal.τ Cert.KinIdeal.sig) → Buf (Elt Ideal) ℓ) : Prop :=
  True

def Pre_KinRefIdeal (m : (ℓ : Loc Cert.KinRefIdeal.nD Cert.KinRefIdeal.τ Cert.KinRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16)
      ∧ r.2.mem ((c.tc : Thread Cert.Merge.nD Cert.Merge.τ).loc Cert.Merge.main_arg17) = m ((c.tc : Thread Cert.Merge.nD Cert.Merge.τ).loc Cert.Merge.main_arg17)
      ∧ r.2.mem ((c.tc : Thread Cert.Merge.nD Cert.Merge.τ).loc Cert.Merge.main_arg18) = m ((c.tc : Thread Cert.Merge.nD Cert.Merge.τ).loc Cert.Merge.main_arg18))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ r.2.sem = fun _ => 0)

def quiescent_MergeIdeal_pre_branches_finite [hMergeIdeal : Cert.MergeIdeal.Facts] [hPre_branches_finite : Cert.Pre_branches_finite.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal_branches_finite m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
      ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
      ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16)
      ∧ r.2.mem ((c.tc : Thread Cert.MergeRefIdeal.nD Cert.MergeRefIdeal.τ).loc Cert.MergeRefIdeal.main_arg17) = m ((c.tc : Thread Cert.MergeRefIdeal.nD Cert.MergeRefIdeal.τ).loc Cert.MergeRefIdeal.main_arg17)
      ∧ r.2.mem ((c.tc : Thread Cert.MergeRefIdeal.nD Cert.MergeRefIdeal.τ).loc Cert.MergeRefIdeal.main_arg18) = m ((c.tc : Thread Cert.MergeRefIdeal.nD Cert.MergeRefIdeal.τ).loc Cert.MergeRefIdeal.main_arg18))
      ∧ r.2.sem = fun _ => 0)

def quiescent_MergeRefIdeal_pre_branches_finite [hMergeRefIdeal : Cert.MergeRefIdeal.Facts] [hPre_branches_finite : Cert.Pre_branches_finite.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal_branches_finite m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16)
      ∧ r.2.mem ((c.tc : Thread Cert.MergeRefIdeal.nD Cert.MergeRefIdeal.τ).loc Cert.MergeRefIdeal.main_arg17) = m ((c.tc : Thread Cert.MergeRefIdeal.nD Cert.MergeRefIdeal.τ).loc Cert.MergeRefIdeal.main_arg17)
      ∧ r.2.mem ((c.tc : Thread Cert.MergeRefIdeal.nD Cert.MergeRefIdeal.τ).loc Cert.MergeRefIdeal.main_arg18) = m ((c.tc : Thread Cert.MergeRefIdeal.nD Cert.MergeRefIdeal.τ).loc Cert.MergeRefIdeal.main_arg18))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4)
      ∧ r.2.mem ((c.tc : Thread Cert.Gdn.nD Cert.Gdn.τ).loc Cert.Gdn.main_arg5) = m ((c.tc : Thread Cert.Gdn.nD Cert.Gdn.τ).loc Cert.Gdn.main_arg5)
      ∧ r.2.mem ((c.tc : Thread Cert.Gdn.nD Cert.Gdn.τ).loc Cert.Gdn.main_arg6) = m ((c.tc : Thread Cert.Gdn.nD Cert.Gdn.τ).loc Cert.Gdn.main_arg6)
      ∧ r.2.mem ((c.tc : Thread Cert.Gdn.nD Cert.Gdn.τ).loc Cert.Gdn.main_arg7) = m ((c.tc : Thread Cert.Gdn.nD Cert.Gdn.τ).loc Cert.Gdn.main_arg7)
      ∧ r.2.mem ((c.tc : Thread Cert.Gdn.nD Cert.Gdn.τ).loc Cert.Gdn.main_arg8) = m ((c.tc : Thread Cert.Gdn.nD Cert.Gdn.τ).loc Cert.Gdn.main_arg8)
      ∧ r.2.mem ((c.tc : Thread Cert.Gdn.nD Cert.Gdn.τ).loc Cert.Gdn.main_arg9) = m ((c.tc : Thread Cert.Gdn.nD Cert.Gdn.τ).loc Cert.Gdn.main_arg9)
      ∧ r.2.mem ((c.tc : Thread Cert.Gdn.nD Cert.Gdn.τ).loc Cert.Gdn.main_arg10) = m ((c.tc : Thread Cert.Gdn.nD Cert.Gdn.τ).loc Cert.Gdn.main_arg10)
      ∧ r.2.mem ((c.tc : Thread Cert.Gdn.nD Cert.Gdn.τ).loc Cert.Gdn.main_arg11) = m ((c.tc : Thread Cert.Gdn.nD Cert.Gdn.τ).loc Cert.Gdn.main_arg11)
      ∧ r.2.mem ((c.tc : Thread Cert.Gdn.nD Cert.Gdn.τ).loc Cert.Gdn.main_arg12) = m ((c.tc : Thread Cert.Gdn.nD Cert.Gdn.τ).loc Cert.Gdn.main_arg12)
      ∧ r.2.mem ((c.tc : Thread Cert.Gdn.nD Cert.Gdn.τ).loc Cert.Gdn.main_arg13) = m ((c.tc : Thread Cert.Gdn.nD Cert.Gdn.τ).loc Cert.Gdn.main_arg13))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4)
      ∧ r.2.mem ((c.tc : Thread Cert.GdnIdeal.nD Cert.GdnIdeal.τ).loc Cert.GdnIdeal.main_arg5) = m ((c.tc : Thread Cert.GdnIdeal.nD Cert.GdnIdeal.τ).loc Cert.GdnIdeal.main_arg5)
      ∧ r.2.mem ((c.tc : Thread Cert.GdnIdeal.nD Cert.GdnIdeal.τ).loc Cert.GdnIdeal.main_arg6) = m ((c.tc : Thread Cert.GdnIdeal.nD Cert.GdnIdeal.τ).loc Cert.GdnIdeal.main_arg6)
      ∧ r.2.mem ((c.tc : Thread Cert.GdnIdeal.nD Cert.GdnIdeal.τ).loc Cert.GdnIdeal.main_arg7) = m ((c.tc : Thread Cert.GdnIdeal.nD Cert.GdnIdeal.τ).loc Cert.GdnIdeal.main_arg7)
      ∧ r.2.mem ((c.tc : Thread Cert.GdnIdeal.nD Cert.GdnIdeal.τ).loc Cert.GdnIdeal.main_arg8) = m ((c.tc : Thread Cert.GdnIdeal.nD Cert.GdnIdeal.τ).loc Cert.GdnIdeal.main_arg8)
      ∧ r.2.mem ((c.tc : Thread Cert.GdnIdeal.nD Cert.GdnIdeal.τ).loc Cert.GdnIdeal.main_arg9) = m ((c.tc : Thread Cert.GdnIdeal.nD Cert.GdnIdeal.τ).loc Cert.GdnIdeal.main_arg9)
      ∧ r.2.mem ((c.tc : Thread Cert.GdnIdeal.nD Cert.GdnIdeal.τ).loc Cert.GdnIdeal.main_arg10) = m ((c.tc : Thread Cert.GdnIdeal.nD Cert.GdnIdeal.τ).loc Cert.GdnIdeal.main_arg10)
      ∧ r.2.mem ((c.tc : Thread Cert.GdnIdeal.nD Cert.GdnIdeal.τ).loc Cert.GdnIdeal.main_arg11) = m ((c.tc : Thread Cert.GdnIdeal.nD Cert.GdnIdeal.τ).loc Cert.GdnIdeal.main_arg11)
      ∧ r.2.mem ((c.tc : Thread Cert.GdnIdeal.nD Cert.GdnIdeal.τ).loc Cert.GdnIdeal.main_arg12) = m ((c.tc : Thread Cert.GdnIdeal.nD Cert.GdnIdeal.τ).loc Cert.GdnIdeal.main_arg12)
      ∧ r.2.mem ((c.tc : Thread Cert.GdnIdeal.nD Cert.GdnIdeal.τ).loc Cert.GdnIdeal.main_arg13) = m ((c.tc : Thread Cert.GdnIdeal.nD Cert.GdnIdeal.τ).loc Cert.GdnIdeal.main_arg13))
      ∧ r.2.sem = fun _ => 0)

def quiescent_Kin [hKin : Cert.Kin.Facts] : Prop :=
  ∀ (m : (ℓ : Loc Cert.Kin.nD Cert.Kin.τ Cert.Kin.sig) → Buf (Elt Bits) ℓ) (g : Dev Cert.Kin.nD → PrngReg), Pre_Kin m →
    θ_run (Cert.Kin.defs (F := Bits)) (onTc (τ := Cert.Kin.τ) (Cert.Kin.main (F := Bits))) ⟨m, fun _ => 0, g⟩ (fun r => (∀ c : Dev Cert.Kin.nD,
      r.2.mem ((c.tc : Thread Cert.Kin.nD Cert.Kin.τ).loc Cert.Kin.main_arg0) = m ((c.tc : Thread Cert.Kin.nD Cert.Kin.τ).loc Cert.Kin.main_arg0)
      ∧ r.2.mem ((c.tc : Thread Cert.Kin.nD Cert.Kin.τ).loc Cert.Kin.main_arg1) = m ((c.tc : Thread Cert.Kin.nD Cert.Kin.τ).loc Cert.Kin.main_arg1)
      ∧ r.2.mem ((c.tc : Thread Cert.Kin.nD Cert.Kin.τ).loc Cert.Kin.main_arg2) = m ((c.tc : Thread Cert.Kin.nD Cert.Kin.τ).loc Cert.Kin.main_arg2)
      ∧ r.2.mem ((c.tc : Thread Cert.Kin.nD Cert.Kin.τ).loc Cert.Kin.main_arg3) = m ((c.tc : Thread Cert.Kin.nD Cert.Kin.τ).loc Cert.Kin.main_arg3)
      ∧ r.2.mem ((c.tc : Thread Cert.Kin.nD Cert.Kin.τ).loc Cert.Kin.main_arg4) = m ((c.tc : Thread Cert.Kin.nD Cert.Kin.τ).loc Cert.Kin.main_arg4)
      ∧ r.2.mem ((c.tc : Thread Cert.Kin.nD Cert.Kin.τ).loc Cert.Kin.main_arg5) = m ((c.tc : Thread Cert.Kin.nD Cert.Kin.τ).loc Cert.Kin.main_arg5)
      ∧ r.2.mem ((c.tc : Thread Cert.Kin.nD Cert.Kin.τ).loc Cert.Kin.main_arg6) = m ((c.tc : Thread Cert.Kin.nD Cert.Kin.τ).loc Cert.Kin.main_arg6)
      ∧ r.2.mem ((c.tc : Thread Cert.Kin.nD Cert.Kin.τ).loc Cert.Kin.main_arg7) = m ((c.tc : Thread Cert.Kin.nD Cert.Kin.τ).loc Cert.Kin.main_arg7)
      ∧ r.2.mem ((c.tc : Thread Cert.Kin.nD Cert.Kin.τ).loc Cert.Kin.main_arg8) = m ((c.tc : Thread Cert.Kin.nD Cert.Kin.τ).loc Cert.Kin.main_arg8)
      ∧ r.2.mem ((c.tc : Thread Cert.Kin.nD Cert.Kin.τ).loc Cert.Kin.main_arg9) = m ((c.tc : Thread Cert.Kin.nD Cert.Kin.τ).loc Cert.Kin.main_arg9)
      ∧ r.2.mem ((c.tc : Thread Cert.Kin.nD Cert.Kin.τ).loc Cert.Kin.main_arg10) = m ((c.tc : Thread Cert.Kin.nD Cert.Kin.τ).loc Cert.Kin.main_arg10)
      ∧ r.2.mem ((c.tc : Thread Cert.Kin.nD Cert.Kin.τ).loc Cert.Kin.main_arg11) = m ((c.tc : Thread Cert.Kin.nD Cert.Kin.τ).loc Cert.Kin.main_arg11)
      ∧ r.2.mem ((c.tc : Thread Cert.Kin.nD Cert.Kin.τ).loc Cert.Kin.main_arg12) = m ((c.tc : Thread Cert.Kin.nD Cert.Kin.τ).loc Cert.Kin.main_arg12))
      ∧ r.2.sem = fun _ => 0)

def quiescent_KinIdeal [hKinIdeal : Cert.KinIdeal.Facts] : Prop :=
  ∀ (m : (ℓ : Loc Cert.KinIdeal.nD Cert.KinIdeal.τ Cert.KinIdeal.sig) → Buf (Elt Ideal) ℓ) (g : Dev Cert.KinIdeal.nD → PrngReg), Pre_KinIdeal m →
    θ_run (Cert.KinIdeal.defs (F := Ideal)) (onTc (τ := Cert.KinIdeal.τ) (Cert.KinIdeal.main (F := Ideal))) ⟨m, fun _ => 0, g⟩ (fun r => (∀ c : Dev Cert.KinIdeal.nD,
      r.2.mem ((c.tc : Thread Cert.KinIdeal.nD Cert.KinIdeal.τ).loc Cert.KinIdeal.main_arg0) = m ((c.tc : Thread Cert.KinIdeal.nD Cert.KinIdeal.τ).loc Cert.KinIdeal.main_arg0)
      ∧ r.2.mem ((c.tc : Thread Cert.KinIdeal.nD Cert.KinIdeal.τ).loc Cert.KinIdeal.main_arg1) = m ((c.tc : Thread Cert.KinIdeal.nD Cert.KinIdeal.τ).loc Cert.KinIdeal.main_arg1)
      ∧ r.2.mem ((c.tc : Thread Cert.KinIdeal.nD Cert.KinIdeal.τ).loc Cert.KinIdeal.main_arg2) = m ((c.tc : Thread Cert.KinIdeal.nD Cert.KinIdeal.τ).loc Cert.KinIdeal.main_arg2)
      ∧ r.2.mem ((c.tc : Thread Cert.KinIdeal.nD Cert.KinIdeal.τ).loc Cert.KinIdeal.main_arg3) = m ((c.tc : Thread Cert.KinIdeal.nD Cert.KinIdeal.τ).loc Cert.KinIdeal.main_arg3)
      ∧ r.2.mem ((c.tc : Thread Cert.KinIdeal.nD Cert.KinIdeal.τ).loc Cert.KinIdeal.main_arg4) = m ((c.tc : Thread Cert.KinIdeal.nD Cert.KinIdeal.τ).loc Cert.KinIdeal.main_arg4)
      ∧ r.2.mem ((c.tc : Thread Cert.KinIdeal.nD Cert.KinIdeal.τ).loc Cert.KinIdeal.main_arg5) = m ((c.tc : Thread Cert.KinIdeal.nD Cert.KinIdeal.τ).loc Cert.KinIdeal.main_arg5)
      ∧ r.2.mem ((c.tc : Thread Cert.KinIdeal.nD Cert.KinIdeal.τ).loc Cert.KinIdeal.main_arg6) = m ((c.tc : Thread Cert.KinIdeal.nD Cert.KinIdeal.τ).loc Cert.KinIdeal.main_arg6)
      ∧ r.2.mem ((c.tc : Thread Cert.KinIdeal.nD Cert.KinIdeal.τ).loc Cert.KinIdeal.main_arg7) = m ((c.tc : Thread Cert.KinIdeal.nD Cert.KinIdeal.τ).loc Cert.KinIdeal.main_arg7)
      ∧ r.2.mem ((c.tc : Thread Cert.KinIdeal.nD Cert.KinIdeal.τ).loc Cert.KinIdeal.main_arg8) = m ((c.tc : Thread Cert.KinIdeal.nD Cert.KinIdeal.τ).loc Cert.KinIdeal.main_arg8)
      ∧ r.2.mem ((c.tc : Thread Cert.KinIdeal.nD Cert.KinIdeal.τ).loc Cert.KinIdeal.main_arg9) = m ((c.tc : Thread Cert.KinIdeal.nD Cert.KinIdeal.τ).loc Cert.KinIdeal.main_arg9)
      ∧ r.2.mem ((c.tc : Thread Cert.KinIdeal.nD Cert.KinIdeal.τ).loc Cert.KinIdeal.main_arg10) = m ((c.tc : Thread Cert.KinIdeal.nD Cert.KinIdeal.τ).loc Cert.KinIdeal.main_arg10)
      ∧ r.2.mem ((c.tc : Thread Cert.KinIdeal.nD Cert.KinIdeal.τ).loc Cert.KinIdeal.main_arg11) = m ((c.tc : Thread Cert.KinIdeal.nD Cert.KinIdeal.τ).loc Cert.KinIdeal.main_arg11)
      ∧ r.2.mem ((c.tc : Thread Cert.KinIdeal.nD Cert.KinIdeal.τ).loc Cert.KinIdeal.main_arg12) = m ((c.tc : Thread Cert.KinIdeal.nD Cert.KinIdeal.τ).loc Cert.KinIdeal.main_arg12))
      ∧ r.2.sem = fun _ => 0)

def quiescent_KinRefIdeal [hKinRefIdeal : Cert.KinRefIdeal.Facts] : Prop :=
  ∀ (m : (ℓ : Loc Cert.KinRefIdeal.nD Cert.KinRefIdeal.τ Cert.KinRefIdeal.sig) → Buf (Elt Ideal) ℓ) (g : Dev Cert.KinRefIdeal.nD → PrngReg), Pre_KinRefIdeal m →
    θ_run (Cert.KinRefIdeal.defs (F := Ideal)) (onTc (τ := Cert.KinRefIdeal.τ) (Cert.KinRefIdeal.main (F := Ideal))) ⟨m, fun _ => 0, g⟩ (fun r => (∀ c : Dev Cert.KinRefIdeal.nD,
      r.2.mem ((c.tc : Thread Cert.KinRefIdeal.nD Cert.KinRefIdeal.τ).loc Cert.KinRefIdeal.main_arg0) = m ((c.tc : Thread Cert.KinRefIdeal.nD Cert.KinRefIdeal.τ).loc Cert.KinRefIdeal.main_arg0)
      ∧ r.2.mem ((c.tc : Thread Cert.KinRefIdeal.nD Cert.KinRefIdeal.τ).loc Cert.KinRefIdeal.main_arg1) = m ((c.tc : Thread Cert.KinRefIdeal.nD Cert.KinRefIdeal.τ).loc Cert.KinRefIdeal.main_arg1)
      ∧ r.2.mem ((c.tc : Thread Cert.KinRefIdeal.nD Cert.KinRefIdeal.τ).loc Cert.KinRefIdeal.main_arg2) = m ((c.tc : Thread Cert.KinRefIdeal.nD Cert.KinRefIdeal.τ).loc Cert.KinRefIdeal.main_arg2)
      ∧ r.2.mem ((c.tc : Thread Cert.KinRefIdeal.nD Cert.KinRefIdeal.τ).loc Cert.KinRefIdeal.main_arg3) = m ((c.tc : Thread Cert.KinRefIdeal.nD Cert.KinRefIdeal.τ).loc Cert.KinRefIdeal.main_arg3)
      ∧ r.2.mem ((c.tc : Thread Cert.KinRefIdeal.nD Cert.KinRefIdeal.τ).loc Cert.KinRefIdeal.main_arg4) = m ((c.tc : Thread Cert.KinRefIdeal.nD Cert.KinRefIdeal.τ).loc Cert.KinRefIdeal.main_arg4)
      ∧ r.2.mem ((c.tc : Thread Cert.KinRefIdeal.nD Cert.KinRefIdeal.τ).loc Cert.KinRefIdeal.main_arg5) = m ((c.tc : Thread Cert.KinRefIdeal.nD Cert.KinRefIdeal.τ).loc Cert.KinRefIdeal.main_arg5)
      ∧ r.2.mem ((c.tc : Thread Cert.KinRefIdeal.nD Cert.KinRefIdeal.τ).loc Cert.KinRefIdeal.main_arg6) = m ((c.tc : Thread Cert.KinRefIdeal.nD Cert.KinRefIdeal.τ).loc Cert.KinRefIdeal.main_arg6)
      ∧ r.2.mem ((c.tc : Thread Cert.KinRefIdeal.nD Cert.KinRefIdeal.τ).loc Cert.KinRefIdeal.main_arg7) = m ((c.tc : Thread Cert.KinRefIdeal.nD Cert.KinRefIdeal.τ).loc Cert.KinRefIdeal.main_arg7)
      ∧ r.2.mem ((c.tc : Thread Cert.KinRefIdeal.nD Cert.KinRefIdeal.τ).loc Cert.KinRefIdeal.main_arg8) = m ((c.tc : Thread Cert.KinRefIdeal.nD Cert.KinRefIdeal.τ).loc Cert.KinRefIdeal.main_arg8)
      ∧ r.2.mem ((c.tc : Thread Cert.KinRefIdeal.nD Cert.KinRefIdeal.τ).loc Cert.KinRefIdeal.main_arg9) = m ((c.tc : Thread Cert.KinRefIdeal.nD Cert.KinRefIdeal.τ).loc Cert.KinRefIdeal.main_arg9)
      ∧ r.2.mem ((c.tc : Thread Cert.KinRefIdeal.nD Cert.KinRefIdeal.τ).loc Cert.KinRefIdeal.main_arg10) = m ((c.tc : Thread Cert.KinRefIdeal.nD Cert.KinRefIdeal.τ).loc Cert.KinRefIdeal.main_arg10)
      ∧ r.2.mem ((c.tc : Thread Cert.KinRefIdeal.nD Cert.KinRefIdeal.τ).loc Cert.KinRefIdeal.main_arg11) = m ((c.tc : Thread Cert.KinRefIdeal.nD Cert.KinRefIdeal.τ).loc Cert.KinRefIdeal.main_arg11)
      ∧ r.2.mem ((c.tc : Thread Cert.KinRefIdeal.nD Cert.KinRefIdeal.τ).loc Cert.KinRefIdeal.main_arg12) = m ((c.tc : Thread Cert.KinRefIdeal.nD Cert.KinRefIdeal.τ).loc Cert.KinRefIdeal.main_arg12))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v47) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)) →
    ∃ (v0 : (c : Dev Cert.MidIdeal.nD) → Buf (Elt Ideal) ((c.tc : Thread Cert.MidIdeal.nD Cert.MidIdeal.τ).loc Cert.MidIdeal.main_v7)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v7) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v33) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6))

def preserves_Merge_MergeIdeal : Prop :=
  True

def algebraic_MergeIdeal_MergeRefIdeal_pre_branches_finite [hMergeIdeal : Cert.MergeIdeal.Facts] [hMergeRefIdeal : Cert.MergeRefIdeal.Facts] [hPre_branches_finite : Cert.Pre_branches_finite.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal_branches_finite m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)
      ∧ m' ((c.tc : Thread Cert.MergeRefIdeal.nD Cert.MergeRefIdeal.τ).loc Cert.MergeRefIdeal.main_arg17) = m ((c.tc : Thread Cert.MergeIdeal.nD Cert.MergeIdeal.τ).loc Cert.MergeIdeal.main_arg17)
      ∧ m' ((c.tc : Thread Cert.MergeRefIdeal.nD Cert.MergeRefIdeal.τ).loc Cert.MergeRefIdeal.main_arg18) = m ((c.tc : Thread Cert.MergeIdeal.nD Cert.MergeIdeal.τ).loc Cert.MergeIdeal.main_arg18)) →
    ∃ (v0 : (c : Dev Cert.MergeIdeal.nD) → Buf (Elt Ideal) ((c.tc : Thread Cert.MergeIdeal.nD Cert.MergeIdeal.τ).loc Cert.MergeIdeal.main_v29)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v29) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16)
          ∧ r.2.mem ((c.tc : Thread Cert.MergeIdeal.nD Cert.MergeIdeal.τ).loc Cert.MergeIdeal.main_arg17) = m ((c.tc : Thread Cert.MergeIdeal.nD Cert.MergeIdeal.τ).loc Cert.MergeIdeal.main_arg17)
          ∧ r.2.mem ((c.tc : Thread Cert.MergeIdeal.nD Cert.MergeIdeal.τ).loc Cert.MergeIdeal.main_arg18) = m ((c.tc : Thread Cert.MergeIdeal.nD Cert.MergeIdeal.τ).loc Cert.MergeIdeal.main_arg18))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v100) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16)
          ∧ r.2.mem ((c.tc : Thread Cert.MergeRefIdeal.nD Cert.MergeRefIdeal.τ).loc Cert.MergeRefIdeal.main_arg17) = m' ((c.tc : Thread Cert.MergeRefIdeal.nD Cert.MergeRefIdeal.τ).loc Cert.MergeRefIdeal.main_arg17)
          ∧ r.2.mem ((c.tc : Thread Cert.MergeRefIdeal.nD Cert.MergeRefIdeal.τ).loc Cert.MergeRefIdeal.main_arg18) = m' ((c.tc : Thread Cert.MergeRefIdeal.nD Cert.MergeRefIdeal.τ).loc Cert.MergeRefIdeal.main_arg18))

def preserves_Gdn_GdnIdeal : Prop :=
  True

def preserves_Kin_KinIdeal : Prop :=
  True

def algebraic_KinIdeal_KinRefIdeal [hKinIdeal : Cert.KinIdeal.Facts] [hKinRefIdeal : Cert.KinRefIdeal.Facts] : Prop :=
  ∀ (m : (ℓ : Loc Cert.KinIdeal.nD Cert.KinIdeal.τ Cert.KinIdeal.sig) → Buf (Elt Ideal) ℓ) (g : Dev Cert.KinIdeal.nD → PrngReg)
    (m' : (ℓ : Loc Cert.KinRefIdeal.nD Cert.KinRefIdeal.τ Cert.KinRefIdeal.sig) → Buf (Elt Ideal) ℓ) (g' : Dev Cert.KinRefIdeal.nD → PrngReg), Pre_KinIdeal m →
    (∀ c : Dev Cert.KinIdeal.nD,
      m' ((c.tc : Thread Cert.KinRefIdeal.nD Cert.KinRefIdeal.τ).loc Cert.KinRefIdeal.main_arg0) = m ((c.tc : Thread Cert.KinIdeal.nD Cert.KinIdeal.τ).loc Cert.KinIdeal.main_arg0)
      ∧ m' ((c.tc : Thread Cert.KinRefIdeal.nD Cert.KinRefIdeal.τ).loc Cert.KinRefIdeal.main_arg1) = m ((c.tc : Thread Cert.KinIdeal.nD Cert.KinIdeal.τ).loc Cert.KinIdeal.main_arg1)
      ∧ m' ((c.tc : Thread Cert.KinRefIdeal.nD Cert.KinRefIdeal.τ).loc Cert.KinRefIdeal.main_arg2) = m ((c.tc : Thread Cert.KinIdeal.nD Cert.KinIdeal.τ).loc Cert.KinIdeal.main_arg2)
      ∧ m' ((c.tc : Thread Cert.KinRefIdeal.nD Cert.KinRefIdeal.τ).loc Cert.KinRefIdeal.main_arg3) = m ((c.tc : Thread Cert.KinIdeal.nD Cert.KinIdeal.τ).loc Cert.KinIdeal.main_arg3)
      ∧ m' ((c.tc : Thread Cert.KinRefIdeal.nD Cert.KinRefIdeal.τ).loc Cert.KinRefIdeal.main_arg4) = m ((c.tc : Thread Cert.KinIdeal.nD Cert.KinIdeal.τ).loc Cert.KinIdeal.main_arg4)
      ∧ m' ((c.tc : Thread Cert.KinRefIdeal.nD Cert.KinRefIdeal.τ).loc Cert.KinRefIdeal.main_arg5) = m ((c.tc : Thread Cert.KinIdeal.nD Cert.KinIdeal.τ).loc Cert.KinIdeal.main_arg5)
      ∧ m' ((c.tc : Thread Cert.KinRefIdeal.nD Cert.KinRefIdeal.τ).loc Cert.KinRefIdeal.main_arg6) = m ((c.tc : Thread Cert.KinIdeal.nD Cert.KinIdeal.τ).loc Cert.KinIdeal.main_arg6)
      ∧ m' ((c.tc : Thread Cert.KinRefIdeal.nD Cert.KinRefIdeal.τ).loc Cert.KinRefIdeal.main_arg7) = m ((c.tc : Thread Cert.KinIdeal.nD Cert.KinIdeal.τ).loc Cert.KinIdeal.main_arg7)
      ∧ m' ((c.tc : Thread Cert.KinRefIdeal.nD Cert.KinRefIdeal.τ).loc Cert.KinRefIdeal.main_arg8) = m ((c.tc : Thread Cert.KinIdeal.nD Cert.KinIdeal.τ).loc Cert.KinIdeal.main_arg8)
      ∧ m' ((c.tc : Thread Cert.KinRefIdeal.nD Cert.KinRefIdeal.τ).loc Cert.KinRefIdeal.main_arg9) = m ((c.tc : Thread Cert.KinIdeal.nD Cert.KinIdeal.τ).loc Cert.KinIdeal.main_arg9)
      ∧ m' ((c.tc : Thread Cert.KinRefIdeal.nD Cert.KinRefIdeal.τ).loc Cert.KinRefIdeal.main_arg10) = m ((c.tc : Thread Cert.KinIdeal.nD Cert.KinIdeal.τ).loc Cert.KinIdeal.main_arg10)
      ∧ m' ((c.tc : Thread Cert.KinRefIdeal.nD Cert.KinRefIdeal.τ).loc Cert.KinRefIdeal.main_arg11) = m ((c.tc : Thread Cert.KinIdeal.nD Cert.KinIdeal.τ).loc Cert.KinIdeal.main_arg11)
      ∧ m' ((c.tc : Thread Cert.KinRefIdeal.nD Cert.KinRefIdeal.τ).loc Cert.KinRefIdeal.main_arg12) = m ((c.tc : Thread Cert.KinIdeal.nD Cert.KinIdeal.τ).loc Cert.KinIdeal.main_arg12)) →
    ∃ (v0 : (c : Dev Cert.KinIdeal.nD) → Buf (Elt Ideal) ((c.tc : Thread Cert.KinIdeal.nD Cert.KinIdeal.τ).loc Cert.KinIdeal.main_v26_0)) (v1 : (c : Dev Cert.KinIdeal.nD) → Buf (Elt Ideal) ((c.tc : Thread Cert.KinIdeal.nD Cert.KinIdeal.τ).loc Cert.KinIdeal.main_v26_1)) (v2 : (c : Dev Cert.KinIdeal.nD) → Buf (Elt Ideal) ((c.tc : Thread Cert.KinIdeal.nD Cert.KinIdeal.τ).loc Cert.KinIdeal.main_v26_2)) (v3 : (c : Dev Cert.KinIdeal.nD) → Buf (Elt Ideal) ((c.tc : Thread Cert.KinIdeal.nD Cert.KinIdeal.τ).loc Cert.KinIdeal.main_v26_3)) (v4 : (c : Dev Cert.KinIdeal.nD) → Buf (Elt Ideal) ((c.tc : Thread Cert.KinIdeal.nD Cert.KinIdeal.τ).loc Cert.KinIdeal.main_v26_4)) (v5 : (c : Dev Cert.KinIdeal.nD) → Buf (Elt Ideal) ((c.tc : Thread Cert.KinIdeal.nD Cert.KinIdeal.τ).loc Cert.KinIdeal.main_v26_5)) (v6 : (c : Dev Cert.KinIdeal.nD) → Buf (Elt Ideal) ((c.tc : Thread Cert.KinIdeal.nD Cert.KinIdeal.τ).loc Cert.KinIdeal.main_v26_6)),
      θ_run (Cert.KinIdeal.defs (F := Ideal)) (onTc (τ := Cert.KinIdeal.τ) (Cert.KinIdeal.main (F := Ideal))) ⟨m, fun _ => 0, g⟩ (fun r => ∀ c : Dev Cert.KinIdeal.nD,
          r.2.mem ((c.tc : Thread Cert.KinIdeal.nD Cert.KinIdeal.τ).loc Cert.KinIdeal.main_v26_0) = v0 c
          ∧ r.2.mem ((c.tc : Thread Cert.KinIdeal.nD Cert.KinIdeal.τ).loc Cert.KinIdeal.main_v26_1) = v1 c
          ∧ r.2.mem ((c.tc : Thread Cert.KinIdeal.nD Cert.KinIdeal.τ).loc Cert.KinIdeal.main_v26_2) = v2 c
          ∧ r.2.mem ((c.tc : Thread Cert.KinIdeal.nD Cert.KinIdeal.τ).loc Cert.KinIdeal.main_v26_3) = v3 c
          ∧ r.2.mem ((c.tc : Thread Cert.KinIdeal.nD Cert.KinIdeal.τ).loc Cert.KinIdeal.main_v26_4) = v4 c
          ∧ r.2.mem ((c.tc : Thread Cert.KinIdeal.nD Cert.KinIdeal.τ).loc Cert.KinIdeal.main_v26_5) = v5 c
          ∧ r.2.mem ((c.tc : Thread Cert.KinIdeal.nD Cert.KinIdeal.τ).loc Cert.KinIdeal.main_v26_6) = v6 c
          ∧ r.2.mem ((c.tc : Thread Cert.KinIdeal.nD Cert.KinIdeal.τ).loc Cert.KinIdeal.main_arg0) = m ((c.tc : Thread Cert.KinIdeal.nD Cert.KinIdeal.τ).loc Cert.KinIdeal.main_arg0)
          ∧ r.2.mem ((c.tc : Thread Cert.KinIdeal.nD Cert.KinIdeal.τ).loc Cert.KinIdeal.main_arg1) = m ((c.tc : Thread Cert.KinIdeal.nD Cert.KinIdeal.τ).loc Cert.KinIdeal.main_arg1)
          ∧ r.2.mem ((c.tc : Thread Cert.KinIdeal.nD Cert.KinIdeal.τ).loc Cert.KinIdeal.main_arg2) = m ((c.tc : Thread Cert.KinIdeal.nD Cert.KinIdeal.τ).loc Cert.KinIdeal.main_arg2)
          ∧ r.2.mem ((c.tc : Thread Cert.KinIdeal.nD Cert.KinIdeal.τ).loc Cert.KinIdeal.main_arg3) = m ((c.tc : Thread Cert.KinIdeal.nD Cert.KinIdeal.τ).loc Cert.KinIdeal.main_arg3)
          ∧ r.2.mem ((c.tc : Thread Cert.KinIdeal.nD Cert.KinIdeal.τ).loc Cert.KinIdeal.main_arg4) = m ((c.tc : Thread Cert.KinIdeal.nD Cert.KinIdeal.τ).loc Cert.KinIdeal.main_arg4)
          ∧ r.2.mem ((c.tc : Thread Cert.KinIdeal.nD Cert.KinIdeal.τ).loc Cert.KinIdeal.main_arg5) = m ((c.tc : Thread Cert.KinIdeal.nD Cert.KinIdeal.τ).loc Cert.KinIdeal.main_arg5)
          ∧ r.2.mem ((c.tc : Thread Cert.KinIdeal.nD Cert.KinIdeal.τ).loc Cert.KinIdeal.main_arg6) = m ((c.tc : Thread Cert.KinIdeal.nD Cert.KinIdeal.τ).loc Cert.KinIdeal.main_arg6)
          ∧ r.2.mem ((c.tc : Thread Cert.KinIdeal.nD Cert.KinIdeal.τ).loc Cert.KinIdeal.main_arg7) = m ((c.tc : Thread Cert.KinIdeal.nD Cert.KinIdeal.τ).loc Cert.KinIdeal.main_arg7)
          ∧ r.2.mem ((c.tc : Thread Cert.KinIdeal.nD Cert.KinIdeal.τ).loc Cert.KinIdeal.main_arg8) = m ((c.tc : Thread Cert.KinIdeal.nD Cert.KinIdeal.τ).loc Cert.KinIdeal.main_arg8)
          ∧ r.2.mem ((c.tc : Thread Cert.KinIdeal.nD Cert.KinIdeal.τ).loc Cert.KinIdeal.main_arg9) = m ((c.tc : Thread Cert.KinIdeal.nD Cert.KinIdeal.τ).loc Cert.KinIdeal.main_arg9)
          ∧ r.2.mem ((c.tc : Thread Cert.KinIdeal.nD Cert.KinIdeal.τ).loc Cert.KinIdeal.main_arg10) = m ((c.tc : Thread Cert.KinIdeal.nD Cert.KinIdeal.τ).loc Cert.KinIdeal.main_arg10)
          ∧ r.2.mem ((c.tc : Thread Cert.KinIdeal.nD Cert.KinIdeal.τ).loc Cert.KinIdeal.main_arg11) = m ((c.tc : Thread Cert.KinIdeal.nD Cert.KinIdeal.τ).loc Cert.KinIdeal.main_arg11)
          ∧ r.2.mem ((c.tc : Thread Cert.KinIdeal.nD Cert.KinIdeal.τ).loc Cert.KinIdeal.main_arg12) = m ((c.tc : Thread Cert.KinIdeal.nD Cert.KinIdeal.τ).loc Cert.KinIdeal.main_arg12))
      ∧ θ_run (Cert.KinRefIdeal.defs (F := Ideal)) (onTc (τ := Cert.KinRefIdeal.τ) (Cert.KinRefIdeal.main (F := Ideal))) ⟨m', fun _ => 0, g'⟩ (fun r => ∀ c : Dev Cert.KinRefIdeal.nD,
          r.2.mem ((c.tc : Thread Cert.KinRefIdeal.nD Cert.KinRefIdeal.τ).loc Cert.KinRefIdeal.main_v224) = v0 c
          ∧ r.2.mem ((c.tc : Thread Cert.KinRefIdeal.nD Cert.KinRefIdeal.τ).loc Cert.KinRefIdeal.main_v225) = v1 c
          ∧ r.2.mem ((c.tc : Thread Cert.KinRefIdeal.nD Cert.KinRefIdeal.τ).loc Cert.KinRefIdeal.main_v222) = v2 c
          ∧ r.2.mem ((c.tc : Thread Cert.KinRefIdeal.nD Cert.KinRefIdeal.τ).loc Cert.KinRefIdeal.main_v227) = v3 c
          ∧ r.2.mem ((c.tc : Thread Cert.KinRefIdeal.nD Cert.KinRefIdeal.τ).loc Cert.KinRefIdeal.main_v229) = v4 c
          ∧ r.2.mem ((c.tc : Thread Cert.KinRefIdeal.nD Cert.KinRefIdeal.τ).loc Cert.KinRefIdeal.main_v231) = v5 c
          ∧ r.2.mem ((c.tc : Thread Cert.KinRefIdeal.nD Cert.KinRefIdeal.τ).loc Cert.KinRefIdeal.main_v232) = v6 c
          ∧ r.2.mem ((c.tc : Thread Cert.KinRefIdeal.nD Cert.KinRefIdeal.τ).loc Cert.KinRefIdeal.main_arg0) = m' ((c.tc : Thread Cert.KinRefIdeal.nD Cert.KinRefIdeal.τ).loc Cert.KinRefIdeal.main_arg0)
          ∧ r.2.mem ((c.tc : Thread Cert.KinRefIdeal.nD Cert.KinRefIdeal.τ).loc Cert.KinRefIdeal.main_arg1) = m' ((c.tc : Thread Cert.KinRefIdeal.nD Cert.KinRefIdeal.τ).loc Cert.KinRefIdeal.main_arg1)
          ∧ r.2.mem ((c.tc : Thread Cert.KinRefIdeal.nD Cert.KinRefIdeal.τ).loc Cert.KinRefIdeal.main_arg2) = m' ((c.tc : Thread Cert.KinRefIdeal.nD Cert.KinRefIdeal.τ).loc Cert.KinRefIdeal.main_arg2)
          ∧ r.2.mem ((c.tc : Thread Cert.KinRefIdeal.nD Cert.KinRefIdeal.τ).loc Cert.KinRefIdeal.main_arg3) = m' ((c.tc : Thread Cert.KinRefIdeal.nD Cert.KinRefIdeal.τ).loc Cert.KinRefIdeal.main_arg3)
          ∧ r.2.mem ((c.tc : Thread Cert.KinRefIdeal.nD Cert.KinRefIdeal.τ).loc Cert.KinRefIdeal.main_arg4) = m' ((c.tc : Thread Cert.KinRefIdeal.nD Cert.KinRefIdeal.τ).loc Cert.KinRefIdeal.main_arg4)
          ∧ r.2.mem ((c.tc : Thread Cert.KinRefIdeal.nD Cert.KinRefIdeal.τ).loc Cert.KinRefIdeal.main_arg5) = m' ((c.tc : Thread Cert.KinRefIdeal.nD Cert.KinRefIdeal.τ).loc Cert.KinRefIdeal.main_arg5)
          ∧ r.2.mem ((c.tc : Thread Cert.KinRefIdeal.nD Cert.KinRefIdeal.τ).loc Cert.KinRefIdeal.main_arg6) = m' ((c.tc : Thread Cert.KinRefIdeal.nD Cert.KinRefIdeal.τ).loc Cert.KinRefIdeal.main_arg6)
          ∧ r.2.mem ((c.tc : Thread Cert.KinRefIdeal.nD Cert.KinRefIdeal.τ).loc Cert.KinRefIdeal.main_arg7) = m' ((c.tc : Thread Cert.KinRefIdeal.nD Cert.KinRefIdeal.τ).loc Cert.KinRefIdeal.main_arg7)
          ∧ r.2.mem ((c.tc : Thread Cert.KinRefIdeal.nD Cert.KinRefIdeal.τ).loc Cert.KinRefIdeal.main_arg8) = m' ((c.tc : Thread Cert.KinRefIdeal.nD Cert.KinRefIdeal.τ).loc Cert.KinRefIdeal.main_arg8)
          ∧ r.2.mem ((c.tc : Thread Cert.KinRefIdeal.nD Cert.KinRefIdeal.τ).loc Cert.KinRefIdeal.main_arg9) = m' ((c.tc : Thread Cert.KinRefIdeal.nD Cert.KinRefIdeal.τ).loc Cert.KinRefIdeal.main_arg9)
          ∧ r.2.mem ((c.tc : Thread Cert.KinRefIdeal.nD Cert.KinRefIdeal.τ).loc Cert.KinRefIdeal.main_arg10) = m' ((c.tc : Thread Cert.KinRefIdeal.nD Cert.KinRefIdeal.τ).loc Cert.KinRefIdeal.main_arg10)
          ∧ r.2.mem ((c.tc : Thread Cert.KinRefIdeal.nD Cert.KinRefIdeal.τ).loc Cert.KinRefIdeal.main_arg11) = m' ((c.tc : Thread Cert.KinRefIdeal.nD Cert.KinRefIdeal.τ).loc Cert.KinRefIdeal.main_arg11)
          ∧ r.2.mem ((c.tc : Thread Cert.KinRefIdeal.nD Cert.KinRefIdeal.τ).loc Cert.KinRefIdeal.main_arg12) = m' ((c.tc : Thread Cert.KinRefIdeal.nD Cert.KinRefIdeal.τ).loc Cert.KinRefIdeal.main_arg12))

def Claim : Prop :=
  ∃ (hFfn : Cert.Ffn.Facts) (hFfnIdeal : Cert.FfnIdeal.Facts) (hFfnRefIdeal : Cert.FfnRefIdeal.Facts) (hMid : Cert.Mid.Facts) (hMidIdeal : Cert.MidIdeal.Facts) (hMidRefIdeal : Cert.MidRefIdeal.Facts) (hMerge : Cert.Merge.Facts) (hMergeIdeal : Cert.MergeIdeal.Facts) (hMergeRefIdeal : Cert.MergeRefIdeal.Facts) (hGdn : Cert.Gdn.Facts) (hGdnIdeal : Cert.GdnIdeal.Facts) (hKin : Cert.Kin.Facts) (hKinIdeal : Cert.KinIdeal.Facts) (hKinRefIdeal : Cert.KinRefIdeal.Facts) (hPre_branches_finite : Cert.Pre_branches_finite.Facts),
    quiescent_Ffn (hFfn := hFfn)
    ∧ quiescent_FfnIdeal (hFfnIdeal := hFfnIdeal)
    ∧ quiescent_FfnRefIdeal (hFfnRefIdeal := hFfnRefIdeal)
    ∧ quiescent_Mid (hMid := hMid)
    ∧ quiescent_MidIdeal (hMidIdeal := hMidIdeal)
    ∧ quiescent_MidRefIdeal (hMidRefIdeal := hMidRefIdeal)
    ∧ quiescent_Merge (hMerge := hMerge)
    ∧ quiescent_MergeIdeal (hMergeIdeal := hMergeIdeal)
    ∧ quiescent_MergeIdeal_pre_branches_finite (hMergeIdeal := hMergeIdeal) (hPre_branches_finite := hPre_branches_finite)
    ∧ quiescent_MergeRefIdeal (hMergeRefIdeal := hMergeRefIdeal)
    ∧ quiescent_MergeRefIdeal_pre_branches_finite (hMergeRefIdeal := hMergeRefIdeal) (hPre_branches_finite := hPre_branches_finite)
    ∧ quiescent_Gdn (hGdn := hGdn)
    ∧ quiescent_GdnIdeal (hGdnIdeal := hGdnIdeal)
    ∧ quiescent_Kin (hKin := hKin)
    ∧ quiescent_KinIdeal (hKinIdeal := hKinIdeal)
    ∧ quiescent_KinRefIdeal (hKinRefIdeal := hKinRefIdeal)
    ∧ preserves_Ffn_FfnIdeal
    ∧ algebraic_FfnIdeal_FfnRefIdeal (hFfnIdeal := hFfnIdeal) (hFfnRefIdeal := hFfnRefIdeal)
    ∧ preserves_Mid_MidIdeal
    ∧ algebraic_MidIdeal_MidRefIdeal (hMidIdeal := hMidIdeal) (hMidRefIdeal := hMidRefIdeal)
    ∧ preserves_Merge_MergeIdeal
    ∧ algebraic_MergeIdeal_MergeRefIdeal_pre_branches_finite (hMergeIdeal := hMergeIdeal) (hMergeRefIdeal := hMergeRefIdeal) (hPre_branches_finite := hPre_branches_finite)
    ∧ preserves_Gdn_GdnIdeal
    ∧ preserves_Kin_KinIdeal
    ∧ algebraic_KinIdeal_KinRefIdeal (hKinIdeal := hKinIdeal) (hKinRefIdeal := hKinRefIdeal)
-- ==== Pre_branches_finite.lean ====
abbrev S32x2304x1024 : Shape := ⟨3, ![32, 2304, 1024]⟩
abbrev S32x1x6144 : Shape := ⟨3, ![32, 1, 6144]⟩
abbrev S6144 : Shape := ⟨1, ![6144]⟩
abbrev S32x2304x256 : Shape := ⟨3, ![32, 2304, 256]⟩
abbrev S256 : Shape := ⟨1, ![256]⟩
abbrev S256x256 : Shape := ⟨2, ![256, 256]⟩
abbrev S64 : Shape := ⟨1, ![64]⟩
abbrev S1024x4096 : Shape := ⟨2, ![1024, 4096]⟩
abbrev S4x256x1024 : Shape := ⟨3, ![4, 256, 1024]⟩
abbrev S1024x1024 : Shape := ⟨2, ![1024, 1024]⟩
abbrev S_ : Shape := ⟨0, ![]⟩

class Facts : Prop where
  bcast_S_S32x2304x256 : S_.BroadcastsInDim S32x2304x256 (![] : Fin 0 → Fin S32x2304x256.rank)
  reducesTo_S32x2304x256_S_d0_1_2 : S32x2304x256.ReducesTo [0, 1, 2] S_
  h_S_ : 0 < S_.numel
  bitsLt_bf16_f32 : FTy.bits .bf16 < FTy.bits .f32
  bcast_S_S256 : S_.BroadcastsInDim S256 (![] : Fin 0 → Fin S256.rank)
  reducesTo_S256_S_d0 : S256.ReducesTo [0] S_
  bcast_S_S64 : S_.BroadcastsInDim S64 (![] : Fin 0 → Fin S64.rank)
  reducesTo_S64_S_d0 : S64.ReducesTo [0] S_
  bcast_S_S4x256x1024 : S_.BroadcastsInDim S4x256x1024 (![] : Fin 0 → Fin S4x256x1024.rank)
  reducesTo_S4x256x1024_S_d0_1_2 : S4x256x1024.ReducesTo [0, 1, 2] S_

variable [Facts]

def fn_part3 {F : FTy → Type} [FloatOps F] (main_arg17 : FVec F S4x256x1024 .f32) (main_v48 : IVec S_ 1) (main_v51 : IVec S64 1) (main_c_17 : IVec S_ 1) : IVec S_ 1 :=
  let main_v52 : IVec S_ 1 := (fun x v => Host.reduce IntOp.andi x v reducesTo_S64_S_d0 h_S_) main_v51 main_c_17
  let main_v53 : IVec S_ 1 := andi main_v48 main_v52
  let main_v54 : FVec F S4x256x1024 .f32 := Host.absf main_arg17
  let main_cst_18 : FVec F S_ .f32 := constant S_ .f32 0x7F800000#32
  let main_v55 : FVec F S4x256x1024 .f32 := broadcastInDim S4x256x1024 ![] bcast_S_S4x256x1024 main_cst_18
  let main_v56 : IVec S4x256x1024 1 := cmpf .olt main_v54 main_v55
  let main_c_19 : IVec S_ 1 := constantI S_ 1 1#1
  let main_v57 : IVec S_ 1 := (fun x v => Host.reduce IntOp.andi x v reducesTo_S4x256x1024_S_d0_1_2 h_S_) main_v56 main_c_19
  let main_v58 : IVec S_ 1 := andi main_v53 main_v57
  main_v58

def fn_part2 {F : FTy → Type} [FloatOps F] (main_arg11 : FVec F S32x2304x256 .bf16) (main_arg12 : FVec F S256 .f32) (main_arg15 : FVec F S64 .f32) (main_arg17 : FVec F S4x256x1024 .f32) (main_v31 : IVec S_ 1) (main_v33 : FVec F S32x2304x256 .f32) (main_v34 : FVec F S32x2304x256 .f32) : IVec S_ 1 :=
  let main_v35 : IVec S32x2304x256 1 := cmpf .olt main_v33 main_v34
  let main_c_11 : IVec S_ 1 := constantI S_ 1 1#1
  let main_v36 : IVec S_ 1 := (fun x v => Host.reduce IntOp.andi x v reducesTo_S32x2304x256_S_d0_1_2 h_S_) main_v35 main_c_11
  let main_v37 : IVec S_ 1 := andi main_v31 main_v36
  let main_v38 : FVec F S32x2304x256 .f32 := (extf .f32 · bitsLt_bf16_f32) main_arg11
  let main_v39 : FVec F S32x2304x256 .f32 := Host.absf main_v38
  let main_cst_12 : FVec F S_ .f32 := constant S_ .f32 0x7F800000#32
  let main_v40 : FVec F S32x2304x256 .f32 := broadcastInDim S32x2304x256 ![] bcast_S_S32x2304x256 main_cst_12
  let main_v41 : IVec S32x2304x256 1 := cmpf .olt main_v39 main_v40
  let main_c_13 : IVec S_ 1 := constantI S_ 1 1#1
  let main_v42 : IVec S_ 1 := (fun x v => Host.reduce IntOp.andi x v reducesTo_S32x2304x256_S_d0_1_2 h_S_) main_v41 main_c_13
  let main_v43 : IVec S_ 1 := andi main_v37 main_v42
  let main_v44 : FVec F S256 .f32 := Host.absf main_arg12
  let main_cst_14 : FVec F S_ .f32 := constant S_ .f32 0x7F800000#32
  let main_v45 : FVec F S256 .f32 := broadcastInDim S256 ![] bcast_S_S256 main_cst_14
  let main_v46 : IVec S256 1 := cmpf .olt main_v44 main_v45
  let main_c_15 : IVec S_ 1 := constantI S_ 1 1#1
  let main_v47 : IVec S_ 1 := (fun x v => Host.reduce IntOp.andi x v reducesTo_S256_S_d0 h_S_) main_v46 main_c_15
  let main_v48 : IVec S_ 1 := andi main_v43 main_v47
  let main_v49 : FVec F S64 .f32 := Host.absf main_arg15
  let main_cst_16 : FVec F S_ .f32 := constant S_ .f32 0x7F800000#32
  let main_v50 : FVec F S64 .f32 := broadcastInDim S64 ![] bcast_S_S64 main_cst_16
  let main_v51 : IVec S64 1 := cmpf .olt main_v49 main_v50
  let main_c_17 : IVec S_ 1 := constantI S_ 1 1#1
  fn_part3 (F := F) main_arg17 main_v48 main_v51 main_c_17

def fn_part1 {F : FTy → Type} [FloatOps F] (main_arg8 : FVec F S32x2304x256 .bf16) (main_arg9 : FVec F S32x2304x256 .bf16) (main_arg10 : FVec F S32x2304x256 .bf16) (main_arg11 : FVec F S32x2304x256 .bf16) (main_arg12 : FVec F S256 .f32) (main_arg15 : FVec F S64 .f32) (main_arg17 : FVec F S4x256x1024 .f32) (main_v13 : IVec S_ 1) (main_v15 : FVec F S32x2304x256 .f32) (main_v16 : FVec F S32x2304x256 .f32) : IVec S_ 1 :=
  let main_v17 : IVec S32x2304x256 1 := cmpf .olt main_v15 main_v16
  let main_c_5 : IVec S_ 1 := constantI S_ 1 1#1
  let main_v18 : IVec S_ 1 := (fun x v => Host.reduce IntOp.andi x v reducesTo_S32x2304x256_S_d0_1_2 h_S_) main_v17 main_c_5
  let main_v19 : IVec S_ 1 := andi main_v13 main_v18
  let main_v20 : FVec F S32x2304x256 .f32 := (extf .f32 · bitsLt_bf16_f32) main_arg8
  let main_v21 : FVec F S32x2304x256 .f32 := Host.absf main_v20
  let main_cst_6 : FVec F S_ .f32 := constant S_ .f32 0x7F800000#32
  let main_v22 : FVec F S32x2304x256 .f32 := broadcastInDim S32x2304x256 ![] bcast_S_S32x2304x256 main_cst_6
  let main_v23 : IVec S32x2304x256 1 := cmpf .olt main_v21 main_v22
  let main_c_7 : IVec S_ 1 := constantI S_ 1 1#1
  let main_v24 : IVec S_ 1 := (fun x v => Host.reduce IntOp.andi x v reducesTo_S32x2304x256_S_d0_1_2 h_S_) main_v23 main_c_7
  let main_v25 : IVec S_ 1 := andi main_v19 main_v24
  let main_v26 : FVec F S32x2304x256 .f32 := (extf .f32 · bitsLt_bf16_f32) main_arg9
  let main_v27 : FVec F S32x2304x256 .f32 := Host.absf main_v26
  let main_cst_8 : FVec F S_ .f32 := constant S_ .f32 0x7F800000#32
  let main_v28 : FVec F S32x2304x256 .f32 := broadcastInDim S32x2304x256 ![] bcast_S_S32x2304x256 main_cst_8
  let main_v29 : IVec S32x2304x256 1 := cmpf .olt main_v27 main_v28
  let main_c_9 : IVec S_ 1 := constantI S_ 1 1#1
  let main_v30 : IVec S_ 1 := (fun x v => Host.reduce IntOp.andi x v reducesTo_S32x2304x256_S_d0_1_2 h_S_) main_v29 main_c_9
  let main_v31 : IVec S_ 1 := andi main_v25 main_v30
  let main_v32 : FVec F S32x2304x256 .f32 := (extf .f32 · bitsLt_bf16_f32) main_arg10
  let main_v33 : FVec F S32x2304x256 .f32 := Host.absf main_v32
  let main_cst_10 : FVec F S_ .f32 := constant S_ .f32 0x7F800000#32
  let main_v34 : FVec F S32x2304x256 .f32 := broadcastInDim S32x2304x256 ![] bcast_S_S32x2304x256 main_cst_10
  fn_part2 (F := F) main_arg11 main_arg12 main_arg15 main_arg17 main_v31 main_v33 main_v34

def fn {F : FTy → Type} [FloatOps F] (main_arg0 : FVec F S32x2304x1024 .f32) (main_arg1 : FVec F S32x1x6144 .f32) (main_arg2 : FVec F S6144 .f32) (main_arg3 : FVec F S32x2304x1024 .bf16) (main_arg4 : FVec F S32x2304x256 .f32) (main_arg5 : FVec F S32x2304x256 .f32) (main_arg6 : FVec F S32x2304x256 .f32) (main_arg7 : FVec F S32x2304x256 .bf16) (main_arg8 : FVec F S32x2304x256 .bf16) (main_arg9 : FVec F S32x2304x256 .bf16) (main_arg10 : FVec F S32x2304x256 .bf16) (main_arg11 : FVec F S32x2304x256 .bf16) (main_arg12 : FVec F S256 .f32) (main_arg13 : FVec F S256x256 .f32) (main_arg14 : FVec F S256 .f32) (main_arg15 : FVec F S64 .f32) (main_arg16 : FVec F S1024x4096 .f32) (main_arg17 : FVec F S4x256x1024 .f32) (main_arg18 : FVec F S1024x1024 .f32) : IVec S_ 1 :=
  let main_v0 : FVec F S32x2304x256 .f32 := Host.absf main_arg4
  let main_cst : FVec F S_ .f32 := constant S_ .f32 0x7F800000#32
  let main_v1 : FVec F S32x2304x256 .f32 := broadcastInDim S32x2304x256 ![] bcast_S_S32x2304x256 main_cst
  let main_v2 : IVec S32x2304x256 1 := cmpf .olt main_v0 main_v1
  let main_c : IVec S_ 1 := constantI S_ 1 1#1
  let main_v3 : IVec S_ 1 := (fun x v => Host.reduce IntOp.andi x v reducesTo_S32x2304x256_S_d0_1_2 h_S_) main_v2 main_c
  let main_v4 : FVec F S32x2304x256 .f32 := Host.absf main_arg5
  let main_cst_0 : FVec F S_ .f32 := constant S_ .f32 0x7F800000#32
  let main_v5 : FVec F S32x2304x256 .f32 := broadcastInDim S32x2304x256 ![] bcast_S_S32x2304x256 main_cst_0
  let main_v6 : IVec S32x2304x256 1 := cmpf .olt main_v4 main_v5
  let main_c_1 : IVec S_ 1 := constantI S_ 1 1#1
  let main_v7 : IVec S_ 1 := (fun x v => Host.reduce IntOp.andi x v reducesTo_S32x2304x256_S_d0_1_2 h_S_) main_v6 main_c_1
  let main_v8 : IVec S_ 1 := andi main_v3 main_v7
  let main_v9 : FVec F S32x2304x256 .f32 := Host.absf main_arg6
  let main_cst_2 : FVec F S_ .f32 := constant S_ .f32 0x7F800000#32
  let main_v10 : FVec F S32x2304x256 .f32 := broadcastInDim S32x2304x256 ![] bcast_S_S32x2304x256 main_cst_2
  let main_v11 : IVec S32x2304x256 1 := cmpf .olt main_v9 main_v10
  let main_c_3 : IVec S_ 1 := constantI S_ 1 1#1
  let main_v12 : IVec S_ 1 := (fun x v => Host.reduce IntOp.andi x v reducesTo_S32x2304x256_S_d0_1_2 h_S_) main_v11 main_c_3
  let main_v13 : IVec S_ 1 := andi main_v8 main_v12
  let main_v14 : FVec F S32x2304x256 .f32 := (extf .f32 · bitsLt_bf16_f32) main_arg7
  let main_v15 : FVec F S32x2304x256 .f32 := Host.absf main_v14
  let main_cst_4 : FVec F S_ .f32 := constant S_ .f32 0x7F800000#32
  let main_v16 : FVec F S32x2304x256 .f32 := broadcastInDim S32x2304x256 ![] bcast_S_S32x2304x256 main_cst_4
  fn_part1 (F := F) main_arg8 main_arg9 main_arg10 main_arg11 main_arg12 main_arg15 main_arg17 main_v13 main_v15 main_v16
-- ==== Ffn.lean ====
abbrev S32x2048x1024 : Shape := ⟨3, ![32, 2048, 1024]⟩
abbrev S36x1x6144 : Shape := ⟨3, ![36, 1, 6144]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S2x256x1024 : Shape := ⟨3, ![2, 256, 1024]⟩
abbrev S2x1x1024 : Shape := ⟨3, ![2, 1, 1024]⟩
abbrev S1x256x1024 : Shape := ⟨3, ![1, 256, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 11
  | .vmem => 14
  | .smem => 0
  | _ => 0

abbrev bufTy : (tb : Table) → Fin (tcTables nBuf tb) → BufTy
  | .hbm, ⟨0, _⟩ => ⟨S32x2048x1024, .f32⟩
  | .hbm, ⟨1, _⟩ => ⟨S36x1x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S1x1024, .f32⟩
  | .hbm, ⟨10, _⟩ => ⟨S32x2048x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x1x1024, .f32⟩
  | .local _ .vmem, ⟨3, _⟩ => ⟨S2x1x1024, .f32⟩
  | .local _ .vmem, ⟨4, _⟩ => ⟨S2x1x1024, .f32⟩
  | .local _ .vmem, ⟨5, _⟩ => ⟨S2x1x1024, .f32⟩
  | .local _ .vmem, ⟨6, _⟩ => ⟨S2x1x1024, .f32⟩
  | .local _ .vmem, ⟨7, _⟩ => ⟨S2x1x1024, .f32⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x1024, .f32⟩
  | .local _ .vmem, ⟨12, _⟩ => ⟨S2x256x1024, .f32⟩
  | .local _ .vmem, ⟨13, _⟩ => ⟨S2x256x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c16_i32 : BitVec 32 := 16#32
  let v1 : BitVec 32 := Scalar.select v0 arg0 c16_i32
  let c0_i32 : BitVec 32 := 0#32
  let c3_i32 : BitVec 32 := 3#32
  let c0_i32_0 : BitVec 32 := 0#32
  ![v1.toNat, c0_i32.toNat, c3_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c16_i32 : BitVec 32 := 16#32
  let v1 : BitVec 32 := Scalar.select v0 arg0 c16_i32
  let c0_i32 : BitVec 32 := 0#32
  let c4_i32 : BitVec 32 := 4#32
  let c0_i32_0 : BitVec 32 := 0#32
  ![v1.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c16_i32 : BitVec 32 := 16#32
  let v1 : BitVec 32 := Scalar.select v0 arg0 c16_i32
  let c0_i32 : BitVec 32 := 0#32
  let c5_i32 : BitVec 32 := 5#32
  let c0_i32_0 : BitVec 32 := 0#32
  ![v1.toNat, c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnRefIdeal.lean ====
abbrev S32x2048x1024 : Shape := ⟨3, ![32, 2048, 1024]⟩
abbrev S36x1x6144 : Shape := ⟨3, ![36, 1, 6144]⟩
abbrev S1024 : Shape := ⟨1, ![1024]⟩
abbrev S1024x5632 : Shape := ⟨2, ![1024, 5632]⟩
abbrev S2816x1024 : Shape := ⟨2, ![2816, 1024]⟩
abbrev S32x1x6144 : Shape := ⟨3, ![32, 1, 6144]⟩
abbrev S32x1x1024 : Shape := ⟨3, ![32, 1, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩

abbrev nBuf : Space → Nat
  | .hbm => 69
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S36x1x6144, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S32x1x6144, .f32⟩
  | .hbm, ⟨7, _⟩ => ⟨S32x1x1024, .f32⟩
  | .hbm, ⟨8, _⟩ => ⟨S32x1x1024, .f32⟩
  | .hbm, ⟨9, _⟩ => ⟨S32x1x1024, .f32⟩
  | .hbm, ⟨10, _⟩ => ⟨S32x1x1024, .f32⟩
  | .hbm, ⟨11, _⟩ => ⟨S32x1x1024, .f32⟩
  | .hbm, ⟨12, _⟩ => ⟨S32x1x1024, .f32⟩
  | .hbm, ⟨13, _⟩ => ⟨S32x2048x1024, .f32⟩
  | .hbm, ⟨14, _⟩ => ⟨S_, .f32⟩
  | .hbm, ⟨15, _⟩ => ⟨S32x2048, .f32⟩
  | .hbm, ⟨16, _⟩ => ⟨S32x2048x1, .f32⟩
  | .hbm, ⟨17, _⟩ => ⟨S_, .f32⟩
  | .hbm, ⟨18, _⟩ => ⟨S32x2048x1, .f32⟩
  | .hbm, ⟨19, _⟩ => ⟨S32x2048x1, .f32⟩
  | .hbm, ⟨20, _⟩ => ⟨S_, .f32⟩
  | .hbm, ⟨21, _⟩ => ⟨S32x2048x1, .f32⟩
  | .hbm, ⟨22, _⟩ => ⟨S32x2048x1, .f32⟩
  | .hbm, ⟨23, _⟩ => ⟨S32x2048x1, .f32⟩
  | .hbm, ⟨24, _⟩ => ⟨S32x2048x1024, .f32⟩
  | .hbm, ⟨25, _⟩ => ⟨S32x2048x1024, .f32⟩
  | .hbm, ⟨26, _⟩ => ⟨S1x1x1024, .f32⟩
  | .hbm, ⟨27, _⟩ => ⟨S32x2048x1024, .f32⟩
  | .hbm, ⟨28, _⟩ => ⟨S32x2048x1024, .f32⟩
  | .hbm, ⟨29, _⟩ => ⟨S_, .f32⟩
  | .hbm, ⟨30, _⟩ => ⟨S32x1x1024, .f32⟩
  | .hbm, ⟨31, _⟩ => ⟨S32x1x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S32x2048x1024, .f32⟩
  | .hbm, ⟨36, _⟩ => ⟨S32x2048x5632, .f32⟩
  | .hbm, ⟨37, _⟩ => ⟨S32x2048x2816, .f32⟩
  | .hbm, ⟨38, _⟩ => ⟨S32x2048x2816, .f32⟩
  | .hbm, ⟨39, _⟩ => ⟨S32x2048x2816, .f32⟩
  | .hbm, ⟨40, _⟩ => ⟨S32x2048x2816, .f32⟩
  | .hbm, ⟨41, _⟩ => ⟨S_, .f32⟩
  | .hbm, ⟨42, _⟩ => ⟨S32x2048x2816, .f32⟩
  | .hbm, ⟨43, _⟩ => ⟨S32x2048x2816, .f32⟩
  | .hbm, ⟨44, _⟩ => ⟨S_, .f32⟩
  | .hbm, ⟨45, _⟩ => ⟨S32x2048x2816, .f32⟩
  | .hbm, ⟨46, _⟩ => ⟨S32x2048x2816, .f32⟩
  | .hbm, ⟨47, _⟩ => ⟨S32x2048x2816, .f32⟩
  | .hbm, ⟨48, _⟩ => ⟨S32x2048x2816, .f32⟩
  | .hbm, ⟨49, _⟩ => ⟨S32x2048x1024, .f32⟩
  | .hbm, ⟨50, _⟩ => ⟨S32x2048x1024, .f32⟩
  | .hbm, ⟨51, _⟩ => ⟨S32x2048x1024, .f32⟩
  | .hbm, ⟨52, _⟩ => ⟨S32x2048x1024, .f32⟩
  | .hbm, ⟨53, _⟩ => ⟨S32x2048x1024, .f32⟩
  | .hbm, ⟨54, _⟩ => ⟨S_, .f32⟩
  | .hbm, ⟨55, _⟩ => ⟨S32x2048, .f32⟩
  | .hbm, ⟨56, _⟩ => ⟨S32x2048x1, .f32⟩
  | .hbm, ⟨57, _⟩ => ⟨S_, .f32⟩
  | .hbm, ⟨58, _⟩ => ⟨S32x2048x1, .f32⟩
  | .hbm, ⟨59, _⟩ => ⟨S32x2048x1, .f32⟩
  | .hbm, ⟨60, _⟩ => ⟨S_, .f32⟩
  | .hbm, ⟨61, _⟩ => ⟨S32x2048x1, .f32⟩
  | .hbm, ⟨62, _⟩ => ⟨S32x2048x1, .f32⟩
  | .hbm, ⟨63, _⟩ => ⟨S32x2048x1, .f32⟩
  | .hbm, ⟨64, _⟩ => ⟨S32x2048x1024, .f32⟩
  | .hbm, ⟨65, _⟩ => ⟨S32x2048x1024, .f32⟩
  | .hbm, ⟨66, _⟩ => ⟨S1x1x1024, .f32⟩
  | .hbm, ⟨67, _⟩ => ⟨S32x2048x1024, .f32⟩
  | .hbm, ⟨68, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_cst_4 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Mid.lean ====
abbrev S32x2304x1024 : Shape := ⟨3, ![32, 2304, 1024]⟩
abbrev S32x1x6144 : Shape := ⟨3, ![32, 1, 6144]⟩
abbrev S6144 : Shape := ⟨1, ![6144]⟩
abbrev S1024 : Shape := ⟨1, ![1024]⟩
abbrev S1024x5632 : Shape := ⟨2, ![1024, 5632]⟩
abbrev S2816x1024 : Shape := ⟨2, ![2816, 1024]⟩
abbrev S1x1x6144 : Shape := ⟨3, ![1, 1, 6144]⟩
abbrev S4x1x6144 : Shape := ⟨3, ![4, 1, 6144]⟩
abbrev S36x1x6144 : Shape := ⟨3, ![36, 1, 6144]⟩
abbrev S1x1024 : Shape := ⟨2, ![1, 1024]⟩
abbrev S2x256x1024 : Shape := ⟨3, ![2, 256, 1024]⟩
abbrev S2x1x1024 : Shape := ⟨3, ![2, 1, 1024]⟩
abbrev S1x256x1024 : Shape := ⟨3, ![1, 256, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S256x5632 : Shape := ⟨2, ![256, 5632]⟩
abbrev S256x2816 : Shape := ⟨2, ![256, 2816]⟩

abbrev nBuf : Space → Nat
  | .hbm => 15
  | .vmem => 14
  | .smem => 0
  | _ => 0

abbrev bufTy : (tb : Table) → Fin (tcTables nBuf tb) → BufTy
  | .hbm, ⟨0, _⟩ => ⟨S32x2304x1024, .f32⟩
  | .hbm, ⟨1, _⟩ => ⟨S32x1x6144, .f32⟩
  | .hbm, ⟨2, _⟩ => ⟨S6144, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S1x1x6144, .f32⟩
  | .hbm, ⟨8, _⟩ => ⟨S4x1x6144, .f32⟩
  | .hbm, ⟨9, _⟩ => ⟨S36x1x6144, .f32⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S1x1024, .f32⟩
  | .hbm, ⟨14, _⟩ => ⟨S32x2304x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x1x1024, .f32⟩
  | .local _ .vmem, ⟨3, _⟩ => ⟨S2x1x1024, .f32⟩
  | .local _ .vmem, ⟨4, _⟩ => ⟨S2x1x1024, .f32⟩
  | .local _ .vmem, ⟨5, _⟩ => ⟨S2x1x1024, .f32⟩
  | .local _ .vmem, ⟨6, _⟩ => ⟨S2x1x1024, .f32⟩
  | .local _ .vmem, ⟨7, _⟩ => ⟨S2x1x1024, .f32⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x1024, .f32⟩
  | .local _ .vmem, ⟨12, _⟩ => ⟨S2x256x1024, .f32⟩
  | .local _ .vmem, ⟨13, _⟩ => ⟨S2x256x1024, .f32⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c16_i32 : BitVec 32 := 16#32
  let v1 : BitVec 32 := Scalar.select v0 arg0 c16_i32
  let c0_i32 : BitVec 32 := 0#32
  let c3_i32 : BitVec 32 := 3#32
  let c0_i32_0 : BitVec 32 := 0#32
  ![v1.toNat, c0_i32.toNat, c3_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c16_i32 : BitVec 32 := 16#32
  let v1 : BitVec 32 := Scalar.select v0 arg0 c16_i32
  let c0_i32 : BitVec 32 := 0#32
  let c4_i32 : BitVec 32 := 4#32
  let c0_i32_0 : BitVec 32 := 0#32
  ![v1.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c16_i32 : BitVec 32 := 16#32
  let v1 : BitVec 32 := Scalar.select v0 arg0 c16_i32
  let c0_i32 : BitVec 32 := 0#32
  let c5_i32 : BitVec 32 := 5#32
  let c0_i32_0 : BitVec 32 := 0#32
  ![v1.toNat, c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MidRefIdeal.lean ====
abbrev S32x2304x1024 : Shape := ⟨3, ![32, 2304, 1024]⟩
abbrev S32x1x6144 : Shape := ⟨3, ![32, 1, 6144]⟩
abbrev S6144 : Shape := ⟨1, ![6144]⟩
abbrev S1024 : Shape := ⟨1, ![1024]⟩
abbrev S1024x5632 : Shape := ⟨2, ![1024, 5632]⟩
abbrev S2816x1024 : Shape := ⟨2, ![2816, 1024]⟩
abbrev S32x2048x6144 : Shape := ⟨3, ![32, 2048, 6144]⟩
abbrev S32x256x6144 : Shape := ⟨3, ![32, 256, 6144]⟩
abbrev S32x2304x6144 : Shape := ⟨3, ![32, 2304, 6144]⟩
abbrev S_ : Shape := ⟨0, ![]⟩
abbrev S32x2304 : Shape := ⟨2, ![32, 2304]⟩
abbrev S32x2304x1 : Shape := ⟨3, ![32, 2304, 1]⟩
abbrev S1x1x1024 : Shape := ⟨3, ![1, 1, 1024]⟩
abbrev S32x2304x5632 : Shape := ⟨3, ![32, 2304, 5632]⟩
abbrev S32x2304x2816 : Shape := ⟨3, ![32, 2304, 2816]⟩

abbrev nBuf : Space → Nat
  | .hbm => 53
  | .vmem => 0
  | .smem => 0
  | _ => 0

abbrev bufTy : (tb : Table) → Fin (tcTables nBuf tb) → BufTy
  | .hbm, ⟨0, _⟩ => ⟨S32x2304x1024, .f32⟩
  | .hbm, ⟨1, _⟩ => ⟨S32x1x6144, .f32⟩
  | .hbm, ⟨2, _⟩ => ⟨S6144, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S1024, .f32⟩
  | .hbm, ⟨7, _⟩ => ⟨S32x2048x6144, .f32⟩
  | .hbm, ⟨8, _⟩ => ⟨S32x256x6144, .f32⟩
  | .hbm, ⟨9, _⟩ => ⟨S32x2304x6144, .f32⟩
  | .hbm, ⟨10, _⟩ => ⟨S32x2304x1024, .f32⟩
  | .hbm, ⟨11, _⟩ => ⟨S32x2304x1024, .f32⟩
  | .hbm, ⟨12, _⟩ => ⟨S32x2304x1024, .f32⟩
  | .hbm, ⟨13, _⟩ => ⟨S32x2304x1024, .f32⟩
  | .hbm, ⟨14, _⟩ => ⟨S32x2304x1024, .f32⟩
  | .hbm, ⟨15, _⟩ => ⟨S32x2304x1024, .f32⟩
  | .hbm, ⟨16, _⟩ => ⟨S32x2304x1024, .f32⟩
  | .hbm, ⟨17, _⟩ => ⟨S_, .f32⟩
  | .hbm, ⟨18, _⟩ => ⟨S32x2304, .f32⟩
  | .hbm, ⟨19, _⟩ => ⟨S32x2304x1, .f32⟩
  | .hbm, ⟨20, _⟩ => ⟨S_, .f32⟩
  | .hbm, ⟨21, _⟩ => ⟨S32x2304x1, .f32⟩
  | .hbm, ⟨22, _⟩ => ⟨S32x2304x1, .f32⟩
  | .hbm, ⟨23, _⟩ => ⟨S_, .f32⟩
  | .hbm, ⟨24, _⟩ => ⟨S32x2304x1, .f32⟩
  | .hbm, ⟨25, _⟩ => ⟨S32x2304x1, .f32⟩
  | .hbm, ⟨26, _⟩ => ⟨S32x2304x1, .f32⟩
  | .hbm, ⟨27, _⟩ => ⟨S32x2304x1024, .f32⟩
  | .hbm, ⟨28, _⟩ => ⟨S32x2304x1024, .f32⟩
  | .hbm, ⟨29, _⟩ => ⟨S1x1x1024, .f32⟩
  | .hbm, ⟨30, _⟩ => ⟨S32x2304x1024, .f32⟩
  | .hbm, ⟨31, _⟩ => ⟨S32x2304x1024, .f32⟩
  | .hbm, ⟨32, _⟩ => ⟨S_, .f32⟩
  | .hbm, ⟨33, _⟩ => ⟨S32x2304x1024, .f32⟩
  | .hbm, ⟨34, _⟩ => ⟨S32x2304x1024, .f32⟩
  | .hbm, ⟨35, _⟩ => ⟨S32x2304x1024, .f32⟩
  | .hbm, ⟨36, _⟩ => ⟨S32x2304x1024, .f32⟩
  | .hbm, ⟨37, _⟩ => ⟨S32x2304x5632, .f32⟩
  | .hbm, ⟨38, _⟩ => ⟨S32x2304x2816, .f32⟩
  | .hbm, ⟨39, _⟩ => ⟨S32x2304x2816, .f32⟩
  | .hbm, ⟨40, _⟩ => ⟨S32x2304x2816, .f32⟩
  | .hbm, ⟨41, _⟩ => ⟨S32x2304x2816, .f32⟩
  | .hbm, ⟨42, _⟩ => ⟨S_, .f32⟩
  | .hbm, ⟨43, _⟩ => ⟨S32x2304x2816, .f32⟩
  | .hbm, ⟨44, _⟩ => ⟨S32x2304x2816, .f32⟩
  | .hbm, ⟨45, _⟩ => ⟨S_, .f32⟩
  | .hbm, ⟨46, _⟩ => ⟨S32x2304x2816, .f32⟩
  | .hbm, ⟨47, _⟩ => ⟨S32x2304x2816, .f32⟩
  | .hbm, ⟨48, _⟩ => ⟨S32x2304x2816, .f32⟩
  | .hbm, ⟨49, _⟩ => ⟨S32x2304x2816, .f32⟩
  | .hbm, ⟨50, _⟩ => ⟨S32x2304x1024, .f32⟩
  | .hbm, ⟨51, _⟩ => ⟨S32x2304x1024, .f32⟩
  | .hbm, ⟨52, _⟩ => ⟨S32x2304x1024, .f32⟩
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Merge.lean ====
abbrev S32x2304x1024 : Shape := ⟨3, ![32, 2304, 1024]⟩
abbrev S32x1x6144 : Shape := ⟨3, ![32, 1, 6144]⟩
abbrev S6144 : Shape := ⟨1, ![6144]⟩
abbrev S32x2304x256 : Shape := ⟨3, ![32, 2304, 256]⟩
abbrev S256 : Shape := ⟨1, ![256]⟩
abbrev S256x256 : Shape := ⟨2, ![256, 256]⟩
abbrev S64 : Shape := ⟨1, ![64]⟩
abbrev S1024x4096 : Shape := ⟨2, ![1024, 4096]⟩
abbrev S4x256x1024 : Shape := ⟨3, ![4, 256, 1024]⟩
abbrev S1024x1024 : Shape := ⟨2, ![1024, 1024]⟩
abbrev S_ : Shape := ⟨0, ![]⟩
abbrev S256x1 : Shape := ⟨2, ![256, 1]⟩
abbrev S1x256 : Shape := ⟨2, ![1, 256]⟩
abbrev S1x64 : Shape := ⟨2, ![1, 64]⟩
abbrev S4x64 : Shape := ⟨2, ![4, 64]⟩
abbrev S1x1x6144 : Shape := ⟨3, ![1, 1, 6144]⟩
abbrev S4x1x6144 : Shape := ⟨3, ![4, 1, 6144]⟩
abbrev S36x1x6144 : Shape := ⟨3, ![36, 1, 6144]⟩
abbrev S2x256x1024 : Shape := ⟨3, ![2, 256, 1024]⟩
abbrev S2x1x1024 : Shape := ⟨3, ![2, 1, 1024]⟩
abbrev S2x256x256 : Shape := ⟨3, ![2, 256, 256]⟩
abbrev S1x256x256 : Shape := ⟨3, ![1, 256, 256]⟩
abbrev S1x256x1024 : Shape := ⟨3, ![1, 256, 1024]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 53
  | .vmem => 32
  | .smem => 0
  | _ => 0

abbrev bufTy : (tb : Table) → Fin (tcTables nBuf tb) → BufTy
  | .hbm, ⟨0, _⟩ => ⟨S32x2304x1024, .f32⟩
  | .hbm, ⟨1, _⟩ => ⟨S32x1x6144, .f32⟩
  | .hbm, ⟨2, _⟩ => ⟨S6144, .f32⟩
  | .hbm, ⟨3, _⟩ => ⟨S32x2304x1024, .bf16⟩
  | .hbm, ⟨4, _⟩ => ⟨S32x2304x256, .f32⟩
  | .hbm, ⟨5, _⟩ => ⟨S32x2304x256, .f32⟩
  | .hbm, ⟨6, _⟩ => ⟨S32x2304x256, .f32⟩
  | .hbm, ⟨7, _⟩ => ⟨S32x2304x256, .bf16⟩
  | .hbm, ⟨8, _⟩ => ⟨S32x2304x256, .bf16⟩
  | .hbm, ⟨9, _⟩ => ⟨S32x2304x256, .bf16⟩
  | .hbm, ⟨10, _⟩ => ⟨S32x2304x256, .bf16⟩
  | .hbm, ⟨11, _⟩ => ⟨S32x2304x256, .bf16⟩
  | .hbm, ⟨12, _⟩ => ⟨S256, .f32⟩
  | .hbm, ⟨13, _⟩ => ⟨S256x256, .f32⟩
  | .hbm, ⟨14, _⟩ => ⟨S256, .f32⟩
  | .hbm, ⟨15, _⟩ => ⟨S64, .f32⟩
  | .hbm, ⟨16, _⟩ => ⟨S1024x4096, .f32⟩
  | .hbm, ⟨17, _⟩ => ⟨S4x256x1024, .f32⟩
  | .hbm, ⟨18, _⟩ => ⟨S1024x1024, .f32⟩
  | .hbm, ⟨19, _⟩ => ⟨S256, .i32⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256x1, .i32⟩
  | .hbm, ⟨24, _⟩ => ⟨S1x256, .i32⟩
  | .hbm, ⟨25, _⟩ => ⟨S256x256, .i32⟩
  | .hbm, ⟨26, _⟩ => ⟨S256x256, .i32⟩
  | .hbm, ⟨27, _⟩ => ⟨S256x256, .i1⟩
  | .hbm, ⟨28, _⟩ => ⟨S256x256, .f32⟩
  | .hbm, ⟨29, _⟩ => ⟨S_, .f32⟩
  | .hbm, ⟨30, _⟩ => ⟨S256x256, .f32⟩
  | .hbm, ⟨31, _⟩ => ⟨S256x256, .f32⟩
  | .hbm, ⟨32, _⟩ => ⟨S256x256, .bf16⟩
  | .hbm, ⟨33, _⟩ => ⟨S1x256, .f32⟩
  | .hbm, ⟨34, _⟩ => ⟨S256x256, .bf16⟩
  | .hbm, ⟨35, _⟩ => ⟨S1x256, .f32⟩
  | .hbm, ⟨36, _⟩ => ⟨S1x64, .f32⟩
  | .hbm, ⟨37, _⟩ => ⟨S4x64, .f32⟩
  | .hbm, ⟨38, _⟩ => ⟨S256, .f32⟩
  | .hbm, ⟨39, _⟩ => ⟨S1x256, .f32⟩
  | .hbm, ⟨40, _⟩ => ⟨S_, .f32⟩
  | .hbm, ⟨41, _⟩ => ⟨S1024x4096, .f32⟩
  | .hbm, ⟨42, _⟩ => ⟨S1024x4096, .f32⟩
  | .hbm, ⟨43, _⟩ => ⟨S1024x4096, .bf16⟩
  | .hbm, ⟨44, _⟩ => ⟨S_, .f32⟩
  | .hbm, ⟨45, _⟩ => ⟨S4x256x1024, .f32⟩
  | .hbm, ⟨46, _⟩ => ⟨S4x256x1024, .f32⟩
  | .hbm, ⟨47, _⟩ => ⟨S4x256x1024, .bf16⟩
  | .hbm, ⟨48, _⟩ => ⟨S1024x1024, .bf16⟩
  | .hbm, ⟨49, _⟩ => ⟨S1x1x6144, .f32⟩
  | .hbm, ⟨50, _⟩ => ⟨S4x1x6144, .f32⟩
  | .hbm, ⟨51, _⟩ => ⟨S36x1x6144, .f32⟩
  | .hbm, ⟨52, _⟩ => ⟨S32x2304x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .bf16⟩
  | .local _ .vmem, ⟨3, _⟩ => ⟨S2x256x1024, .bf16⟩
  | .local _ .vmem, ⟨4, _⟩ => ⟨S2x1x1024, .f32⟩
  | .local _ .vmem, ⟨5, _⟩ => ⟨S2x1x1024, .f32⟩
  | .local _ .vmem, ⟨6, _⟩ => ⟨S2x256x256, .f32⟩
  | .local _ .vmem, ⟨7, _⟩ => ⟨S2x256x256, .f32⟩
  | .local _ .vmem, ⟨8, _⟩ => ⟨S2x256x256, .f32⟩
  | .local _ .vmem, ⟨9, _⟩ => ⟨S2x256x256, .f32⟩
  | .local _ .vmem, ⟨10, _⟩ => ⟨S2x256x256, .f32⟩
  | .local _ .vmem, ⟨11, _⟩ => ⟨S2x256x256, .f32⟩
  | .local _ .vmem, ⟨12, _⟩ => ⟨S1x256, .f32⟩
  | .local _ .vmem, ⟨13, _⟩ => ⟨S256x256, .bf16⟩
  | .local _ .vmem, ⟨14, _⟩ => ⟨S1x256, .f32⟩
  | .local _ .vmem, ⟨15, _⟩ => ⟨S2x256x256, .bf16⟩
  | .local _ .vmem, ⟨16, _⟩ => ⟨S2x256x256, .bf16⟩
  | .local _ .vmem, ⟨17, _⟩ => ⟨S2x256x256, .bf16⟩
  | .local _ .vmem, ⟨18, _⟩ => ⟨S2x256x256, .bf16⟩
  | .local _ .vmem, ⟨19, _⟩ => ⟨S2x256x256, .bf16⟩
  | .local _ .vmem, ⟨20, _⟩ => ⟨S2x256x256, .bf16⟩
  | .local _ .vmem, ⟨21, _⟩ => ⟨S1x256, .f32⟩
  | .local _ .vmem, ⟨22, _⟩ => ⟨S256x256, .bf16⟩
  | .local _ .vmem, ⟨23, _⟩ => ⟨S2x256x256, .bf16⟩
  | .local _ .vmem, ⟨24, _⟩ => ⟨S2x256x256, .bf16⟩
  | .local _ .vmem, ⟨25, _⟩ => ⟨S2x256x256, .bf16⟩
  | .local _ .vmem, ⟨26, _⟩ => ⟨S2x256x256, .bf16⟩
  | .local _ .vmem, ⟨27, _⟩ => ⟨S1024x4096, .bf16⟩
  | .local _ .vmem, ⟨28, _⟩ => ⟨S4x256x1024, .bf16⟩
  | .local _ .vmem, ⟨29, _⟩ => ⟨S1024x1024, .bf16⟩
  | .local _ .vmem, ⟨30, _⟩ => ⟨S2x256x1024, .f32⟩
  | .local _ .vmem, ⟨31, _⟩ => ⟨S2x256x1024, .f32⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg19_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem19_1 : DmaSem sig := 31

abbrev nD : Nat := 1
abbrev τ : Topo := Topo.v7x

variable {F : FTy → Type} [FloatOps F]

abbrev grid0 : Pipeline.Grid := ⟨2, ![16, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c16_i32 : BitVec 32 := 16#32
  let v1 : BitVec 32 := Scalar.select v0 arg0 c16_i32
  let c0_i32 : BitVec 32 := 0#32
  let c2_i32 : BitVec 32 := 2#32
  let c0_i32_0 : BitVec 32 := 0#32
  ![v1.toNat, c0_i32.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2x256x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S2x256x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S2x256x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S1024x4096 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S4x256x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S2x256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MergeRefIdeal.lean ====
abbrev S32x2304x1024 : Shape := ⟨3, ![32, 2304, 1024]⟩
abbrev S32x1x6144 : Shape := ⟨3, ![32, 1, 6144]⟩
abbrev S6144 : Shape := ⟨1, ![6144]⟩
abbrev S32x2304x256 : Shape := ⟨3, ![32, 2304, 256]⟩
abbrev S256 : Shape := ⟨1, ![256]⟩
abbrev S256x256 : Shape := ⟨2, ![256, 256]⟩
abbrev S64 : Shape := ⟨1, ![64]⟩
abbrev S1024x4096 : Shape := ⟨2, ![1024, 4096]⟩
abbrev S4x256x1024 : Shape := ⟨3, ![4, 256, 1024]⟩
abbrev S1024x1024 : Shape := ⟨2, ![1024, 1024]⟩
abbrev S1x1x256 : Shape := ⟨3, ![1, 1, 256]⟩
abbrev S_ : Shape := ⟨0, ![]⟩
abbrev S32x2304x4x64 : Shape := ⟨4, ![32, 2304, 4, 64]⟩
abbrev S32x2304x4 : Shape := ⟨3, ![32, 2304, 4]⟩
abbrev S32x2304x4x1 : Shape := ⟨4, ![32, 2304, 4, 1]⟩
abbrev S1x1x1x64 : Shape := ⟨4, ![1, 1, 1, 64]⟩
abbrev S32x2304x4096 : Shape := ⟨3, ![32, 2304, 4096]⟩
abbrev S32x2304x4x1024 : Shape := ⟨4, ![32, 2304, 4, 1024]⟩
abbrev S32x2304x1x1024 : Shape := ⟨4, ![32, 2304, 1, 1024]⟩
abbrev S1x256x1024 : Shape := ⟨3, ![1, 256, 1024]⟩
abbrev S256x1024 : Shape := ⟨2, ![256, 1024]⟩
abbrev S32x2048x6144 : Shape := ⟨3, ![32, 2048, 6144]⟩
abbrev S32x256x6144 : Shape := ⟨3, ![32, 256, 6144]⟩
abbrev S32x2304x6144 : Shape := ⟨3, ![32, 2304, 6144]⟩

abbrev nBuf : Space → Nat
  | .hbm => 139
  | .vmem => 0
  | .smem => 0
  | _ => 0

abbrev hbmTy0_0 (i : Nat) : BufTy := match i % 128 with
  | 0 => ⟨S32x2304x1024, .f32⟩
  | 1 => ⟨S32x1x6144, .f32⟩
  | 2 => ⟨S6144, .f32⟩
  | 3 => ⟨S32x2304x1024, .bf16⟩
  | 4 => ⟨S32x2304x256, .f32⟩
  | 5 => ⟨S32x2304x256, .f32⟩
  | 6 => ⟨S32x2304x256, .f32⟩
  | 7 => ⟨S32x2304x256, .bf16⟩
  | 8 => ⟨S32x2304x256, .bf16⟩
  | 9 => ⟨S32x2304x256, .bf16⟩
  | 10 => ⟨S32x2304x256, .bf16⟩
  | 11 => ⟨S32x2304x256, .bf16⟩
  | 12 => ⟨S256, .f32⟩
  | 13 => ⟨S256x256, .f32⟩
  | 14 => ⟨S256, .f32⟩
  | 15 => ⟨S64, .f32⟩
  | 16 => ⟨S1024x4096, .f32⟩
  | 17 => ⟨S4x256x1024, .f32⟩
  | 18 => ⟨S1024x1024, .f32⟩
  | 19 => ⟨S32x2304x256, .f32⟩
  | 20 => ⟨S1x1x256, .f32⟩
  | 21 => ⟨S32x2304x256, .f32⟩
  | 22 => ⟨S32x2304x256, .f32⟩
  | 23 => ⟨S32x2304x256, .f32⟩
  | 24 => ⟨S32x2304x256, .f32⟩
  | 25 => ⟨S32x2304x256, .f32⟩
  | 26 => ⟨S_, .f32⟩
  | 27 => ⟨S32x2304x256, .f32⟩
  | 28 => ⟨S32x2304x256, .f32⟩
  | 29 => ⟨S32x2304x256, .f32⟩
  | 30 => ⟨S_, .f32⟩
  | 31 => ⟨S32x2304x256, .f32⟩
  | 32 => ⟨S32x2304x256, .f32⟩
  | 33 => ⟨S32x2304x256, .f32⟩
  | 34 => ⟨S_, .f32⟩
  | 35 => ⟨S32x2304x256, .f32⟩
  | 36 => ⟨S32x2304x256, .f32⟩
  | 37 => ⟨S_, .f32⟩
  | 38 => ⟨S32x2304x256, .f32⟩
  | 39 => ⟨S32x2304x256, .f32⟩
  | 40 => ⟨S32x2304x256, .f32⟩
  | 41 => ⟨S32x2304x256, .f32⟩
  | 42 => ⟨S1x1x256, .f32⟩
  | 43 => ⟨S32x2304x256, .f32⟩
  | 44 => ⟨S32x2304x256, .f32⟩
  | 45 => ⟨S32x2304x256, .f32⟩
  | 46 => ⟨S32x2304x256, .f32⟩
  | 47 => ⟨S_, .f32⟩
  | 48 => ⟨S32x2304x256, .f32⟩
  | 49 => ⟨S32x2304x256, .f32⟩
  | 50 => ⟨S_, .f32⟩
  | 51 => ⟨S32x2304x256, .f32⟩
  | 52 => ⟨S32x2304x256, .f32⟩
  | 53 => ⟨S32x2304x256, .f32⟩
  | 54 => ⟨S32x2304x256, .f32⟩
  | 55 => ⟨S32x2304x256, .f32⟩
  | 56 => ⟨S32x2304x256, .f32⟩
  | 57 => ⟨S32x2304x4x64, .f32⟩
  | 58 => ⟨S32x2304x256, .f32⟩
  | 59 => ⟨S32x2304x256, .f32⟩
  | 60 => ⟨S32x2304x256, .f32⟩
  | 61 => ⟨S_, .f32⟩
  | 62 => ⟨S32x2304x256, .f32⟩
  | 63 => ⟨S32x2304x256, .f32⟩
  | 64 => ⟨S_, .f32⟩
  | 65 => ⟨S32x2304x256, .f32⟩
  | 66 => ⟨S32x2304x256, .f32⟩
  | 67 => ⟨S32x2304x256, .f32⟩
  | 68 => ⟨S32x2304x4x64, .f32⟩
  | 69 => ⟨S32x2304x4x64, .f32⟩
  | 70 => ⟨S_, .f32⟩
  | 71 => ⟨S32x2304x4, .f32⟩
  | 72 => ⟨S32x2304x4x1, .f32⟩
  | 73 => ⟨S_, .f32⟩
  | 74 => ⟨S32x2304x4x1, .f32⟩
  | 75 => ⟨S32x2304x4x1, .f32⟩
  | 76 => ⟨S_, .f32⟩
  | 77 => ⟨S32x2304x4x1, .f32⟩
  | 78 => ⟨S32x2304x4x1, .f32⟩
  | 79 => ⟨S32x2304x4x1, .f32⟩
  | 80 => ⟨S32x2304x4x64, .f32⟩
  | 81 => ⟨S32x2304x4x64, .f32⟩
  | 82 => ⟨S1x1x1x64, .f32⟩
  | 83 => ⟨S32x2304x4x64, .f32⟩
  | 84 => ⟨S32x2304x4x64, .f32⟩
  | 85 => ⟨S32x2304x4x64, .f32⟩
  | 86 => ⟨S32x2304x256, .f32⟩
  | 87 => ⟨S32x2304x256, .f32⟩
  | 88 => ⟨S32x2304x256, .f32⟩
  | 89 => ⟨S32x2304x1024, .f32⟩
  | 90 => ⟨S32x2304x4096, .f32⟩
  | 91 => ⟨S32x2304x4096, .f32⟩
  | 92 => ⟨S32x2304x4096, .f32⟩
  | 93 => ⟨S_, .f32⟩
  | 94 => ⟨S32x2304x4096, .f32⟩
  | 95 => ⟨S32x2304x4096, .f32⟩
  | 96 => ⟨S_, .f32⟩
  | 97 => ⟨S32x2304x4096, .f32⟩
  | 98 => ⟨S32x2304x4096, .f32⟩
  | 99 => ⟨S32x2304x4x1024, .f32⟩
  | 100 => ⟨S32x2304x1x1024, .f32⟩
  | 101 => ⟨S32x2304x1024, .f32⟩
  | 102 => ⟨S1x256x1024, .f32⟩
  | 103 => ⟨S256x1024, .f32⟩
  | 104 => ⟨S32x2304x1024, .f32⟩
  | 105 => ⟨S32x2304x1024, .f32⟩
  | 106 => ⟨S32x2304x1x1024, .f32⟩
  | 107 => ⟨S32x2304x1024, .f32⟩
  | 108 => ⟨S1x256x1024, .f32⟩
  | 109 => ⟨S256x1024, .f32⟩
  | 110 => ⟨S32x2304x1024, .f32⟩
  | 111 => ⟨S32x2304x1024, .f32⟩
  | 112 => ⟨S32x2304x1024, .f32⟩
  | 113 => ⟨S32x2304x1x1024, .f32⟩
  | 114 => ⟨S32x2304x1024, .f32⟩
  | 115 => ⟨S1x256x1024, .f32⟩
  | 116 => ⟨S256x1024, .f32⟩
  | 117 => ⟨S32x2304x1024, .f32⟩
  | 118 => ⟨S32x2304x1024, .f32⟩
  | 119 => ⟨S32x2304x1024, .f32⟩
  | 120 => ⟨S32x2304x1x1024, .f32⟩
  | 121 => ⟨S32x2304x1024, .f32⟩
  | 122 => ⟨S1x256x1024, .f32⟩
  | 123 => ⟨S256x1024, .f32⟩
  | 124 => ⟨S32x2304x1024, .f32⟩
  | 125 => ⟨S32x2304x1024, .f32⟩
  | 126 => ⟨S32x2304x1024, .f32⟩
  | 127 => ⟨S32x2048x6144, .f32⟩
  | _ => ⟨S32x2304x1024, .f32⟩

abbrev hbmTy0_1 (i : Nat) : BufTy := match i % 128 with
  | 0 => ⟨S32x256x6144, .f32⟩
  | 1 => ⟨S32x2304x6144, .f32⟩
  | 2 => ⟨S32x2304x1024, .f32⟩
  | 3 => ⟨S32x2304x1024, .f32⟩
  | 4 => ⟨S32x2304x1024, .f32⟩
  | 5 => ⟨S32x2304x1024, .f32⟩
  | 6 => ⟨S32x2304x1024, .f32⟩
  | 7 => ⟨S32x2304x1024, .f32⟩
  | 8 => ⟨S32x2304x1024, .f32⟩
  | 9 => ⟨S32x2304x1024, .f32⟩
  | 10 => ⟨S32x2304x1024, .f32⟩
  | _ => ⟨S32x2304x1024, .f32⟩

abbrev hbmTy (i : Nat) : BufTy := match i / 128 with
  | 0 => hbmTy0_0 i
  | 1 => hbmTy0_1 i
  | _ => ⟨S32x2304x1024, .f32⟩

abbrev bufTy : (tb : Table) → Fin (tcTables nBuf tb) → BufTy
  | .hbm, ⟨i, _⟩ => hbmTy i
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_1 : Ref sig .tc := ⟨.hbm, 34, rfl⟩
abbrev main_v13 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_3 : Ref sig .tc := ⟨.hbm, 47, rfl⟩
abbrev main_v24 : Ref sig .tc := ⟨.hbm, 48, rfl⟩
abbrev main_v25 : Ref sig .tc := ⟨.hbm, 49, rfl⟩
abbrev main_cst_4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_call0_v5 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_5 : Ref sig .tc := ⟨.hbm, 70, rfl⟩
abbrev main_v37 : Ref sig .tc := ⟨.hbm, 71, rfl⟩
abbrev main_v38 : Ref sig .tc := ⟨.hbm, 72, rfl⟩
abbrev main_cst_6 : Ref sig .tc := ⟨.hbm, 73, rfl⟩
abbrev main_v39 : Ref sig .tc := ⟨.hbm, 74, rfl⟩
abbrev main_v40 : Ref sig .tc := ⟨.hbm, 75, rfl⟩
abbrev main_cst_7 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_cst_8 : Ref sig .tc := ⟨.hbm, 93, rfl⟩
abbrev main_v57 : Ref sig .tc := ⟨.hbm, 94, rfl⟩
abbrev main_v58 : Ref sig .tc := ⟨.hbm, 95, rfl⟩
abbrev main_cst_9 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩

abbrev nD : Nat := 1
abbrev τ : Topo := Topo.v7x

variable {F : FTy → Type} [FloatOps F]
-- ==== Gdn.lean ====
abbrev S32x2304x768 : Shape := ⟨3, ![32, 2304, 768]⟩
abbrev S32x2304x128 : Shape := ⟨3, ![32, 2304, 128]⟩
abbrev S128x512 : Shape := ⟨2, ![128, 512]⟩
abbrev S3x64x256 : Shape := ⟨3, ![3, 64, 256]⟩
abbrev S64x64 : Shape := ⟨2, ![64, 64]⟩
abbrev S4x64x256 : Shape := ⟨3, ![4, 64, 256]⟩
abbrev S3x256x256 : Shape := ⟨3, ![3, 256, 256]⟩
abbrev S256x256 : Shape := ⟨2, ![256, 256]⟩
abbrev S256x512 : Shape := ⟨2, ![256, 512]⟩
abbrev S32x2304x256 : Shape := ⟨3, ![32, 2304, 256]⟩
abbrev S16x64x768 : Shape := ⟨3, ![16, 64, 768]⟩
abbrev S16x64x128 : Shape := ⟨3, ![16, 64, 128]⟩
abbrev S16x64x256 : Shape := ⟨3, ![16, 64, 256]⟩
abbrev S16x2x256x256 : Shape := ⟨4, ![16, 2, 256, 256]⟩
abbrev S1x64x768 : Shape := ⟨3, ![1, 64, 768]⟩
abbrev S64x768 : Shape := ⟨2, ![64, 768]⟩
abbrev S1x64x128 : Shape := ⟨3, ![1, 64, 128]⟩
abbrev S64x128 : Shape := ⟨2, ![64, 128]⟩
abbrev S64x256 : Shape := ⟨2, ![64, 256]⟩
abbrev S128x128 : Shape := ⟨2, ![128, 128]⟩
abbrev S64x512 : Shape := ⟨2, ![64, 512]⟩
abbrev S1x64x256 : Shape := ⟨3, ![1, 64, 256]⟩
abbrev S256 : Shape := ⟨1, ![256]⟩
abbrev S1x256 : Shape := ⟨2, ![1, 256]⟩
abbrev S128x256 : Shape := ⟨2, ![128, 256]⟩
abbrev S1x256x256 : Shape := ⟨3, ![1, 256, 256]⟩
abbrev S1x1x256x256 : Shape := ⟨4, ![1, 1, 256, 256]⟩

abbrev nBuf : Space → Nat
  | .hbm => 16
  | .vmem => 25
  | .smem => 0
  | _ => 0

abbrev bufTy : (tb : Table) → Fin (tcTables nBuf tb) → BufTy
  | .hbm, ⟨0, _⟩ => ⟨S32x2304x768, .bf16⟩
  | .hbm, ⟨1, _⟩ => ⟨S32x2304x128, .f32⟩
  | .hbm, ⟨2, _⟩ => ⟨S128x512, .bf16⟩
  | .hbm, ⟨3, _⟩ => ⟨S128x512, .bf16⟩
  | .hbm, ⟨4, _⟩ => ⟨S3x64x256, .f32⟩
  | .hbm, ⟨5, _⟩ => ⟨S3x64x256, .f32⟩
  | .hbm, ⟨6, _⟩ => ⟨S64x64, .bf16⟩
  | .hbm, ⟨7, _⟩ => ⟨S64x64, .bf16⟩
  | .hbm, ⟨8, _⟩ => ⟨S4x64x256, .f32⟩
  | .hbm, ⟨9, _⟩ => ⟨S4x64x256, .f32⟩
  | .hbm, ⟨10, _⟩ => ⟨S3x256x256, .bf16⟩
  | .hbm, ⟨11, _⟩ => ⟨S3x256x256, .bf16⟩
  | .hbm, ⟨12, _⟩ => ⟨S256x256, .f32⟩
  | .hbm, ⟨13, _⟩ => ⟨S256x512, .bf16⟩
  | .hbm, ⟨14, _⟩ => ⟨S32x2304x256, .bf16⟩
  | .hbm, ⟨15, _⟩ => ⟨S32x2304x256, .bf16⟩
  | .local _ .vmem, ⟨0, _⟩ => ⟨S16x64x768, .bf16⟩
  | .local _ .vmem, ⟨1, _⟩ => ⟨S16x64x768, .bf16⟩
  | .local _ .vmem, ⟨2, _⟩ => ⟨S16x64x768, .bf16⟩
  | .local _ .vmem, ⟨3, _⟩ => ⟨S16x64x768, .bf16⟩
  | .local _ .vmem, ⟨4, _⟩ => ⟨S16x64x128, .f32⟩
  | .local _ .vmem, ⟨5, _⟩ => ⟨S16x64x128, .f32⟩
  | .local _ .vmem, ⟨6, _⟩ => ⟨S16x64x128, .f32⟩
  | .local _ .vmem, ⟨7, _⟩ => ⟨S16x64x128, .f32⟩
  | .local _ .vmem, ⟨8, _⟩ => ⟨S128x512, .bf16⟩
  | .local _ .vmem, ⟨9, _⟩ => ⟨S128x512, .bf16⟩
  | .local _ .vmem, ⟨10, _⟩ => ⟨S3x64x256, .f32⟩
  | .local _ .vmem, ⟨11, _⟩ => ⟨S3x64x256, .f32⟩
  | .local _ .vmem, ⟨12, _⟩ => ⟨S64x64, .bf16⟩
  | .local _ .vmem, ⟨13, _⟩ => ⟨S64x64, .bf16⟩
  | .local _ .vmem, ⟨14, _⟩ => ⟨S4x64x256, .f32⟩
  | .local _ .vmem, ⟨15, _⟩ => ⟨S4x64x256, .f32⟩
  | .local _ .vmem, ⟨16, _⟩ => ⟨S3x256x256, .bf16⟩
  | .local _ .vmem, ⟨17, _⟩ => ⟨S3x256x256, .bf16⟩
  | .local _ .vmem, ⟨18, _⟩ => ⟨S256x256, .f32⟩
  | .local _ .vmem, ⟨19, _⟩ => ⟨S256x512, .bf16⟩
  | .local _ .vmem, ⟨20, _⟩ => ⟨S16x64x256, .bf16⟩
  | .local _ .vmem, ⟨21, _⟩ => ⟨S16x64x256, .bf16⟩
  | .local _ .vmem, ⟨22, _⟩ => ⟨S16x64x256, .bf16⟩
  | .local _ .vmem, ⟨23, _⟩ => ⟨S16x64x256, .bf16⟩
  | .local _ .vmem, ⟨24, _⟩ => ⟨S16x2x256x256, .f32⟩
  | _, _ => ⟨S32x2304x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨2, ![2, 36], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c36_i32 : BitVec 32 := 36#32
  let c0_i32 : BitVec 32 := 0#32
  let v1 : BitVec 1 := Scalar.cmpi .eq c36_i32 c0_i32
  let c1_i32 : BitVec 32 := 1#32
  let v2 : BitVec 32 := Scalar.select v1 c1_i32 c36_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![arg0.toNat, v10.toNat, c0_i32_3.toNat]

def cc0_transform_1 (i : grid0.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c36_i32 : BitVec 32 := 36#32
  let c0_i32 : BitVec 32 := 0#32
  let v1 : BitVec 1 := Scalar.cmpi .eq c36_i32 c0_i32
  let c1_i32 : BitVec 32 := 1#32
  let v2 : BitVec 32 := Scalar.select v1 c1_i32 c36_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![arg0.toNat, v10.toNat, c0_i32_3.toNat]

def cc0_transform_3 (i : grid0.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let c0_i32_0 : BitVec 32 := 0#32
  ![arg0.toNat, v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi arg1 c32_i32
  let c36_i32 : BitVec 32 := 36#32
  let c0_i32 : BitVec 32 := 0#32
  let v1 : BitVec 1 := Scalar.cmpi .eq c36_i32 c0_i32
  let c1_i32 : BitVec 32 := 1#32
  let v2 : BitVec 32 := Scalar.select v1 c1_i32 c36_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c0_i32_3 : BitVec 32 := 0#32
  let c0_i32_4 : BitVec 32 := 0#32
  ![arg0.toNat, v10.toNat, c0_i32_3.toNat]

def cc0_transform_17 (i : grid0.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.subi c35_i32 arg1
  let c0_i32 : BitVec 32 := 0#32
  let c0_i32_0 : BitVec 32 := 0#32
  ![arg0.toNat, v0.toNat, c0_i32.toNat]

abbrev stage0_0 : Fin 2 → Memref sig .tc .vmem S16x64x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x64x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x64x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x64x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3x256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S256x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S16x64x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S16x64x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Kin.lean ====
abbrev S32x2304x1024 : Shape := ⟨3, ![32, 2304, 1024]⟩
abbrev S32x1x6144 : Shape := ⟨3, ![32, 1, 6144]⟩
abbrev S6144 : Shape := ⟨1, ![6144]⟩
abbrev S1024 : Shape := ⟨1, ![1024]⟩
abbrev S1024x256 : Shape := ⟨2, ![1024, 256]⟩
abbrev S1024x768 : Shape := ⟨2, ![1024, 768]⟩
abbrev S1024x128 : Shape := ⟨2, ![1024, 128]⟩
abbrev S1024x512 : Shape := ⟨2, ![1024, 512]⟩
abbrev S3x256x3 : Shape := ⟨3, ![3, 256, 3]⟩
abbrev S8 : Shape := ⟨1, ![8]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S3x3x256 : Shape := ⟨3, ![3, 3, 256]⟩
abbrev S3x768 : Shape := ⟨2, ![3, 768]⟩
abbrev S1x120 : Shape := ⟨2, ![1, 120]⟩
abbrev S1x8 : Shape := ⟨2, ![1, 8]⟩
abbrev S1x128 : Shape := ⟨2, ![1, 128]⟩
abbrev S1x1x6144 : Shape := ⟨3, ![1, 1, 6144]⟩
abbrev S4x1x6144 : Shape := ⟨3, ![4, 1, 6144]⟩
abbrev S36x1x6144 : Shape := ⟨3, ![36, 1, 6144]⟩
abbrev S1x1024 : Shape := ⟨2, ![1, 1024]⟩
abbrev S32x2304x256 : Shape := ⟨3, ![32, 2304, 256]⟩
abbrev S32x2304x768 : Shape := ⟨3, ![32, 2304, 768]⟩
abbrev S32x2304x128 : Shape := ⟨3, ![32, 2304, 128]⟩
abbrev S32x2304x512 : Shape := ⟨3, ![32, 2304, 512]⟩
abbrev S4x256x1024 : Shape := ⟨3, ![4, 256, 1024]⟩
abbrev S4x8x1024 : Shape := ⟨3, ![4, 8, 1024]⟩
abbrev S4x1x1024 : Shape := ⟨3, ![4, 1, 1024]⟩
abbrev S4x256x256 : Shape := ⟨3, ![4, 256, 256]⟩
abbrev S4x256x768 : Shape := ⟨3, ![4, 256, 768]⟩
abbrev S4x256x128 : Shape := ⟨3, ![4, 256, 128]⟩
abbrev S4x256x512 : Shape := ⟨3, ![4, 256, 512]⟩
abbrev S1x256x1024 : Shape := ⟨3, ![1, 256, 1024]⟩
abbrev S256x1024 : Shape := ⟨2, ![256, 1024]⟩
abbrev S1x1x1024 : Shape := ⟨3, ![1, 1, 1024]⟩
abbrev S1x8x1024 : Shape := ⟨3, ![1, 8, 1024]⟩
abbrev S8x1024 : Shape := ⟨2, ![8, 1024]⟩
abbrev S16x1024 : Shape := ⟨2, ![16, 1024]⟩
abbrev S16 : Shape := ⟨1, ![16]⟩
abbrev S16x1 : Shape := ⟨2, ![16, 1]⟩
abbrev S1x256x256 : Shape := ⟨3, ![1, 256, 256]⟩
abbrev S256x512 : Shape := ⟨2, ![256, 512]⟩
abbrev S1x256x512 : Shape := ⟨3, ![1, 256, 512]⟩
abbrev S272x1024 : Shape := ⟨2, ![272, 1024]⟩
abbrev S272x768 : Shape := ⟨2, ![272, 768]⟩
abbrev S256x768 : Shape := ⟨2, ![256, 768]⟩
abbrev S1x768 : Shape := ⟨2, ![1, 768]⟩
abbrev S256x128 : Shape := ⟨2, ![256, 128]⟩
abbrev S1x256x128 : Shape := ⟨3, ![1, 256, 128]⟩

abbrev nBuf : Space → Nat
  | .hbm => 48
  | .vmem => 35
  | .smem => 0
  | _ => 0

abbrev bufTy : (tb : Table) → Fin (tcTables nBuf tb) → BufTy
  | .hbm, ⟨0, _⟩ => ⟨S32x2304x1024, .f32⟩
  | .hbm, ⟨1, _⟩ => ⟨S32x1x6144, .f32⟩
  | .hbm, ⟨2, _⟩ => ⟨S6144, .f32⟩
  | .hbm, ⟨3, _⟩ => ⟨S1024, .f32⟩
  | .hbm, ⟨4, _⟩ => ⟨S1024x256, .f32⟩
  | .hbm, ⟨5, _⟩ => ⟨S1024x768, .f32⟩
  | .hbm, ⟨6, _⟩ => ⟨S1024x128, .f32⟩
  | .hbm, ⟨7, _⟩ => ⟨S1024x256, .f32⟩
  | .hbm, ⟨8, _⟩ => ⟨S1024x512, .f32⟩
  | .hbm, ⟨9, _⟩ => ⟨S1024x512, .f32⟩
  | .hbm, ⟨10, _⟩ => ⟨S3x256x3, .f32⟩
  | .hbm, ⟨11, _⟩ => ⟨S8, .f32⟩
  | .hbm, ⟨12, _⟩ => ⟨S8, .f32⟩
  | .hbm, ⟨13, _⟩ => ⟨S256, .i32⟩
  | .hbm, ⟨14, _⟩ => ⟨S_, .i32⟩
  | .hbm, ⟨15, _⟩ => ⟨S256, .i32⟩
  | .hbm, ⟨16, _⟩ => ⟨S256, .i32⟩
  | .hbm, ⟨17, _⟩ => ⟨S256x1, .i32⟩
  | .hbm, ⟨18, _⟩ => ⟨S1x256, .i32⟩
  | .hbm, ⟨19, _⟩ => ⟨S256x256, .i32⟩
  | .hbm, ⟨20, _⟩ => ⟨S256x256, .i32⟩
  | .hbm, ⟨21, _⟩ => ⟨S256x256, .i1⟩
  | .hbm, ⟨22, _⟩ => ⟨S256x256, .bf16⟩
  | .hbm, ⟨23, _⟩ => ⟨S1024x256, .bf16⟩
  | .hbm, ⟨24, _⟩ => ⟨S1024x768, .bf16⟩
  | .hbm, ⟨25, _⟩ => ⟨S1024x128, .bf16⟩
  | .hbm, ⟨26, _⟩ => ⟨S1024x256, .bf16⟩
  | .hbm, ⟨27, _⟩ => ⟨S1024x512, .bf16⟩
  | .hbm, ⟨28, _⟩ => ⟨S1024x512, .bf16⟩
  | .hbm, ⟨29, _⟩ => ⟨S3x3x256, .f32⟩
  | .hbm, ⟨30, _⟩ => ⟨S3x768, .f32⟩
  | .hbm, ⟨31, _⟩ => ⟨S_, .f32⟩
  | .hbm, ⟨32, _⟩ => ⟨S1x120, .f32⟩
  | .hbm, ⟨33, _⟩ => ⟨S1x8, .f32⟩
  | .hbm, ⟨34, _⟩ => ⟨S1x128, .f32⟩
  | .hbm, ⟨35, _⟩ => ⟨S1x8, .f32⟩
  | .hbm, ⟨36, _⟩ => ⟨S1x128, .f32⟩
  | .hbm, ⟨37, _⟩ => ⟨S1x1x6144, .f32⟩
  | .hbm, ⟨38, _⟩ => ⟨S4x1x6144, .f32⟩
  | .hbm, ⟨39, _⟩ => ⟨S36x1x6144, .f32⟩
  | .hbm, ⟨40, _⟩ => ⟨S1x1024, .f32⟩
  | .hbm, ⟨41, _⟩ => ⟨S32x2304x256, .f32⟩
  | .hbm, ⟨42, _⟩ => ⟨S32x2304x768, .bf16⟩
  | .hbm, ⟨43, _⟩ => ⟨S32x2304x128, .f32⟩
  | .hbm, ⟨44, _⟩ => ⟨S32x2304x256, .bf16⟩
  | .hbm, ⟨45, _⟩ => ⟨S32x2304x512, .bf16⟩
  | .hbm, ⟨46, _⟩ => ⟨S32x2304x512, .bf16⟩
  | .hbm, ⟨47, _⟩ => ⟨S32x2304x1024, .bf16⟩
  | .local _ .vmem, ⟨0, _⟩ => ⟨S4x256x1024, .f32⟩
  | .local _ .vmem, ⟨1, _⟩ => ⟨S4x256x1024, .f32⟩
  | .local _ .vmem, ⟨2, _⟩ => ⟨S4x8x1024, .f32⟩
  | .local _ .vmem, ⟨3, _⟩ => ⟨S4x8x1024, .f32⟩
  | .local _ .vmem, ⟨4, _⟩ => ⟨S4x8x1024, .f32⟩
  | .local _ .vmem, ⟨5, _⟩ => ⟨S4x8x1024, .f32⟩
  | .local _ .vmem, ⟨6, _⟩ => ⟨S4x1x1024, .f32⟩
  | .local _ .vmem, ⟨7, _⟩ => ⟨S4x1x1024, .f32⟩
  | .local _ .vmem, ⟨8, _⟩ => ⟨S4x1x1024, .f32⟩
  | .local _ .vmem, ⟨9, _⟩ => ⟨S4x1x1024, .f32⟩
  | .local _ .vmem, ⟨10, _⟩ => ⟨S1x1024, .f32⟩
  | .local _ .vmem, ⟨11, _⟩ => ⟨S1024x256, .bf16⟩
  | .local _ .vmem, ⟨12, _⟩ => ⟨S1024x768, .bf16⟩
  | .local _ .vmem, ⟨13, _⟩ => ⟨S1024x128, .bf16⟩
  | .local _ .vmem, ⟨14, _⟩ => ⟨S1024x256, .bf16⟩
  | .local _ .vmem, ⟨15, _⟩ => ⟨S1024x512, .bf16⟩
  | .local _ .vmem, ⟨16, _⟩ => ⟨S1024x512, .bf16⟩
  | .local _ .vmem, ⟨17, _⟩ => ⟨S3x768, .f32⟩
  | .local _ .vmem, ⟨18, _⟩ => ⟨S256x256, .bf16⟩
  | .local _ .vmem, ⟨19, _⟩ => ⟨S1x128, .f32⟩
  | .local _ .vmem, ⟨20, _⟩ => ⟨S1x128, .f32⟩
  | .local _ .vmem, ⟨21, _⟩ => ⟨S4x256x256, .f32⟩
  | .local _ .vmem, ⟨22, _⟩ => ⟨S4x256x256, .f32⟩
  | .local _ .vmem, ⟨23, _⟩ => ⟨S4x256x768, .bf16⟩
  | .local _ .vmem, ⟨24, _⟩ => ⟨S4x256x768, .bf16⟩
  | .local _ .vmem, ⟨25, _⟩ => ⟨S4x256x128, .f32⟩
  | .local _ .vmem, ⟨26, _⟩ => ⟨S4x256x128, .f32⟩
  | .local _ .vmem, ⟨27, _⟩ => ⟨S4x256x256, .bf16⟩
  | .local _ .vmem, ⟨28, _⟩ => ⟨S4x256x256, .bf16⟩
  | .local _ .vmem, ⟨29, _⟩ => ⟨S4x256x512, .bf16⟩
  | .local _ .vmem, ⟨30, _⟩ => ⟨S4x256x512, .bf16⟩
  | .local _ .vmem, ⟨31, _⟩ => ⟨S4x256x512, .bf16⟩
  | .local _ .vmem, ⟨32, _⟩ => ⟨S4x256x512, .bf16⟩
  | .local _ .vmem, ⟨33, _⟩ => ⟨S4x256x1024, .bf16⟩
  | .local _ .vmem, ⟨34, _⟩ => ⟨S4x256x1024, .bf16⟩
  | _, _ => ⟨S32x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26_0 : Ref sig .tc := ⟨.hbm, 41, rfl⟩
abbrev main_v26_1 : Ref sig .tc := ⟨.hbm, 42, rfl⟩
abbrev main_v26_2 : Ref sig .tc := ⟨.hbm, 43, rfl⟩
abbrev main_v26_3 : Ref sig .tc := ⟨.hbm, 44, rfl⟩
abbrev main_v26_4 : Ref sig .tc := ⟨.hbm, 45, rfl⟩
abbrev main_v26_5 : Ref sig .tc := ⟨.hbm, 46, rfl⟩
abbrev main_v26_6 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨2, ![8, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let c287_i32 : BitVec 32 := 287#32
  let v2 : BitVec 32 := Scalar.maxsi c0_i32 v1
  let v3 : BitVec 32 := Scalar.minsi c287_i32 v2
  let c0_i32_0 : BitVec 32 := 0#32
  let c0_i32_1 : BitVec 32 := 0#32
  ![arg0.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c0_i32 : BitVec 32 := 0#32
  let c287_i32 : BitVec 32 := 287#32
  let v2 : BitVec 32 := Scalar.maxsi c0_i32 v1
  let v3 : BitVec 32 := Scalar.minsi c287_i32 v2
  let c0_i32_0 : BitVec 32 := 0#32
  let c0_i32_1 : BitVec 32 := 0#32
  ![arg0.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.select v0 arg0 c8_i32_0
  let c0_i32 : BitVec 32 := 0#32
  let c0_i32_1 : BitVec 32 := 0#32
  let c0_i32_2 : BitVec 32 := 0#32
  ![v1.toNat, c0_i32.toNat, c0_i32_1.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c8_i32_0 : BitVec 32 := 8#32
  let v1 : BitVec 32 := Scalar.select v0 arg0 c8_i32_0
  let c0_i32 : BitVec 32 := 0#32
  let c1_i32 : BitVec 32 := 1#32
  let c0_i32_1 : BitVec 32 := 0#32
  ![v1.toNat, c0_i32.toNat, c1_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x768 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S4x256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S4x256x768 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S4x256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S4x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S4x256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S4x256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S4x256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== KinRefIdeal.lean ====
abbrev S32x2304x1024 : Shape := ⟨3, ![32, 2304, 1024]⟩
abbrev S32x1x6144 : Shape := ⟨3, ![32, 1, 6144]⟩
abbrev S6144 : Shape := ⟨1, ![6144]⟩
abbrev S1024 : Shape := ⟨1, ![1024]⟩
abbrev S1024x256 : Shape := ⟨2, ![1024, 256]⟩
abbrev S1024x768 : Shape := ⟨2, ![1024, 768]⟩
abbrev S1024x128 : Shape := ⟨2, ![1024, 128]⟩
abbrev S1024x512 : Shape := ⟨2, ![1024, 512]⟩
abbrev S3x256x3 : Shape := ⟨3, ![3, 256, 3]⟩
abbrev S8 : Shape := ⟨1, ![8]⟩
abbrev S32x2048x6144 : Shape := ⟨3, ![32, 2048, 6144]⟩
abbrev S32x256x6144 : Shape := ⟨3, ![32, 256, 6144]⟩
abbrev S32x2304x6144 : Shape := ⟨3, ![32, 2304, 6144]⟩
abbrev S_ : Shape := ⟨0, ![]⟩
abbrev S32x2304 : Shape := ⟨2, ![32, 2304]⟩
abbrev S32x2304x1 : Shape := ⟨3, ![32, 2304, 1]⟩
abbrev S1x1x1024 : Shape := ⟨3, ![1, 1, 1024]⟩
abbrev S32x2304x768 : Shape := ⟨3, ![32, 2304, 768]⟩
abbrev S32x2304x256 : Shape := ⟨3, ![32, 2304, 256]⟩
abbrev S1x256x3 : Shape := ⟨3, ![1, 256, 3]⟩
abbrev S256x3 : Shape := ⟨2, ![256, 3]⟩
abbrev S32x2048x256 : Shape := ⟨3, ![32, 2048, 256]⟩
abbrev S32x1x256 : Shape := ⟨3, ![32, 1, 256]⟩
abbrev S32x2047x256 : Shape := ⟨3, ![32, 2047, 256]⟩
abbrev S256x1 : Shape := ⟨2, ![256, 1]⟩
abbrev S256 : Shape := ⟨1, ![256]⟩
abbrev S1x1x256 : Shape := ⟨3, ![1, 1, 256]⟩
abbrev S32x256x256 : Shape := ⟨3, ![32, 256, 256]⟩
abbrev S32x255x256 : Shape := ⟨3, ![32, 255, 256]⟩
abbrev S32x2304x4x64 : Shape := ⟨4, ![32, 2304, 4, 64]⟩
abbrev S32x2304x4 : Shape := ⟨3, ![32, 2304, 4]⟩
abbrev S32x2304x4x1 : Shape := ⟨4, ![32, 2304, 4, 1]⟩
abbrev S32x2304x128 : Shape := ⟨3, ![32, 2304, 128]⟩
abbrev S32x2304x8 : Shape := ⟨3, ![32, 2304, 8]⟩
abbrev S32x2304x120 : Shape := ⟨3, ![32, 2304, 120]⟩
abbrev S1x1x8 : Shape := ⟨3, ![1, 1, 8]⟩
abbrev S32x2304x512 : Shape := ⟨3, ![32, 2304, 512]⟩

abbrev nBuf : Space → Nat
  | .hbm => 300
  | .vmem => 0
  | .smem => 0
  | _ => 0

abbrev hbmTy0_0 (i : Nat) : BufTy := match i % 128 with
  | 0 => ⟨S32x2304x1024, .f32⟩
  | 1 => ⟨S32x1x6144, .f32⟩
  | 2 => ⟨S6144, .f32⟩
  | 3 => ⟨S1024, .f32⟩
  | 4 => ⟨S1024x256, .f32⟩
  | 5 => ⟨S1024x768, .f32⟩
  | 6 => ⟨S1024x128, .f32⟩
  | 7 => ⟨S1024x256, .f32⟩
  | 8 => ⟨S1024x512, .f32⟩
  | 9 => ⟨S1024x512, .f32⟩
  | 10 => ⟨S3x256x3, .f32⟩
  | 11 => ⟨S8, .f32⟩
  | 12 => ⟨S8, .f32⟩
  | 13 => ⟨S32x2048x6144, .f32⟩
  | 14 => ⟨S32x256x6144, .f32⟩
  | 15 => ⟨S32x2304x6144, .f32⟩
  | 16 => ⟨S32x2304x1024, .f32⟩
  | 17 => ⟨S32x2304x1024, .f32⟩
  | 18 => ⟨S32x2304x1024, .f32⟩
  | 19 => ⟨S32x2304x1024, .f32⟩
  | 20 => ⟨S32x2304x1024, .f32⟩
  | 21 => ⟨S32x2304x1024, .f32⟩
  | 22 => ⟨S32x2304x1024, .f32⟩
  | 23 => ⟨S_, .f32⟩
  | 24 => ⟨S32x2304, .f32⟩
  | 25 => ⟨S32x2304x1, .f32⟩
  | 26 => ⟨S_, .f32⟩
  | 27 => ⟨S32x2304x1, .f32⟩
  | 28 => ⟨S32x2304x1, .f32⟩
  | 29 => ⟨S_, .f32⟩
  | 30 => ⟨S32x2304x1, .f32⟩
  | 31 => ⟨S32x2304x1, .f32⟩
  | 32 => ⟨S32x2304x1, .f32⟩
  | 33 => ⟨S32x2304x1024, .f32⟩
  | 34 => ⟨S32x2304x1024, .f32⟩
  | 35 => ⟨S1x1x1024, .f32⟩
  | 36 => ⟨S32x2304x1024, .f32⟩
  | 37 => ⟨S32x2304x1024, .f32⟩
  | 38 => ⟨S_, .f32⟩
  | 39 => ⟨S32x2304x1024, .f32⟩
  | 40 => ⟨S32x2304x1024, .f32⟩
  | 41 => ⟨S32x2304x1024, .f32⟩
  | 42 => ⟨S32x2304x1024, .f32⟩
  | 43 => ⟨S32x2304x768, .f32⟩
  | 44 => ⟨S32x2304x256, .f32⟩
  | 45 => ⟨S32x2304x256, .f32⟩
  | 46 => ⟨S32x2304x256, .f32⟩
  | 47 => ⟨S1x256x3, .f32⟩
  | 48 => ⟨S256x3, .f32⟩
  | 49 => ⟨S32x2048x256, .f32⟩
  | 50 => ⟨S_, .f32⟩
  | 51 => ⟨S32x1x256, .f32⟩
  | 52 => ⟨S32x2047x256, .f32⟩
  | 53 => ⟨S32x2048x256, .f32⟩
  | 54 => ⟨S32x2047x256, .f32⟩
  | 55 => ⟨S32x2048x256, .f32⟩
  | 56 => ⟨S256x1, .f32⟩
  | 57 => ⟨S256, .f32⟩
  | 58 => ⟨S1x1x256, .f32⟩
  | 59 => ⟨S32x2048x256, .f32⟩
  | 60 => ⟨S32x2048x256, .f32⟩
  | 61 => ⟨S256x1, .f32⟩
  | 62 => ⟨S256, .f32⟩
  | 63 => ⟨S1x1x256, .f32⟩
  | 64 => ⟨S32x2048x256, .f32⟩
  | 65 => ⟨S32x2048x256, .f32⟩
  | 66 => ⟨S32x2048x256, .f32⟩
  | 67 => ⟨S256x1, .f32⟩
  | 68 => ⟨S256, .f32⟩
  | 69 => ⟨S1x1x256, .f32⟩
  | 70 => ⟨S32x2048x256, .f32⟩
  | 71 => ⟨S32x2048x256, .f32⟩
  | 72 => ⟨S32x2048x256, .f32⟩
  | 73 => ⟨S32x256x256, .f32⟩
  | 74 => ⟨S_, .f32⟩
  | 75 => ⟨S32x1x256, .f32⟩
  | 76 => ⟨S32x255x256, .f32⟩
  | 77 => ⟨S32x256x256, .f32⟩
  | 78 => ⟨S32x255x256, .f32⟩
  | 79 => ⟨S32x256x256, .f32⟩
  | 80 => ⟨S256x1, .f32⟩
  | 81 => ⟨S256, .f32⟩
  | 82 => ⟨S1x1x256, .f32⟩
  | 83 => ⟨S32x256x256, .f32⟩
  | 84 => ⟨S32x256x256, .f32⟩
  | 85 => ⟨S256x1, .f32⟩
  | 86 => ⟨S256, .f32⟩
  | 87 => ⟨S1x1x256, .f32⟩
  | 88 => ⟨S32x256x256, .f32⟩
  | 89 => ⟨S32x256x256, .f32⟩
  | 90 => ⟨S32x256x256, .f32⟩
  | 91 => ⟨S256x1, .f32⟩
  | 92 => ⟨S256, .f32⟩
  | 93 => ⟨S1x1x256, .f32⟩
  | 94 => ⟨S32x256x256, .f32⟩
  | 95 => ⟨S32x256x256, .f32⟩
  | 96 => ⟨S32x256x256, .f32⟩
  | 97 => ⟨S32x2304x256, .f32⟩
  | 98 => ⟨S32x2304x256, .f32⟩
  | 99 => ⟨S32x2304x256, .f32⟩
  | 100 => ⟨S_, .f32⟩
  | 101 => ⟨S32x2304x256, .f32⟩
  | 102 => ⟨S32x2304x256, .f32⟩
  | 103 => ⟨S_, .f32⟩
  | 104 => ⟨S32x2304x256, .f32⟩
  | 105 => ⟨S32x2304x256, .f32⟩
  | 106 => ⟨S32x2304x256, .f32⟩
  | 107 => ⟨S32x2304x4x64, .f32⟩
  | 108 => ⟨S32x2304x4x64, .f32⟩
  | 109 => ⟨S_, .f32⟩
  | 110 => ⟨S32x2304x4, .f32⟩
  | 111 => ⟨S32x2304x4x1, .f32⟩
  | 112 => ⟨S_, .f32⟩
  | 113 => ⟨S32x2304x4x1, .f32⟩
  | 114 => ⟨S32x2304x4x1, .f32⟩
  | 115 => ⟨S32x2304x4x1, .f32⟩
  | 116 => ⟨S32x2304x4x64, .f32⟩
  | 117 => ⟨S32x2304x4x64, .f32⟩
  | 118 => ⟨S32x2304x256, .f32⟩
  | 119 => ⟨S1x256x3, .f32⟩
  | 120 => ⟨S256x3, .f32⟩
  | 121 => ⟨S32x2048x256, .f32⟩
  | 122 => ⟨S_, .f32⟩
  | 123 => ⟨S32x1x256, .f32⟩
  | 124 => ⟨S32x2047x256, .f32⟩
  | 125 => ⟨S32x2048x256, .f32⟩
  | 126 => ⟨S32x2047x256, .f32⟩
  | 127 => ⟨S32x2048x256, .f32⟩
  | _ => ⟨S32x2304x1024, .f32⟩

abbrev hbmTy0_1 (i : Nat) : BufTy := match i % 128 with
  | 0 => ⟨S256x1, .f32⟩
  | 1 => ⟨S256, .f32⟩
  | 2 => ⟨S1x1x256, .f32⟩
  | 3 => ⟨S32x2048x256, .f32⟩
  | 4 => ⟨S32x2048x256, .f32⟩
  | 5 => ⟨S256x1, .f32⟩
  | 6 => ⟨S256, .f32⟩
  | 7 => ⟨S1x1x256, .f32⟩
  | 8 => ⟨S32x2048x256, .f32⟩
  | 9 => ⟨S32x2048x256, .f32⟩
  | 10 => ⟨S32x2048x256, .f32⟩
  | 11 => ⟨S256x1, .f32⟩
  | 12 => ⟨S256, .f32⟩
  | 13 => ⟨S1x1x256, .f32⟩
  | 14 => ⟨S32x2048x256, .f32⟩
  | 15 => ⟨S32x2048x256, .f32⟩
  | 16 => ⟨S32x2048x256, .f32⟩
  | 17 => ⟨S32x256x256, .f32⟩
  | 18 => ⟨S_, .f32⟩
  | 19 => ⟨S32x1x256, .f32⟩
  | 20 => ⟨S32x255x256, .f32⟩
  | 21 => ⟨S32x256x256, .f32⟩
  | 22 => ⟨S32x255x256, .f32⟩
  | 23 => ⟨S32x256x256, .f32⟩
  | 24 => ⟨S256x1, .f32⟩
  | 25 => ⟨S256, .f32⟩
  | 26 => ⟨S1x1x256, .f32⟩
  | 27 => ⟨S32x256x256, .f32⟩
  | 28 => ⟨S32x256x256, .f32⟩
  | 29 => ⟨S256x1, .f32⟩
  | 30 => ⟨S256, .f32⟩
  | 31 => ⟨S1x1x256, .f32⟩
  | 32 => ⟨S32x256x256, .f32⟩
  | 33 => ⟨S32x256x256, .f32⟩
  | 34 => ⟨S32x256x256, .f32⟩
  | 35 => ⟨S256x1, .f32⟩
  | 36 => ⟨S256, .f32⟩
  | 37 => ⟨S1x1x256, .f32⟩
  | 38 => ⟨S32x256x256, .f32⟩
  | 39 => ⟨S32x256x256, .f32⟩
  | 40 => ⟨S32x256x256, .f32⟩
  | 41 => ⟨S32x2304x256, .f32⟩
  | 42 => ⟨S32x2304x256, .f32⟩
  | 43 => ⟨S32x2304x256, .f32⟩
  | 44 => ⟨S_, .f32⟩
  | 45 => ⟨S32x2304x256, .f32⟩
  | 46 => ⟨S32x2304x256, .f32⟩
  | 47 => ⟨S_, .f32⟩
  | 48 => ⟨S32x2304x256, .f32⟩
  | 49 => ⟨S32x2304x256, .f32⟩
  | 50 => ⟨S32x2304x256, .f32⟩
  | 51 => ⟨S32x2304x4x64, .f32⟩
  | 52 => ⟨S32x2304x256, .f32⟩
  | 53 => ⟨S1x256x3, .f32⟩
  | 54 => ⟨S256x3, .f32⟩
  | 55 => ⟨S32x2048x256, .f32⟩
  | 56 => ⟨S_, .f32⟩
  | 57 => ⟨S32x1x256, .f32⟩
  | 58 => ⟨S32x2047x256, .f32⟩
  | 59 => ⟨S32x2048x256, .f32⟩
  | 60 => ⟨S32x2047x256, .f32⟩
  | 61 => ⟨S32x2048x256, .f32⟩
  | 62 => ⟨S256x1, .f32⟩
  | 63 => ⟨S256, .f32⟩
  | 64 => ⟨S1x1x256, .f32⟩
  | 65 => ⟨S32x2048x256, .f32⟩
  | 66 => ⟨S32x2048x256, .f32⟩
  | 67 => ⟨S256x1, .f32⟩
  | 68 => ⟨S256, .f32⟩
  | 69 => ⟨S1x1x256, .f32⟩
  | 70 => ⟨S32x2048x256, .f32⟩
  | 71 => ⟨S32x2048x256, .f32⟩
  | 72 => ⟨S32x2048x256, .f32⟩
  | 73 => ⟨S256x1, .f32⟩
  | 74 => ⟨S256, .f32⟩
  | 75 => ⟨S1x1x256, .f32⟩
  | 76 => ⟨S32x2048x256, .f32⟩
  | 77 => ⟨S32x2048x256, .f32⟩
  | 78 => ⟨S32x2048x256, .f32⟩
  | 79 => ⟨S32x256x256, .f32⟩
  | 80 => ⟨S_, .f32⟩
  | 81 => ⟨S32x1x256, .f32⟩
  | 82 => ⟨S32x255x256, .f32⟩
  | 83 => ⟨S32x256x256, .f32⟩
  | 84 => ⟨S32x255x256, .f32⟩
  | 85 => ⟨S32x256x256, .f32⟩
  | 86 => ⟨S256x1, .f32⟩
  | 87 => ⟨S256, .f32⟩
  | 88 => ⟨S1x1x256, .f32⟩
  | 89 => ⟨S32x256x256, .f32⟩
  | 90 => ⟨S32x256x256, .f32⟩
  | 91 => ⟨S256x1, .f32⟩
  | 92 => ⟨S256, .f32⟩
  | 93 => ⟨S1x1x256, .f32⟩
  | 94 => ⟨S32x256x256, .f32⟩
  | 95 => ⟨S32x256x256, .f32⟩
  | 96 => ⟨S32x256x256, .f32⟩
  | 97 => ⟨S256x1, .f32⟩
  | 98 => ⟨S256, .f32⟩
  | 99 => ⟨S1x1x256, .f32⟩
  | 100 => ⟨S32x256x256, .f32⟩
  | 101 => ⟨S32x256x256, .f32⟩
  | 102 => ⟨S32x256x256, .f32⟩
  | 103 => ⟨S32x2304x256, .f32⟩
  | 104 => ⟨S32x2304x256, .f32⟩
  | 105 => ⟨S32x2304x256, .f32⟩
  | 106 => ⟨S_, .f32⟩
  | 107 => ⟨S32x2304x256, .f32⟩
  | 108 => ⟨S32x2304x256, .f32⟩
  | 109 => ⟨S_, .f32⟩
  | 110 => ⟨S32x2304x256, .f32⟩
  | 111 => ⟨S32x2304x256, .f32⟩
  | 112 => ⟨S32x2304x256, .f32⟩
  | 113 => ⟨S32x2304x4x64, .f32⟩
  | 114 => ⟨S32x2304x4x64, .f32⟩
  | 115 => ⟨S_, .f32⟩
  | 116 => ⟨S32x2304x4, .f32⟩
  | 117 => ⟨S32x2304x4x1, .f32⟩
  | 118 => ⟨S_, .f32⟩
  | 119 => ⟨S32x2304x4x1, .f32⟩
  | 120 => ⟨S32x2304x4x1, .f32⟩
  | 121 => ⟨S32x2304x4x1, .f32⟩
  | 122 => ⟨S32x2304x4x64, .f32⟩
  | 123 => ⟨S32x2304x4x64, .f32⟩
  | 124 => ⟨S_, .f32⟩
  | 125 => ⟨S32x2304x4x64, .f32⟩
  | 126 => ⟨S32x2304x4x64, .f32⟩
  | 127 => ⟨S32x2304x256, .f32⟩
  | _ => ⟨S32x2304x1024, .f32⟩

abbrev hbmTy0_2 (i : Nat) : BufTy := match i % 128 with
  | 0 => ⟨S32x2304x128, .f32⟩
  | 1 => ⟨S32x2304x8, .f32⟩
  | 2 => ⟨S32x2304x120, .f32⟩
  | 3 => ⟨S8, .f32⟩
  | 4 => ⟨S8, .f32⟩
  | 5 => ⟨S1x1x8, .f32⟩
  | 6 => ⟨S32x2304x8, .f32⟩
  | 7 => ⟨S32x2304x8, .f32⟩
  | 8 => ⟨S_, .f32⟩
  | 9 => ⟨S32x2304x8, .f32⟩
  | 10 => ⟨S32x2304x8, .f32⟩
  | 11 => ⟨S32x2304x8, .f32⟩
  | 12 => ⟨S32x2304x8, .f32⟩
  | 13 => ⟨S32x2304x8, .i1⟩
  | 14 => ⟨S32x2304x8, .f32⟩
  | 15 => ⟨S32x2304x8, .f32⟩
  | 16 => ⟨S32x2304x8, .f32⟩
  | 17 => ⟨S32x2304x8, .f32⟩
  | 18 => ⟨S32x2304x8, .f32⟩
  | 19 => ⟨S32x2304x8, .f32⟩
  | 20 => ⟨S32x2304x8, .f32⟩
  | 21 => ⟨S32x2304x8, .f32⟩
  | 22 => ⟨S1x1x8, .f32⟩
  | 23 => ⟨S32x2304x8, .f32⟩
  | 24 => ⟨S32x2304x8, .f32⟩
  | 25 => ⟨S32x2304x120, .f32⟩
  | 26 => ⟨S32x2304x120, .f32⟩
  | 27 => ⟨S_, .f32⟩
  | 28 => ⟨S32x2304x120, .f32⟩
  | 29 => ⟨S32x2304x120, .f32⟩
  | 30 => ⟨S_, .f32⟩
  | 31 => ⟨S32x2304x120, .f32⟩
  | 32 => ⟨S32x2304x120, .f32⟩
  | 33 => ⟨S32x2304x128, .f32⟩
  | 34 => ⟨S32x2304x768, .f32⟩
  | 35 => ⟨S32x2304x256, .f32⟩
  | 36 => ⟨S32x2304x768, .bf16⟩
  | 37 => ⟨S32x2304x256, .f32⟩
  | 38 => ⟨S32x2304x256, .bf16⟩
  | 39 => ⟨S32x2304x512, .f32⟩
  | 40 => ⟨S32x2304x512, .bf16⟩
  | 41 => ⟨S32x2304x512, .f32⟩
  | 42 => ⟨S32x2304x512, .bf16⟩
  | 43 => ⟨S32x2304x1024, .bf16⟩
  | _ => ⟨S32x2304x1024, .f32⟩

abbrev hbmTy (i : Nat) : BufTy := match i / 128 with
  | 0 => hbmTy0_0 i
  | 1 => hbmTy0_1 i
  | 2 => hbmTy0_2 i
  | _ => ⟨S32x2304x1024, .f32⟩

abbrev bufTy : (tb : Table) → Fin (tcTables nBuf tb) → BufTy
  | .hbm, ⟨i, _⟩ => hbmTy i
  | _, _ => ⟨S32x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_4 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_call0_v0 : Ref sig .tc := ⟨.hbm, 98, rfl⟩
abbrev main_call0_v1 : Ref sig .tc := ⟨.hbm, 99, rfl⟩
abbrev main_call0_cst : Ref sig .tc := ⟨.hbm, 100, rfl⟩
abbrev main_call0_v2 : Ref sig .tc := ⟨.hbm, 101, rfl⟩
abbrev main_call0_v3 : Ref sig .tc := ⟨.hbm, 102, rfl⟩
abbrev main_call0_cst_0 : Ref sig .tc := ⟨.hbm, 103, rfl⟩
abbrev main_call0_v4 : Ref sig .tc := ⟨.hbm, 104, rfl⟩
abbrev main_call0_v5 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_5 : Ref sig .tc := ⟨.hbm, 109, rfl⟩
abbrev main_v82 : Ref sig .tc := ⟨.hbm, 110, rfl⟩
abbrev main_v83 : Ref sig .tc := ⟨.hbm, 111, rfl⟩
abbrev main_cst_6 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_7 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_8 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_call1_v0 : Ref sig .tc := ⟨.hbm, 170, rfl⟩
abbrev main_call1_v1 : Ref sig .tc := ⟨.hbm, 171, rfl⟩
abbrev main_call1_cst : Ref sig .tc := ⟨.hbm, 172, rfl⟩
abbrev main_call1_v2 : Ref sig .tc := ⟨.hbm, 173, rfl⟩
abbrev main_call1_v3 : Ref sig .tc := ⟨.hbm, 174, rfl⟩
abbrev main_call1_cst_0 : Ref sig .tc := ⟨.hbm, 175, rfl⟩
abbrev main_call1_v4 : Ref sig .tc := ⟨.hbm, 176, rfl⟩
abbrev main_call1_v5 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_cst_9 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_cst_10 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_v189 : Ref sig .tc := ⟨.hbm, 230, rfl⟩
abbrev main_v190 : Ref sig .tc := ⟨.hbm, 231, rfl⟩
abbrev main_call2_v0 : Ref sig .tc := ⟨.hbm, 232, rfl⟩
abbrev main_call2_v1 : Ref sig .tc := ⟨.hbm, 233, rfl⟩
abbrev main_call2_cst : Ref sig .tc := ⟨.hbm, 234, rfl⟩
abbrev main_call2_v2 : Ref sig .tc := ⟨.hbm, 235, rfl⟩
abbrev main_call2_v3 : Ref sig .tc := ⟨.hbm, 236, rfl⟩
abbrev main_call2_cst_0 : Ref sig .tc := ⟨.hbm, 237, rfl⟩
abbrev main_call2_v4 : Ref sig .tc := ⟨.hbm, 238, rfl⟩
abbrev main_call2_v5 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_cst_11 : Ref sig .tc := ⟨.hbm, 243, rfl⟩
abbrev main_v194 : Ref sig .tc := ⟨.hbm, 244, rfl⟩
abbrev main_v195 : Ref sig .tc := ⟨.hbm, 245, rfl⟩
abbrev main_cst_12 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_cst_13 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_call3_cst : Ref sig .tc := ⟨.hbm, 264, rfl⟩
abbrev main_call3_v0 : Ref sig .tc := ⟨.hbm, 265, rfl⟩
abbrev main_call3_v1 : Ref sig .tc := ⟨.hbm, 266, rfl⟩
abbrev main_call3_v2 : Ref sig .tc := ⟨.hbm, 267, rfl⟩
abbrev main_call3_v3 : Ref sig .tc := ⟨.hbm, 268, rfl⟩
abbrev main_call3_v4 : Ref sig .tc := ⟨.hbm, 269, rfl⟩
abbrev main_call3_v5 : Ref sig .tc := ⟨.hbm, 270, rfl⟩
abbrev main_call3_v6 : Ref sig .tc := ⟨.hbm, 271, rfl⟩
abbrev main_call3_v7 : Ref sig .tc := ⟨.hbm, 272, rfl⟩
abbrev main_call3_v8 : Ref sig .tc := ⟨.hbm, 273, rfl⟩
abbrev main_call3_v9 : Ref sig .tc := ⟨.hbm, 274, rfl⟩
abbrev main_call3_v10 : Ref sig .tc := ⟨.hbm, 275, rfl⟩
abbrev main_call3_v11 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_v215 : Ref sig .tc := ⟨.hbm, 280, rfl⟩
abbrev main_v216 : Ref sig .tc := ⟨.hbm, 281, rfl⟩
abbrev main_v217 : Ref sig .tc := ⟨.hbm, 282, rfl⟩
abbrev main_cst_14 : Ref sig .tc := ⟨.hbm, 283, rfl⟩
abbrev main_v218 : Ref sig .tc := ⟨.hbm, 284, rfl⟩
abbrev main_v219 : Ref sig .tc := ⟨.hbm, 285, rfl⟩
abbrev main_cst_15 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩

abbrev nD : Nat := 1
abbrev τ : Topo := Topo.v7x

variable {F : FTy → Type} [FloatOps F]
-- ==== Proof.Sigmoid.lean ====
/- The one place where the feed-forward part of the kernel and its reference are different arithmetic: the kernel computes
   the logistic function as `½ · tanh (½ x) + ½`, the reference as `1 / (1 + e⁻ˣ)`. -/
module

public import Idealize.ShloMosaic.Lib.Pointwise

@[expose] public section

noncomputable section
open Idealize.ShloMosaic

namespace Cert.Sigmoid

/-- The float word the kernel writes for one half is one half. -/
theorem half : Ideal.ofBits FTy.f32 1056964608#32 = ((1 / 2 : ℝ) : EReal) := by
  simp [Ideal.ofBits, Ideal.ieee, -EReal.coe_mul]; norm_num

/-- Over the reals, `½ tanh (½ x) + ½` is the logistic function of `x`. -/
theorem real (r : ℝ) : 1 / 2 * Real.tanh (1 / 2 * r) + 1 / 2 = (1 + Real.exp (-r))⁻¹ := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  rw [Real.tanh_eq_sinh_div_cosh, Real.sinh_eq, Real.cosh_eq, h1]
  have p1 := Real.exp_pos (1 / 2 * r)
  have p2 := Real.exp_pos (-(1 / 2 * r))
  generalize Real.exp (1 / 2 * r) = a at *
  generalize Real.exp (-(1 / 2 * r)) = b at *
  have h3 : a + b ≠ 0 := by positivity
  have h4 : 1 + b * b ≠ 0 := by positivity
  rw [← sub_eq_zero]
  field_simp
  linear_combination (2 * b) * h2

/-- The same on all extended reals, in the forms the two programs compute. -/
theorem eq (x : EReal) :
    Ideal.ofBits FTy.f32 1056964608#32 * Ideal.tanh (Ideal.ofBits FTy.f32 1056964608#32 * x) + Ideal.ofBits FTy.f32 1056964608#32
      = Ideal.div 1 (1 + Ideal.exp (-x)) := by
  change _ = Ideal.logistic x
  rw [half]
  induction x using EReal.rec with
  | bot =>
    rw [EReal.coe_mul_bot_of_pos (by norm_num), Ideal.tanh_bot, Ideal.logistic_bot, mul_neg, mul_one, ← EReal.coe_neg, ← EReal.coe_add]
    norm_num
  | coe r =>
    rw [← EReal.coe_mul, Ideal.tanh_coe, Ideal.logistic_coe, ← EReal.coe_mul, ← EReal.coe_add, real]
  | top =>
    rw [EReal.coe_mul_top_of_pos (by norm_num), Ideal.tanh_top, Ideal.logistic_top, mul_one, ← EReal.coe_add]
    norm_num

end Cert.Sigmoid
-- ==== Proof.Ffn.Reference.lean ====
/- The reference's composed term, cut into the steps of the mathematics: a root-mean-square normalisation, the modulated
   input, the gated activations, the residual sum. -/
module

public import proofs.«01_k».proof.Proof.Gen.FfnRefIdeal.Run
public import Idealize.ShloMosaic.PureOps.Ideal

@[expose] public section

set_option maxRecDepth 16384
noncomputable section
open Idealize.ShloMosaic Idealize.ShloMosaic.TcCoe Idealize.SL.Sem

namespace Cert.FfnRefIdeal.Steps
open Cert.FfnRefIdeal Cert.FfnRefIdeal.Gen

/-- `x / sqrt (mean (x²) + ε) · g` along the last axis. -/
def rmsNorm (X : FVec Ideal S32x2048x1024 .f32) (g : FVec Ideal S1024 .f32) : FVec Ideal S32x2048x1024 .f32 :=
  mulf (mulf X (broadcastInDim S32x2048x1024 ![0, 1, 2] bcast_S32x2048x1_S32x2048x1024_0_1_2 (Host.rsqrt (addf
    (Host.divf (broadcastInDim S32x2048x1 ![0, 1] bcast_S32x2048_S32x2048x1_0_1
      (Host.reduceAdd (mulf X X) (constant S_ .f32 0x00000000#32) reducesTo_S32x2048x1024_S32x2048_d2 h_S_))
      (broadcastInDim S32x2048x1 ![] bcast_S_S32x2048x1 (constant S_ .f32 0x44800000#32)))
    (broadcastInDim S32x2048x1 ![] bcast_S_S32x2048x1 (constant S_ .f32 0x358637BD#32))))))
    (broadcastInDim S32x2048x1024 ![0, 1, 2] bcast_S1x1x1024_S32x2048x1024_0_1_2
      (broadcastInDim S1x1x1024 ![2] bcast_S1024_S1x1x1024_2 g))

/-- The modulated input of the feed-forward part: `rmsNorm x · (1 + scale) + shift`. -/
def modulated (X : FVec Ideal S32x2048x1024 .f32) (M : FVec Ideal S36x1x6144 .f32) (g : FVec Ideal S1024 .f32) :
    FVec Ideal S32x2048x1024 .f32 :=
  addf (mulf (rmsNorm X g) (broadcastInDim S32x2048x1024 ![0, 1, 2] bcast_S32x1x1024_S32x2048x1024_0_1_2
      (addf (broadcastInDim S32x1x1024 ![] bcast_S_S32x1x1024 (constant S_ .f32 0x3F800000#32))
        (extractStridedSlice S32x1x1024 ![0, 0, 4096]
          (extractStridedSlice S32x1x6144 ![0, 0, 0] M slices_S36x1x6144_S32x1x6144_0_0_0) slices_S32x1x6144_S32x1x1024_0_0_4096))))
    (broadcastInDim S32x2048x1024 ![0, 1, 2] bcast_S32x1x1024_S32x2048x1024_0_1_2
      (extractStridedSlice S32x1x1024 ![0, 0, 3072]
        (extractStridedSlice S32x1x6144 ![0, 0, 0] M slices_S36x1x6144_S32x1x6144_0_0_0) slices_S32x1x6144_S32x1x1024_0_0_3072))

/-- The first product. -/
def firstProduct (H : FVec Ideal S32x2048x1024 .f32) (W : FVec Ideal S1024x5632 .f32) : FVec Ideal S32x2048x5632 .f32 :=
  Host.dotGeneral dot_S32x2048x1024_S1024x5632_S32x2048x5632_2_0_01_1_n_n none H W

/-- `silu gate · up`, gate and up being the two halves of the first product. -/
def gated (Z : FVec Ideal S32x2048x5632 .f32) : FVec Ideal S32x2048x2816 .f32 :=
  mulf (mulf (extractStridedSlice S32x2048x2816 ![0, 0, 0] Z slices_S32x2048x5632_S32x2048x2816_0_0_0)
      (Host.divf (broadcastInDim S32x2048x2816 ![] bcast_S_S32x2048x2816 (constant S_ .f32 0x3F800000#32))
        (addf (broadcastInDim S32x2048x2816 ![] bcast_S_S32x2048x2816 (constant S_ .f32 0x3F800000#32))
          (Host.exp (Host.negf
            (extractStridedSlice S32x2048x2816 ![0, 0, 0] Z slices_S32x2048x5632_S32x2048x2816_0_0_0))))))
    (extractStridedSlice S32x2048x2816 ![0, 0, 2816] Z slices_S32x2048x5632_S32x2048x2816_0_0_2816)

/-- The residual sum `x + gate · (activations · W₂)`. -/
def withResidual (X : FVec Ideal S32x2048x1024 .f32) (M : FVec Ideal S36x1x6144 .f32) (A : FVec Ideal S32x2048x2816 .f32)
    (W : FVec Ideal S2816x1024 .f32) : FVec Ideal S32x2048x1024 .f32 :=
  addf X (mulf (broadcastInDim S32x2048x1024 ![0, 1, 2] bcast_S32x1x1024_S32x2048x1024_0_1_2
      (extractStridedSlice S32x1x1024 ![0, 0, 5120]
        (extractStridedSlice S32x1x6144 ![0, 0, 0] M slices_S36x1x6144_S32x1x6144_0_0_0) slices_S32x1x6144_S32x1x1024_0_0_5120))
    (Host.dotGeneral dot_S32x2048x2816_S2816x1024_S32x2048x1024_2_0_01_1_n_n none A W))

/-- The reference's whole result over its arguments. -/
def result (X : FVec Ideal S32x2048x1024 .f32) (M : FVec Ideal S36x1x6144 .f32) (g : FVec Ideal S1024 .f32)
    (W1 : FVec Ideal S1024x5632 .f32) (W2 : FVec Ideal S2816x1024 .f32) (gf : FVec Ideal S1024 .f32) :
    FVec Ideal S32x2048x1024 .f32 :=
  rmsNorm (withResidual X M (gated (firstProduct (modulated X M g) W1)) W2) gf

/-- The term the run of the reference ends with is that. -/
theorem run_term (m : (ℓ : Loc nD τ sig) → Buf (Elt Ideal) ℓ) (c : Dev nD) :
    Cert.FfnRefIdeal.Value.res_out0 m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := rfl

end Cert.FfnRefIdeal.Steps
-- ==== Proof.Ffn.Point.lean ====
/- What one grid point of the feed-forward kernel stores, step by step, is the reference at the rows the point works on. -/
module

public import proofs.«01_k».proof.Proof.Sigmoid
public import proofs.«01_k».proof.Proof.Ffn.Reference
public import proofs.«01_k».proof.Proof.Gen.FfnIdeal.Value
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
open Cert.FfnRefIdeal.Steps

namespace Cert.FfnIdeal.Point
open Cert.FfnIdeal Cert.FfnIdeal.Gen

variable {X : FVec Ideal Cert.FfnRefIdeal.S32x2048x1024 .f32} {M : FVec Ideal Cert.FfnRefIdeal.S36x1x6144 .f32}
  {g gf : FVec Ideal Cert.FfnRefIdeal.S1024 .f32} {W1 : FVec Ideal Cert.FfnRefIdeal.S1024x5632 .f32}
  {W2 : FVec Ideal Cert.FfnRefIdeal.S2816x1024 .f32} {H : FVec Ideal Cert.FfnRefIdeal.S32x2048x1024 .f32}
  {Z : FVec Ideal Cert.FfnRefIdeal.S32x2048x5632 .f32} {A : FVec Ideal Cert.FfnRefIdeal.S32x2048x2816 .f32}

/-- The first batch row's modulated input. -/
theorem modulated0 (v0 : Vec Ideal S1x256x1024 .f32) (v2 : Vec Ideal S1x1024 .f32) (v4 v6 : Vec Ideal S1x1x1024 .f32)
    (i : Fin 256) (b : Fin 32) (r : Fin 2048)
    (h0 : ∀ k, v0 (ix3 0 i k) = X (ix3 b r k)) (h2 : ∀ k, v2 (ix2 0 k) = g (ix1 k))
    (h4 : ∀ k : Fin 1024, v4 (ix3 0 0 k) = M (ix3 ⟨b.val, by omega⟩ 0 ⟨4096 + k.val, by omega⟩))
    (h6 : ∀ k : Fin 1024, v6 (ix3 0 0 k) = M (ix3 ⟨b.val, by omega⟩ 0 ⟨3072 + k.val, by omega⟩)) (k : Fin 1024) :
    k0_pay2 (F := Ideal) v0 v2 v4 v6 (ix2 i k) = modulated X M g (ix3 b r k) := by
  pointwise [k0_pay2, modulated, rmsNorm]
  simp only [h0, h2, h4, h6]

/-- The first batch row's activations. -/
theorem gated0 (v26 : FVec Ideal S256x1024 .bf16) (v54 : Vec Ideal S1024x5632 .bf16) (i : Fin 256) (b : Fin 32) (r : Fin 2048)
    (h26 : ∀ k, v26 (ix2 i k) = H (ix3 b r k)) (h54 : ∀ k j, v54 (ix2 k j) = W1 (ix2 k j)) (j : Fin 2816) :
    k0_pay7 (F := Ideal) v26 v54 (ix2 i j) = gated (firstProduct H W1) (ix3 b r j) := by
  pointwise [k0_pay7, gated, firstProduct]
  simp only [h26, h54, Cert.Sigmoid.eq]

/-- What is stored for the first batch row. -/
theorem stored0 (v71 : FVec Ideal S256x2816 .bf16) (v84 : Vec Ideal S2816x1024 .bf16) (v90 : Vec Ideal S1x256x1024 .f32)
    (v92 : Vec Ideal S1x1x1024 .f32) (v107 : Vec Ideal S1x1024 .f32) (i : Fin 256) (b : Fin 32) (r : Fin 2048)
    (h71 : ∀ j, v71 (ix2 i j) = A (ix3 b r j)) (h84 : ∀ j k, v84 (ix2 j k) = W2 (ix2 j k))
    (h90 : ∀ k, v90 (ix3 0 i k) = X (ix3 b r k))
    (h92 : ∀ k : Fin 1024, v92 (ix3 0 0 k) = M (ix3 ⟨b.val, by omega⟩ 0 ⟨5120 + k.val, by omega⟩))
    (h107 : ∀ k, v107 (ix2 0 k) = gf (ix1 k)) (k : Fin 1024) :
    k0_pay12 (F := Ideal) v71 v84 v90 v92 v107 (ix3 0 i k) = rmsNorm (withResidual X M A W2) gf (ix3 b r k) := by
  pointwise [k0_pay12, rmsNorm, withResidual]
  simp only [h71, h84, h90, h92, h107]

/-- The second batch row's first product. -/
theorem product1 (v28 : FVec Ideal S256x1024 .f32) (v30 : FVec Ideal S1x1024 .f32) (v32 : FVec Ideal S1x1024 .f32)
    (v33 : Vec Ideal S1x1x1024 .f32) (v57 : Vec Ideal S1024x5632 .bf16) (i : Fin 256) (b : Fin 32) (r : Fin 2048)
    (h28 : ∀ k, v28 (ix2 i k) = X (ix3 b r k)) (h30 : ∀ k, v30 (ix2 0 k) = g (ix1 k))
    (h32 : ∀ k : Fin 1024, v32 (ix2 0 k) = M (ix3 ⟨b.val, by omega⟩ 0 ⟨4096 + k.val, by omega⟩))
    (h33 : ∀ k : Fin 1024, v33 (ix3 0 0 k) = M (ix3 ⟨b.val, by omega⟩ 0 ⟨3072 + k.val, by omega⟩))
    (h57 : ∀ k j, v57 (ix2 k j) = W1 (ix2 k j)) (j : Fin 5632) :
    k0_pay6 (F := Ideal) v28 v30 v32 v33 v57 (ix2 i j) = firstProduct (modulated X M g) W1 (ix3 b r j) := by
  pointwise [k0_pay6, firstProduct, modulated, rmsNorm]
  simp only [h28, h30, h32, h33, h57]

/-- The second batch row's second product, from its first. -/
theorem second1 (v28 : FVec Ideal S256x1024 .f32) (v30 : FVec Ideal S1x1024 .f32) (v32 : FVec Ideal S1x1024 .f32)
    (v33 : Vec Ideal S1x1x1024 .f32) (v57 : Vec Ideal S1024x5632 .bf16) (v87 : Vec Ideal S2816x1024 .bf16)
    (i : Fin 256) (b : Fin 32) (r : Fin 2048)
    (hz : ∀ j, k0_pay6 (F := Ideal) v28 v30 v32 v33 v57 (ix2 i j) = Z (ix3 b r j))
    (h87 : ∀ j k, v87 (ix2 j k) = W2 (ix2 j k)) (k : Fin 1024) :
    k0_pay11 (F := Ideal) (k0_pay6 v28 v30 v32 v33 v57) (k0_pay8 v28 v30 v32 v33 v57) (k0_pay9 v28 v30 v32 v33 v57)
        (k0_pay10 (F := Ideal)) v87 (ix2 i k)
      = ∑ j : Fin 2816, gated Z (ix3 b r j) * W2 (ix2 j k) := by
  pointwise [k0_pay11, k0_pay8, k0_pay9, k0_pay10, gated]
  simp only [hz, h87, Cert.Sigmoid.eq]

/-- What is stored for the second batch row. -/
theorem stored1 (v89 : FVec Ideal S256x1024 .f32) (v114 : Vec Ideal S1x256x1024 .f32) (v116 : Vec Ideal S1x1x1024 .f32)
    (v131 : Vec Ideal S1x1024 .f32) (i : Fin 256) (b : Fin 32) (r : Fin 2048)
    (h89 : ∀ k, v89 (ix2 i k) = ∑ j : Fin 2816, A (ix3 b r j) * W2 (ix2 j k))
    (h114 : ∀ k, v114 (ix3 0 i k) = X (ix3 b r k))
    (h116 : ∀ k : Fin 1024, v116 (ix3 0 0 k) = M (ix3 ⟨b.val, by omega⟩ 0 ⟨5120 + k.val, by omega⟩))
    (h131 : ∀ k, v131 (ix2 0 k) = gf (ix1 k)) (k : Fin 1024) :
    k0_pay1 (F := Ideal) v89 v114 v116 v131 (ix3 0 i k) = rmsNorm (withResidual X M A W2) gf (ix3 b r k) := by
  pointwise [k0_pay1, rmsNorm, withResidual]
  simp only [h89, h114, h116, h131]

end Cert.FfnIdeal.Point
-- ==== Proof.Ffn.Value.lean ====
/- The feed-forward kernel's result array is the reference's result over the same arguments. -/
module

public import proofs.«01_k».proof.Proof.Ffn.Point

@[expose] public section

set_option maxRecDepth 16384
noncomputable section
open Idealize.ShloMosaic Idealize.ShloMosaic.TcCoe Idealize.SL.Sem
open Idealize.ShloMosaic.Pipeline (Dat)
open Cert.FfnRefIdeal.Steps

namespace Cert.FfnIdeal.Final
open Cert.FfnIdeal Cert.FfnIdeal.Gen Cert.FfnIdeal.Point

variable {X : FVec Ideal Cert.FfnRefIdeal.S32x2048x1024 .f32} {M : FVec Ideal Cert.FfnRefIdeal.S36x1x6144 .f32}
  {g gf : FVec Ideal Cert.FfnRefIdeal.S1024 .f32} {W1 : FVec Ideal Cert.FfnRefIdeal.S1024x5632 .f32}
  {W2 : FVec Ideal Cert.FfnRefIdeal.S2816x1024 .f32}

/-- A point's output block from its input blocks: row `i` of slot `s` is the reference's row `r` of batch entry `b`, when the
    input blocks hold the arguments' rows there. -/
theorem out_at (x0 : Vec Ideal S2x256x1024 .f32) (x1 x2 x3 : Vec Ideal S2x1x1024 .f32) (x4 : Vec Ideal S1x1024 .f32)
    (x5 : Vec Ideal S1024x5632 .bf16) (x6 : Vec Ideal S2816x1024 .bf16) (x7 : Vec Ideal S1x1024 .f32)
    (s : Fin 2) (i : Fin 256) (b : Fin 32) (r : Fin 2048)
    (h0 : ∀ k, x0 (ix3 s i k) = X (ix3 b r k))
    (h1 : ∀ k : Fin 1024, x1 (ix3 s 0 k) = M (ix3 ⟨b.val, by omega⟩ 0 ⟨3072 + k.val, by omega⟩))
    (h2 : ∀ k : Fin 1024, x2 (ix3 s 0 k) = M (ix3 ⟨b.val, by omega⟩ 0 ⟨4096 + k.val, by omega⟩))
    (h3 : ∀ k : Fin 1024, x3 (ix3 s 0 k) = M (ix3 ⟨b.val, by omega⟩ 0 ⟨5120 + k.val, by omega⟩))
    (h4 : ∀ k, x4 (ix2 0 k) = g (ix1 k)) (h5 : ∀ k j, x5 (ix2 k j) = W1 (ix2 k j))
    (h6 : ∀ k j, x6 (ix2 k j) = W2 (ix2 k j)) (h7 : ∀ k, x7 (ix2 0 k) = gf (ix1 k)) (k : Fin 1024) :
    out0_8 x0 x1 x2 x3 x4 x5 x6 x7 (ix3 s i k) = result X M g W1 W2 gf (ix3 b r k) := by
  unfold out0_8
  canon_tiles x hx
  · have hs : s = 1 := by
      have : (s : ℕ) = 1 + ↑(x 0) := hx0
      omega
    have h1' : (i : ℕ) = ↑(x 1) := hx1
    have h2' : (k : ℕ) = ↑(x 2) := hx2
    have hx : x = ix3 0 i k := by blk_ext
    subst hs hx
    exact stored1 _ _ _ _ i b r
      (second1 _ _ _ _ _ _ i b r
        (product1 (X := X) (M := M) (g := g) _ _ _ _ _ i b r
          (fun k => (by unfold k0_pay13; pointwise [k0_pay3, View.ld_unit] : _ = x0 (ix3 1 i k)).trans (h0 k))
          (fun k => (by unfold k0_pay14; pointwise [k0_pay4, View.ld_unit] : _ = x4 (ix2 0 k)).trans (h4 k))
          (fun k => (by unfold k0_pay15; pointwise [k0_pay5, View.ld_unit] : _ = x2 (ix3 1 0 k)).trans (h2 k))
          (fun k => (by pointwise [View.ld_unit] : _ = x1 (ix3 1 0 k)).trans (h1 k))
          (fun k j => (by pointwise [View.ld_unit] : _ = x5 (ix2 k j)).trans (h5 k j)))
        (fun k j => (by pointwise [View.ld_unit] : _ = x6 (ix2 k j)).trans (h6 k j)))
      (fun k => (by pointwise [View.ld_unit] : _ = x0 (ix3 1 i k)).trans (h0 k))
      (fun k => (by pointwise [View.ld_unit] : _ = x3 (ix3 1 0 k)).trans (h3 k))
      (fun k => (by pointwise [View.ld_unit] : _ = x7 (ix2 0 k)).trans (h7 k)) k
  · have hs : s = 0 := by
      have : (s : ℕ) = ↑(x 0) := hx0
      omega
    have h1' : (i : ℕ) = ↑(x 1) := hx1
    have h2' : (k : ℕ) = ↑(x 2) := hx2
    have hx : x = ix3 0 i k := by blk_ext
    subst hs hx
    exact stored0 _ _ _ _ _ i b r
      (gated0 _ _ i b r
        (modulated0 (X := X) (M := M) (g := g) _ _ _ _ i b r
          (fun k => (by pointwise [View.ld_unit] : _ = x0 (ix3 0 i k)).trans (h0 k))
          (fun k => (by pointwise [View.ld_unit] : _ = x4 (ix2 0 k)).trans (h4 k))
          (fun k => (by pointwise [View.ld_unit] : _ = x2 (ix3 0 0 k)).trans (h2 k))
          (fun k => (by pointwise [View.ld_unit] : _ = x1 (ix3 0 0 k)).trans (h1 k)))
        (fun k j => (by pointwise [View.ld_unit] : _ = x5 (ix2 k j)).trans (h5 k j)))
      (fun k j => (by pointwise [View.ld_unit] : _ = x6 (ix2 k j)).trans (h6 k j))
      (fun k => (by pointwise [View.ld_unit] : _ = x0 (ix3 0 i k)).trans (h0 k))
      (fun k => (by pointwise [View.ld_unit] : _ = x3 (ix3 0 0 k)).trans (h3 k))
      (fun k => (by pointwise [View.ld_unit] : _ = x7 (ix2 0 k)).trans (h7 k)) k

variable (m : (ℓ : Loc nD τ sig) → Buf (Elt Ideal) ℓ)

/-- The windows' index maps, in the number of the grid point. -/
theorem idx : ∀ t : Fin cfg0.N, win0_0.index t = ![t.val / 8, t.val % 8, 0] ∧ win0_1.index t = ![t.val / 8, 0, 3]
    ∧ win0_2.index t = ![t.val / 8, 0, 4] ∧ win0_3.index t = ![t.val / 8, 0, 5] ∧ win0_4.index t = ![0, 0]
    ∧ win0_5.index t = ![0, 0] ∧ win0_6.index t = ![0, 0] ∧ win0_7.index t = ![0, 0]
    ∧ win0_8.index t = ![t.val / 8, t.val % 8, 0] :=
  (by decide +kernel : ∀ t : Fin grid0.N, _)

/-- The result array after the run is the reference's result. -/
theorem final (c : Dev nD) : (dats m 0 c).arrAt 8 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  have ht : t.val < 128 := lt_of_lt_of_eq t.isLt (by decide)
  obtain ⟨s, i, k, rfl⟩ : ∃ (s : Fin 2) (i : Fin 256) (k : Fin 1024), y = ix3 s i k := ⟨y 0, y 1, y 2, by blk_ext⟩
  have hj : (win0_8.blk t).view.emb (ix3 s i k)
      = (ix3 (⟨2 * (t.val / 8) + s.val, by omega⟩ : Fin 32) (⟨256 * (t.val % 8) + i.val, by omega⟩ : Fin 2048) k : S32x2048x1024.Idx) := by
    blk_ext [idx t]
  rw [hj]
  refine out_at (X := m ((c : Thread nD τ).loc main_arg0)) (M := m ((c : Thread nD τ).loc main_arg1))
    (g := m ((c : Thread nD τ).loc main_arg2)) (W1 := m ((c : Thread nD τ).loc main_arg3))
    (W2 := m ((c : Thread nD τ).loc main_arg4)) (gf := m ((c : Thread nD τ).loc main_arg5)) _ _ _ _ _ _ _ _ s i _ _
    (fun k => ?_) (fun k => ?_) (fun k => ?_) (fun k => ?_) (fun k => ?_) (fun k j => ?_) (fun k j => ?_) (fun k => ?_) k
  all_goals (try blk_point [iblk, V, idx t])

end Cert.FfnIdeal.Final
-- ==== Proof.Ffn.Claim.lean ====
/- The claims about the feed-forward program that are not generated: the reference's frame and the equality of the results. -/
module

public import proofs.«01_k».proof.Defs
public import proofs.«01_k».proof.Proof.Ffn.Value
public import Idealize.ShloMosaic.Lib.Claim

@[expose] public section

set_option maxRecDepth 16384
noncomputable section
open Idealize.ShloMosaic Idealize.ShloMosaic.TcCoe Idealize.SL.Sem

namespace Cert.FfnIdeal.Final

/-- The reference terminates and leaves its arguments as they were. -/
theorem frame_reference : Cert.quiescent_FfnRefIdeal (hFfnRefIdeal := Cert.FfnRefIdeal.Gen.facts) := by
  intro m g _
  exact (θ_run Cert.FfnRefIdeal.defs _ _).mono
    (fun r h => ⟨fun c => (h c).2, sem_eq_zero_of_no_sems (by decide) r.2⟩) (Cert.FfnRefIdeal.Value.run m g)

/-- Kernel and reference end with the same result. -/
theorem algebraic : Cert.algebraic_FfnIdeal_FfnRefIdeal (hFfnIdeal := Cert.FfnIdeal.Gen.facts)
    (hFfnRefIdeal := Cert.FfnRefIdeal.Gen.facts) := by
  pair_intro
  · run_from Cert.FfnIdeal.Gen.run_main m g
  · run_from Cert.FfnRefIdeal.Value.run m' g'
    obtain ⟨h0, h1, h2, h3, h4, h5⟩ := hagree c
    refine (Cert.FfnRefIdeal.Steps.run_term m' c).trans (Eq.trans ?_ (final m c).symm)
    rw [h0, h1, h2, h3, h4, h5]

end Cert.FfnIdeal.Final
-- ==== Proof.Rows.lean ====
/- The mathematics of one token of the feed-forward part, as functions of rows: normalisation, modulation, products, gated
   activations, residual sum. The kernels' grid points and the references' arrays are both read as these. -/
module

public import proofs.«01_k».proof.Proof.Sigmoid

@[expose] public section

noncomputable section
open Idealize.ShloMosaic

namespace Cert.Rows

/-- `x / sqrt (mean (x²) + ε) · g`. -/
def normalised (x g : Fin 1024 → EReal) (k : Fin 1024) : EReal :=
  x k * Ideal.rsqrt (Ideal.div (∑ j, x j * x j) (Ideal.ofBits .f32 0x44800000#32) + Ideal.ofBits .f32 0x358637BD#32) * g k

/-- `normalised x · (1 + scale) + shift`. -/
def modulated (x g sc sh : Fin 1024 → EReal) (k : Fin 1024) : EReal := normalised x g k * (1 + sc k) + sh k

/-- A row times a matrix. -/
def product {n p : ℕ} (h : Fin n → EReal) (W : Fin n → Fin p → EReal) (j : Fin p) : EReal := ∑ k, h k * W k j

/-- `silu gate · up`, gate and up being the two halves of the row. -/
def gated (z : Fin 5632 → EReal) (j : Fin 2816) : EReal :=
  z ⟨j.val, by omega⟩ * Ideal.div 1 (1 + Ideal.exp (-z ⟨j.val, by omega⟩)) * z ⟨2816 + j.val, by omega⟩

/-- The feed-forward part of one token, with its residual sum. -/
def mixed (x g sc sh g2 : Fin 1024 → EReal) (W1 : Fin 1024 → Fin 5632 → EReal) (W2 : Fin 2816 → Fin 1024 → EReal)
    (k : Fin 1024) : EReal :=
  x k + g2 k * product (gated (product (modulated x g sc sh) W1)) W2 k

end Cert.Rows
-- ==== Proof.Mid.Point.lean ====
/- What one grid point of the feed-forward kernel (a layer's that is not the last) stores, step by step, as functions of the
   rows the point works on. -/
module

public import proofs.«01_k».proof.Proof.Rows
public import proofs.«01_k».proof.Proof.Gen.MidIdeal.Value
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Cert.MidIdeal.Point
open Cert.MidIdeal Cert.MidIdeal.Gen

variable {x g sc sh g2 : Fin 1024 → EReal} {W1 : Fin 1024 → Fin 5632 → EReal} {W2 : Fin 2816 → Fin 1024 → EReal}
  {h : Fin 1024 → EReal} {z : Fin 5632 → EReal} {a : Fin 2816 → EReal}

/-- The first batch row's modulated input. -/
theorem modulated0 (v0 : Vec Ideal S1x256x1024 .f32) (v2 : Vec Ideal S1x1024 .f32) (v4 v6 : Vec Ideal S1x1x1024 .f32)
    (i : Fin 256) (h0 : ∀ k, v0 (ix3 0 i k) = x k) (h2 : ∀ k, v2 (ix2 0 k) = g k) (h4 : ∀ k, v4 (ix3 0 0 k) = sc k)
    (h6 : ∀ k, v6 (ix3 0 0 k) = sh k) (k : Fin 1024) :
    k0_pay1 (F := Ideal) v0 v2 v4 v6 (ix2 i k) = Rows.modulated x g sc sh k := by
  pointwise [k0_pay1, Rows.modulated, Rows.normalised]
  simp only [h0, h2, h4, h6]

/-- The first batch row's activations. -/
theorem gated0 (v26 : FVec Ideal S256x1024 .bf16) (v54 : Vec Ideal S1024x5632 .bf16) (i : Fin 256)
    (h26 : ∀ k, v26 (ix2 i k) = h k) (h54 : ∀ k j, v54 (ix2 k j) = W1 k j) (j : Fin 2816) :
    k0_pay6 (F := Ideal) v26 v54 (ix2 i j) = Rows.gated (Rows.product h W1) j := by
  pointwise [k0_pay6, Rows.gated, Rows.product]
  simp only [h26, h54, Cert.Sigmoid.eq]

/-- What is stored for the first batch row. -/
theorem stored0 (v71 : FVec Ideal S256x2816 .bf16) (v84 : Vec Ideal S2816x1024 .bf16) (v90 : Vec Ideal S1x256x1024 .f32)
    (v92 : Vec Ideal S1x1x1024 .f32) (i : Fin 256) (h71 : ∀ j, v71 (ix2 i j) = a j) (h84 : ∀ j k, v84 (ix2 j k) = W2 j k)
    (h90 : ∀ k, v90 (ix3 0 i k) = x k) (h92 : ∀ k, v92 (ix3 0 0 k) = g2 k) (k : Fin 1024) :
    k0_pay10 (F := Ideal) v71 v84 v90 v92 (ix3 0 i k) = x k + g2 k * Rows.product a W2 k := by
  pointwise [k0_pay10, Rows.product]
  simp only [h71, h84, h90, h92]

/-- The second batch row's first product. -/
theorem product1 (v28 : FVec Ideal S256x1024 .f32) (v30 : FVec Ideal S1x1024 .f32) (v32 : FVec Ideal S1x1024 .f32)
    (v33 : Vec Ideal S1x1x1024 .f32) (v57 : Vec Ideal S1024x5632 .bf16) (i : Fin 256)
    (h28 : ∀ k, v28 (ix2 i k) = x k) (h30 : ∀ k, v30 (ix2 0 k) = g k) (h32 : ∀ k, v32 (ix2 0 k) = sc k)
    (h33 : ∀ k, v33 (ix3 0 0 k) = sh k) (h57 : ∀ k j, v57 (ix2 k j) = W1 k j) (j : Fin 5632) :
    k0_pay5 (F := Ideal) v28 v30 v32 v33 v57 (ix2 i j) = Rows.product (Rows.modulated x g sc sh) W1 j := by
  pointwise [k0_pay5, Rows.product, Rows.modulated, Rows.normalised]
  simp only [h28, h30, h32, h33, h57]

/-- What is stored for the second batch row, from its first product. -/
theorem stored1 (v28 : FVec Ideal S256x1024 .f32) (v30 : FVec Ideal S1x1024 .f32) (v32 : FVec Ideal S1x1024 .f32)
    (v33 : Vec Ideal S1x1x1024 .f32) (v57 : Vec Ideal S1024x5632 .bf16) (v87 : Vec Ideal S2816x1024 .bf16)
    (v100 : Vec Ideal S1x256x1024 .f32) (v102 : Vec Ideal S1x1x1024 .f32) (i : Fin 256)
    (hz : ∀ j, k0_pay5 (F := Ideal) v28 v30 v32 v33 v57 (ix2 i j) = z j) (h87 : ∀ j k, v87 (ix2 j k) = W2 j k)
    (h100 : ∀ k, v100 (ix3 0 i k) = x k) (h102 : ∀ k, v102 (ix3 0 0 k) = g2 k) (k : Fin 1024) :
    k0_pay11 (F := Ideal) (k0_pay5 v28 v30 v32 v33 v57) (k0_pay7 v28 v30 v32 v33 v57) (k0_pay8 v28 v30 v32 v33 v57)
        (k0_pay9 (F := Ideal)) v87 v100 v102 (ix3 0 i k)
      = x k + g2 k * Rows.product (Rows.gated z) W2 k := by
  pointwise [k0_pay11, k0_pay7, k0_pay8, k0_pay9, Rows.gated, Rows.product]
  simp only [hz, h87, h100, h102, Cert.Sigmoid.eq]

end Cert.MidIdeal.Point
-- ==== Proof.Mid.Reference.lean ====
/- The reference's composed term, cut into the steps of the mathematics, and each step read at one token as a function of
   that token's rows. -/
module

public import proofs.«01_k».proof.Proof.Rows
public import proofs.«01_k».proof.Proof.Gen.MidRefIdeal.Run
public import Idealize.ShloMosaic.PureOps.Ideal
public import Idealize.ShloMosaic.Lib.Pipeline.ValueKit

@[expose] public section

set_option maxRecDepth 16384
noncomputable section
open Idealize.ShloMosaic Idealize.ShloMosaic.TcCoe Idealize.SL.Sem

namespace Cert.MidRefIdeal.Steps
open Cert.MidRefIdeal Cert.MidRefIdeal.Gen

/-- Every token's modulation vectors: its batch entry's for a latent token, the context's for a context token. -/
def tokenMods (M : FVec Ideal S32x1x6144 .f32) (C : FVec Ideal S6144 .f32) : FVec Ideal S32x2304x6144 .f32 :=
  concatenate S32x2304x6144 1 [⟨S32x2048x6144, (broadcastInDim S32x2048x6144 ![0, 1, 2] bcast_S32x1x6144_S32x2048x6144_0_1_2 M)⟩,
    ⟨S32x256x6144, (broadcastInDim S32x256x6144 ![2] bcast_S6144_S32x256x6144_2 C)⟩]
    concatenates_S32x2048x6144_S32x256x6144_S32x2304x6144_d1

/-- The modulated input of the feed-forward part. -/
def modulatedInput (X : FVec Ideal S32x2304x1024 .f32) (T : FVec Ideal S32x2304x6144 .f32) (g : FVec Ideal S1024 .f32) :
    FVec Ideal S32x2304x1024 .f32 :=
  addf (mulf (mulf (mulf X (broadcastInDim S32x2304x1024 ![0, 1, 2] bcast_S32x2304x1_S32x2304x1024_0_1_2 (Host.rsqrt (addf
    (Host.divf (broadcastInDim S32x2304x1 ![0, 1] bcast_S32x2304_S32x2304x1_0_1
      (Host.reduceAdd (mulf X X) (constant S_ .f32 0x00000000#32) reducesTo_S32x2304x1024_S32x2304_d2 h_S_))
      (broadcastInDim S32x2304x1 ![] bcast_S_S32x2304x1 (constant S_ .f32 0x44800000#32)))
    (broadcastInDim S32x2304x1 ![] bcast_S_S32x2304x1 (constant S_ .f32 0x358637BD#32))))))
    (broadcastInDim S32x2304x1024 ![0, 1, 2] bcast_S1x1x1024_S32x2304x1024_0_1_2
      (broadcastInDim S1x1x1024 ![2] bcast_S1024_S1x1x1024_2 g)))
    (addf (broadcastInDim S32x2304x1024 ![] bcast_S_S32x2304x1024 (constant S_ .f32 0x3F800000#32))
      (extractStridedSlice S32x2304x1024 ![0, 0, 4096] T slices_S32x2304x6144_S32x2304x1024_0_0_4096)))
    (extractStridedSlice S32x2304x1024 ![0, 0, 3072] T slices_S32x2304x6144_S32x2304x1024_0_0_3072)

/-- The first product. -/
def firstProduct (H : FVec Ideal S32x2304x1024 .f32) (W : FVec Ideal S1024x5632 .f32) : FVec Ideal S32x2304x5632 .f32 :=
  Host.dotGeneral dot_S32x2304x1024_S1024x5632_S32x2304x5632_2_0_01_1_n_n none H W

/-- The gated activations. -/
def activations (Z : FVec Ideal S32x2304x5632 .f32) : FVec Ideal S32x2304x2816 .f32 :=
  mulf (mulf (extractStridedSlice S32x2304x2816 ![0, 0, 0] Z slices_S32x2304x5632_S32x2304x2816_0_0_0)
      (Host.divf (broadcastInDim S32x2304x2816 ![] bcast_S_S32x2304x2816 (constant S_ .f32 0x3F800000#32))
        (addf (broadcastInDim S32x2304x2816 ![] bcast_S_S32x2304x2816 (constant S_ .f32 0x3F800000#32))
          (Host.exp (Host.negf
            (extractStridedSlice S32x2304x2816 ![0, 0, 0] Z slices_S32x2304x5632_S32x2304x2816_0_0_0))))))
    (extractStridedSlice S32x2304x2816 ![0, 0, 2816] Z slices_S32x2304x5632_S32x2304x2816_0_0_2816)

/-- The residual sum. -/
def withResidual (X : FVec Ideal S32x2304x1024 .f32) (T : FVec Ideal S32x2304x6144 .f32) (A : FVec Ideal S32x2304x2816 .f32)
    (W : FVec Ideal S2816x1024 .f32) : FVec Ideal S32x2304x1024 .f32 :=
  addf X (mulf (extractStridedSlice S32x2304x1024 ![0, 0, 5120] T slices_S32x2304x6144_S32x2304x1024_0_0_5120)
    (Host.dotGeneral dot_S32x2304x2816_S2816x1024_S32x2304x1024_2_0_01_1_n_n none A W))

/-- The reference's whole result over its arguments. -/
def result (X : FVec Ideal S32x2304x1024 .f32) (M : FVec Ideal S32x1x6144 .f32) (C : FVec Ideal S6144 .f32)
    (g : FVec Ideal S1024 .f32) (W1 : FVec Ideal S1024x5632 .f32) (W2 : FVec Ideal S2816x1024 .f32) :
    FVec Ideal S32x2304x1024 .f32 :=
  withResidual X (tokenMods M C) (activations (firstProduct (modulatedInput X (tokenMods M C) g) W1)) W2

/-- The term the run of the reference ends with is that. -/
theorem run_term (m : (ℓ : Loc nD τ sig) → Buf (Elt Ideal) ℓ) (c : Dev nD) :
    Cert.MidRefIdeal.Value.res_out0 m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := rfl

variable (X : FVec Ideal S32x2304x1024 .f32) (T : FVec Ideal S32x2304x6144 .f32) (g : FVec Ideal S1024 .f32)
  (W1 : FVec Ideal S1024x5632 .f32) (W2 : FVec Ideal S2816x1024 .f32)

/-- The modulated input at a token. -/
theorem modulatedInput_at (b : Fin 32) (r : Fin 2304) (k : Fin 1024) :
    modulatedInput X T g (ix3 b r k)
      = Rows.modulated (fun k => X (ix3 b r k)) (fun k => g (ix1 k)) (fun k => T (ix3 b r ⟨4096 + k.val, by omega⟩))
          (fun k => T (ix3 b r ⟨3072 + k.val, by omega⟩)) k := by
  pointwise [modulatedInput, Rows.modulated, Rows.normalised]

/-- The first product at a token. -/
theorem firstProduct_at (H : FVec Ideal S32x2304x1024 .f32) (b : Fin 32) (r : Fin 2304) (j : Fin 5632) :
    firstProduct H W1 (ix3 b r j) = Rows.product (fun k => H (ix3 b r k)) (fun k j => W1 (ix2 k j)) j := by
  pointwise [firstProduct, Rows.product]

/-- The activations at a token. -/
theorem activations_at (Z : FVec Ideal S32x2304x5632 .f32) (b : Fin 32) (r : Fin 2304) (j : Fin 2816) :
    activations Z (ix3 b r j) = Rows.gated (fun k => Z (ix3 b r k)) j := by
  pointwise [activations, Rows.gated]

/-- The result at a token, in the token's rows. -/
theorem result_at (M : FVec Ideal S32x1x6144 .f32) (C : FVec Ideal S6144 .f32) (b : Fin 32) (r : Fin 2304) (k : Fin 1024) :
    result X M C g W1 W2 (ix3 b r k)
      = Rows.mixed (fun k => X (ix3 b r k)) (fun k => g (ix1 k)) (fun k => tokenMods M C (ix3 b r ⟨4096 + k.val, by omega⟩))
          (fun k => tokenMods M C (ix3 b r ⟨3072 + k.val, by omega⟩)) (fun k => tokenMods M C (ix3 b r ⟨5120 + k.val, by omega⟩))
          (fun k j => W1 (ix2 k j)) (fun j k => W2 (ix2 j k)) k := by
  simp only [Rows.mixed, result]
  rw [show Rows.modulated (fun k => X (ix3 b r k)) (fun k => g (ix1 k)) (fun k => tokenMods M C (ix3 b r ⟨4096 + k.val, by omega⟩))
      (fun k => tokenMods M C (ix3 b r ⟨3072 + k.val, by omega⟩)) = _ from funext fun k => (modulatedInput_at X _ g b r k).symm,
    show Rows.product _ (fun k j => W1 (ix2 k j)) = _ from funext fun j => (firstProduct_at W1 _ b r j).symm,
    show Rows.gated _ = _ from funext fun j => (activations_at _ b r j).symm]
  pointwise [withResidual, Rows.product]

/-- A latent token's modulation vectors. -/
theorem tokenMods_latent (M : FVec Ideal S32x1x6144 .f32) (C : FVec Ideal S6144 .f32) (b : Fin 32) (r : Fin 2304)
    (hr : r.val < 2048) (k : Fin 6144) : tokenMods M C (ix3 b r k) = M (ix3 b 0 k) := by
  pointwise [tokenMods]
  simp [hr]

/-- A context token's modulation vectors. -/
theorem tokenMods_context (M : FVec Ideal S32x1x6144 .f32) (C : FVec Ideal S6144 .f32) (b : Fin 32) (r : Fin 2304)
    (hr : 2048 ≤ r.val) (k : Fin 6144) : tokenMods M C (ix3 b r k) = C (ix1 k) := by
  pointwise [tokenMods]
  simp [hr]

end Cert.MidRefIdeal.Steps
-- ==== Proof.Mid.Value.lean ====
/- The feed-forward kernel's result array (a layer's that is not the last) is the reference's result over the same arguments. -/
module

public import proofs.«01_k».proof.Proof.Mid.Point
public import proofs.«01_k».proof.Proof.Mid.Reference

@[expose] public section

set_option maxRecDepth 16384
noncomputable section
open Idealize.ShloMosaic Idealize.ShloMosaic.TcCoe Idealize.SL.Sem
open Idealize.ShloMosaic.Pipeline (Dat)
open Cert.MidRefIdeal.Steps

namespace Cert.MidIdeal.Final
open Cert.MidIdeal Cert.MidIdeal.Gen Cert.MidIdeal.Point

variable {x g sc sh g2 : Fin 1024 → EReal} {W1 : Fin 1024 → Fin 5632 → EReal} {W2 : Fin 2816 → Fin 1024 → EReal}

/-- A point's output block from its input blocks: row `i` of slot `s` is the token computed from that row's inputs. -/
theorem out_at (x0 : Vec Ideal S2x256x1024 .f32) (x1 x2 x3 : Vec Ideal S2x1x1024 .f32) (x4 : Vec Ideal S1x1024 .f32)
    (x5 : Vec Ideal S1024x5632 .bf16) (x6 : Vec Ideal S2816x1024 .bf16) (x7 : Vec Ideal S1x1024 .f32)
    (s : Fin 2) (i : Fin 256) (h0 : ∀ k, x0 (ix3 s i k) = x k) (h1 : ∀ k, x1 (ix3 s 0 k) = sh k)
    (h2 : ∀ k, x2 (ix3 s 0 k) = sc k) (h3 : ∀ k, x3 (ix3 s 0 k) = g2 k) (h4 : ∀ k, x4 (ix2 0 k) = g k)
    (h5 : ∀ k j, x5 (ix2 k j) = W1 k j) (h6 : ∀ k j, x6 (ix2 k j) = W2 k j) (k : Fin 1024) :
    out0_8 x0 x1 x2 x3 x4 x5 x6 x7 (ix3 s i k) = Rows.mixed x g sc sh g2 W1 W2 k := by
  unfold out0_8
  canon_tiles x hx
  · have hs : s = 1 := by
      have : (s : ℕ) = 1 + ↑(x 0) := hx0
      omega
    have h1' : (i : ℕ) = ↑(x 1) := hx1
    have h2' : (k : ℕ) = ↑(x 2) := hx2
    have hx : x = ix3 0 i k := by blk_ext
    subst hs hx
    exact stored1 _ _ _ _ _ _ _ _ i
      (product1 _ _ _ _ _ i
        (fun k => (by unfold k0_pay12; pointwise [k0_pay2, View.ld_unit] : _ = x0 (ix3 1 i k)).trans (h0 k))
        (fun k => (by unfold k0_pay13; pointwise [k0_pay3, View.ld_unit] : _ = x4 (ix2 0 k)).trans (h4 k))
        (fun k => (by unfold k0_pay14; pointwise [k0_pay4, View.ld_unit] : _ = x2 (ix3 1 0 k)).trans (h2 k))
        (fun k => (by pointwise [View.ld_unit] : _ = x1 (ix3 1 0 k)).trans (h1 k))
        (fun k j => (by pointwise [View.ld_unit] : _ = x5 (ix2 k j)).trans (h5 k j)))
      (fun k j => (by pointwise [View.ld_unit] : _ = x6 (ix2 k j)).trans (h6 k j))
      (fun k => (by pointwise [View.ld_unit] : _ = x0 (ix3 1 i k)).trans (h0 k))
      (fun k => (by pointwise [View.ld_unit] : _ = x3 (ix3 1 0 k)).trans (h3 k)) k
  · have hs : s = 0 := by
      have : (s : ℕ) = ↑(x 0) := hx0
      omega
    have h1' : (i : ℕ) = ↑(x 1) := hx1
    have h2' : (k : ℕ) = ↑(x 2) := hx2
    have hx : x = ix3 0 i k := by blk_ext
    subst hs hx
    exact stored0 _ _ _ _ i
      (gated0 _ _ i
        (modulated0 _ _ _ _ i
          (fun k => (by pointwise [View.ld_unit] : _ = x0 (ix3 0 i k)).trans (h0 k))
          (fun k => (by pointwise [View.ld_unit] : _ = x4 (ix2 0 k)).trans (h4 k))
          (fun k => (by pointwise [View.ld_unit] : _ = x2 (ix3 0 0 k)).trans (h2 k))
          (fun k => (by pointwise [View.ld_unit] : _ = x1 (ix3 0 0 k)).trans (h1 k)))
        (fun k j => (by pointwise [View.ld_unit] : _ = x5 (ix2 k j)).trans (h5 k j)))
      (fun k j => (by pointwise [View.ld_unit] : _ = x6 (ix2 k j)).trans (h6 k j))
      (fun k => (by pointwise [View.ld_unit] : _ = x0 (ix3 0 i k)).trans (h0 k))
      (fun k => (by pointwise [View.ld_unit] : _ = x3 (ix3 0 0 k)).trans (h3 k)) k

variable (m : (ℓ : Loc nD τ sig) → Buf (Elt Ideal) ℓ)

/-- The modulation rows the kernel is given: the batch entries', then the context's four times. -/
def hostMods (M : FVec Ideal S32x1x6144 .f32) (C : FVec Ideal S6144 .f32) : FVec Ideal S36x1x6144 .f32 :=
  concatenate S36x1x6144 0 [⟨S32x1x6144, M⟩, ⟨S4x1x6144, broadcastInDim S4x1x6144 ![0, 1, 2] bcast_S1x1x6144_S4x1x6144_0_1_2
    (shapeCast S1x1x6144 C shapeCasts_S6144_S1x1x6144)⟩] concatenates_S32x1x6144_S4x1x6144_S36x1x6144_d0

theorem hostMods_latent (M : FVec Ideal S32x1x6144 .f32) (C : FVec Ideal S6144 .f32) (q : Fin 36) (b : Fin 32)
    (h : q.val = b.val) (k : Fin 6144) : hostMods M C (ix3 q 0 k) = M (ix3 b 0 k) := by
  pointwise [hostMods]
  simp [h]

theorem hostMods_context (M : FVec Ideal S32x1x6144 .f32) (C : FVec Ideal S6144 .f32) (q : Fin 36) (h : 32 ≤ q.val)
    (k : Fin 6144) : hostMods M C (ix3 q 0 k) = C (ix1 k) := by
  pointwise [hostMods]
  simp [h]

/-- The block row of the modulation array: the batch pair's for the eight latent tiles, row 16 for the context tile. -/
theorem idx : ∀ t : Fin cfg0.N, win0_0.index t = ![t.val / 9, t.val % 9, 0]
    ∧ win0_1.index t = ![if t.val % 9 < 8 then t.val / 9 else 16, 0, 3]
    ∧ win0_2.index t = ![if t.val % 9 < 8 then t.val / 9 else 16, 0, 4]
    ∧ win0_3.index t = ![if t.val % 9 < 8 then t.val / 9 else 16, 0, 5] ∧ win0_4.index t = ![0, 0]
    ∧ win0_5.index t = ![0, 0] ∧ win0_6.index t = ![0, 0] ∧ win0_7.index t = ![0, 0]
    ∧ win0_8.index t = ![t.val / 9, t.val % 9, 0] :=
  (by decide +kernel : ∀ t : Fin grid0.N, _)

/-- The result array after the run is the reference's result. -/
theorem final (c : Dev nD) : (dats m 0 c).arrAt 8 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  have ht : t.val < 144 := lt_of_lt_of_eq t.isLt (by decide)
  obtain ⟨s, i, k, rfl⟩ : ∃ (s : Fin 2) (i : Fin 256) (k : Fin 1024), y = ix3 s i k := ⟨y 0, y 1, y 2, by blk_ext⟩
  have hj : (win0_8.blk t).view.emb (ix3 s i k)
      = (ix3 (⟨2 * (t.val / 9) + s.val, by omega⟩ : Fin 32) (⟨256 * (t.val % 9) + i.val, by omega⟩ : Fin 2304) k : S32x2304x1024.Idx) := by
    blk_ext [idx t]
  rw [hj, result_at]
  refine out_at _ _ _ _ _ _ _ _ s i (fun k => ?_) (fun k => ?_) (fun k => ?_) (fun k => ?_) (fun k => ?_) (fun k j => ?_)
    (fun k j => ?_) k
  all_goals (try blk_point [iblk, V, idx t])
  all_goals
    obtain ⟨-, h1, h2, h3, -⟩ := idx t
    by_cases h8 : t.val % 9 < 8
    · rw [if_pos h8] at h1 h2 h3
      rw [tokenMods_latent _ _ _ _ (by show 256 * (t.val % 9) + i.val < 2048; omega)]
      refine Eq.trans ?_ (hostMods_latent _ (m ((c : Thread nD τ).loc main_arg2)) ⟨t.val / 9 * 2 + s.val, by omega⟩ _
        (by show t.val / 9 * 2 + s.val = 2 * (t.val / 9) + s.val; omega) _)
      blk_point [iblk, V, h1, h2, h3, hostMods]
    · rw [if_neg h8] at h1 h2 h3
      rw [tokenMods_context _ _ _ _ (by show 2048 ≤ 256 * (t.val % 9) + i.val; omega)]
      refine Eq.trans ?_ (hostMods_context (m ((c : Thread nD τ).loc main_arg1)) _ ⟨16 * 2 + s.val, by omega⟩ (by simp) _)
      blk_point [iblk, V, h1, h2, h3, hostMods]

end Cert.MidIdeal.Final
-- ==== Proof.Mid.Claim.lean ====
/- The claims about the feed-forward program that are not generated: the reference's frame and the equality of the results. -/
module

public import proofs.«01_k».proof.Defs
public import proofs.«01_k».proof.Proof.Mid.Value
public import Idealize.ShloMosaic.Lib.Claim

@[expose] public section

set_option maxRecDepth 16384
noncomputable section
open Idealize.ShloMosaic Idealize.ShloMosaic.TcCoe Idealize.SL.Sem

namespace Cert.MidIdeal.Final

/-- The reference terminates and leaves its arguments as they were. -/
theorem frame_reference : Cert.quiescent_MidRefIdeal (hMidRefIdeal := Cert.MidRefIdeal.Gen.facts) := by
  intro m g _
  exact (θ_run Cert.MidRefIdeal.defs _ _).mono
    (fun r h => ⟨fun c => (h c).2, sem_eq_zero_of_no_sems (by decide) r.2⟩) (Cert.MidRefIdeal.Value.run m g)

/-- Kernel and reference end with the same result. -/
theorem algebraic : Cert.algebraic_MidIdeal_MidRefIdeal (hMidIdeal := Cert.MidIdeal.Gen.facts)
    (hMidRefIdeal := Cert.MidRefIdeal.Gen.facts) := by
  pair_intro
  · run_from Cert.MidIdeal.Gen.run_main m g
  · run_from Cert.MidRefIdeal.Value.run m' g'
    obtain ⟨h0, h1, h2, h3, h4, h5, -⟩ := hagree c
    refine (Cert.MidRefIdeal.Steps.run_term m' c).trans (Eq.trans ?_ (final m c).symm)
    rw [h0, h1, h2, h3, h4, h5]

end Cert.MidIdeal.Final
-- ==== Proof.Reals.lean ====
/- Which of the programs' operations take finite extended reals to finite ones, and the laws of addition and multiplication
   that the extended reals keep. -/
module

public import proofs.«01_k».proof.Proof.Sigmoid

@[expose] public section

noncomputable section
open Idealize.ShloMosaic

namespace Cert

/-- An extended real is finite: it is a real number. -/
def IsReal (x : EReal) : Prop := ∃ r : ℝ, x = r

namespace IsReal
variable {x y : EReal}

theorem coe (r : ℝ) : IsReal (r : EReal) := ⟨r, rfl⟩

theorem zero : IsReal 0 := ⟨0, rfl⟩

theorem one : IsReal 1 := ⟨1, rfl⟩

theorem add (hx : IsReal x) (hy : IsReal y) : IsReal (x + y) := by
  obtain ⟨a, rfl⟩ := hx; obtain ⟨b, rfl⟩ := hy; exact ⟨a + b, rfl⟩

theorem mul (hx : IsReal x) (hy : IsReal y) : IsReal (x * y) := by
  obtain ⟨a, rfl⟩ := hx; obtain ⟨b, rfl⟩ := hy; exact ⟨a * b, rfl⟩

theorem sum {ι : Type*} (s : Finset ι) {f : ι → EReal} (h : ∀ i, IsReal (f i)) : IsReal (∑ i ∈ s, f i) := by
  classical
  induction s using Finset.induction_on with
  | empty => exact zero
  | insert i s hi ih => rw [Finset.sum_insert hi]; exact (h i).add ih

theorem tanh (x : EReal) : IsReal (Ideal.tanh x) := by
  induction x using EReal.rec with
  | bot => exact ⟨-1, rfl⟩
  | coe r => exact ⟨_, rfl⟩
  | top => exact ⟨1, rfl⟩

theorem logistic (x : EReal) : IsReal (Ideal.div 1 (1 + Ideal.exp (-x))) := by
  change IsReal (Ideal.logistic x)
  induction x using EReal.rec with
  | bot => exact ⟨0, Ideal.logistic_bot⟩
  | coe r => exact ⟨_, Ideal.logistic_coe r⟩
  | top => exact ⟨1, Ideal.logistic_top⟩

theorem rsqrt {r : ℝ} (h : 0 < r) : IsReal (Ideal.rsqrt r) := by
  rw [Ideal.rsqrt_coe, if_neg (not_lt.mpr h.le), if_neg h.ne']; exact ⟨_, rfl⟩

theorem half : IsReal (Ideal.ofBits .f32 0x3F000000#32) := ⟨_, Sigmoid.half⟩

/-- A finite extended real of absolute value below the top is what the programs' finiteness test says. -/
theorem of_abs_lt (h : max x (-x) < ⊤) : IsReal x := by
  induction x using EReal.rec with
  | bot => simp at h
  | coe r => exact ⟨r, rfl⟩
  | top => simp at h

end IsReal

/-- A sum of reals, read among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A nonnegative real factor distributes over a sum of extended reals. -/
theorem coe_mul_sum {ι : Type*} (s : Finset ι) (f : ι → EReal) {c : ℝ} (hc : 0 ≤ c) :
    (c : EReal) * ∑ i ∈ s, f i = ∑ i ∈ s, (c : EReal) * f i := by
  classical
  induction s using Finset.induction_on with
  | empty => simp
  | insert i s hi ih =>
    rw [Finset.sum_insert hi, Finset.sum_insert hi, EReal.left_distrib_of_nonneg_of_ne_top (by exact_mod_cast hc) (EReal.coe_ne_top c), ih]

end Cert
-- ==== Proof.Merge.Rows.lean ====
/- The mathematics of one token of the merge of the four branches, as functions of rows: in the form the kernel computes it
   and in the reference's; where the branches are finite the two forms are equal. -/
module

public import proofs.«01_k».proof.Proof.Rows
public import proofs.«01_k».proof.Proof.Reals

@[expose] public section

noncomputable section
open Idealize.ShloMosaic

namespace Cert.Merging

/-- The Gaussian error linear unit by its `tanh` form. -/
def gelu (u : EReal) : EReal :=
  Ideal.ofBits .f32 0x3F000000#32 * u * (1 + Ideal.tanh (Ideal.ofBits .f32 0x3F4C422A#32
    * (u + Ideal.ofBits .f32 0x3D372713#32 * (u * u * u))))

/-- The logistic function. -/
def logistic (x : EReal) : EReal := Ideal.div 1 (1 + Ideal.exp (-x))

/-- The readout of the state space branch: `y · logistic (y G + b)`. -/
def readout (y : Fin 256 → EReal) (G : Fin 256 → Fin 256 → EReal) (b : Fin 256 → EReal) (w : Fin 256) : EReal :=
  y w * logistic (Rows.product y G w + b w)

/-- The recurrent branch's output: normalised by the mean square `ms`, gained, and gated by `silu z`. -/
def gatedNorm (o ms gain z : Fin 256 → EReal) (w : Fin 256) : EReal :=
  o w * Ideal.rsqrt (ms w + Ideal.ofBits .f32 0x358637BD#32) * gain w * (z w * logistic (z w))

/-- One branch's term in the kernel, of the weights it is given: `tanh (h V) · (y U) + y U`. -/
def kernelTerm (h : Fin 1024 → EReal) (V : Fin 1024 → Fin 1024 → EReal) (y : Fin 256 → EReal) (U : Fin 256 → Fin 1024 → EReal)
    (k : Fin 1024) : EReal :=
  Ideal.tanh (Rows.product h V k) * Rows.product y U k + Rows.product y U k

/-- One branch's term in the reference: `logistic (h V) · (y U)`. -/
def term (h : Fin 1024 → EReal) (V : Fin 1024 → Fin 1024 → EReal) (y : Fin 256 → EReal) (U : Fin 256 → Fin 1024 → EReal)
    (k : Fin 1024) : EReal :=
  logistic (Rows.product h V k) * Rows.product y U k

/-- The token's result from the four terms. -/
def merged (x g1 : Fin 1024 → EReal) (t0 t1 t2 t3 : Fin 1024 → EReal) (Wo : Fin 1024 → Fin 1024 → EReal) (k : Fin 1024) : EReal :=
  x k + g1 k * Rows.product (fun j => t0 j + t1 j + t2 j + t3 j) Wo k

/-- A product with halved weights is half the product. -/
theorem product_half {n p : ℕ} (h : Fin n → EReal) (V : Fin n → Fin p → EReal) (k : Fin p) :
    Rows.product h (fun i j => Ideal.ofBits .f32 0x3F000000#32 * V i j) k
      = Ideal.ofBits .f32 0x3F000000#32 * Rows.product h V k := by
  unfold Rows.product
  rw [Sigmoid.half, coe_mul_sum _ _ (by norm_num)]
  exact Finset.sum_congr rfl fun i _ => mul_left_comm ..

/-- The kernel's term of the halved weights is the reference's term of the weights, for a finite branch. -/
theorem kernelTerm_half (h : Fin 1024 → EReal) (V : Fin 1024 → Fin 1024 → EReal) {y : Fin 256 → EReal}
    {U : Fin 256 → Fin 1024 → EReal} (hy : ∀ w, IsReal (y w)) (hU : ∀ w k, IsReal (U w k)) (k : Fin 1024) :
    kernelTerm h (fun i j => Ideal.ofBits .f32 0x3F000000#32 * V i j) y (fun i j => Ideal.ofBits .f32 0x3F000000#32 * U i j) k
      = term h V y U k := by
  unfold kernelTerm term logistic
  rw [product_half, product_half, ← Sigmoid.eq]
  obtain ⟨p, hp⟩ : IsReal (Rows.product y U k) := IsReal.sum _ fun w => (hy w).mul (hU w k)
  obtain ⟨t, ht⟩ := IsReal.tanh (Ideal.ofBits .f32 0x3F000000#32 * Rows.product h V k)
  rw [hp, ht, Sigmoid.half]
  norm_cast
  ring

theorem gelu_real {u : EReal} (hu : IsReal u) : IsReal (gelu u) :=
  (IsReal.half.mul hu).mul (IsReal.one.add (IsReal.tanh _))

theorem readout_real {y : Fin 256 → EReal} (G : Fin 256 → Fin 256 → EReal) (b : Fin 256 → EReal) (hy : ∀ w, IsReal (y w))
    (w : Fin 256) : IsReal (readout y G b w) := (hy w).mul (IsReal.logistic _)

/-- The mean square over the 64 lanes of a lane's head. -/
def meanSquare (o : Fin 256 → EReal) (w : Fin 256) : EReal :=
  Ideal.div (∑ d : Fin 64, o ⟨w.val / 64 * 64 + d.val, by omega⟩ * o ⟨w.val / 64 * 64 + d.val, by omega⟩)
    (Ideal.ofBits .f32 0x42800000#32)

theorem word_64 : Ideal.ofBits .f32 0x42800000#32 = ((64 : ℝ) : EReal) := by
  simp [Ideal.ofBits, Ideal.ieee, -EReal.coe_mul]; norm_num

theorem word_eps : Ideal.ofBits .f32 0x358637BD#32 = ((8796093 / 8796093022208 : ℝ) : EReal) := by
  simp [Ideal.ofBits, Ideal.ieee, -EReal.coe_mul]; norm_num

theorem gatedNorm_real {o gain z : Fin 256 → EReal} (ho : ∀ w, IsReal (o w)) (hg : ∀ w, IsReal (gain w)) (hz : ∀ w, IsReal (z w))
    (w : Fin 256) : IsReal (gatedNorm o (meanSquare o) gain z w) := by
  refine (((ho w).mul ?_).mul (hg w)).mul ((hz w).mul (IsReal.logistic _))
  choose r hr using ho
  unfold meanSquare
  simp only [hr]
  rw [word_64, word_eps, Ideal.div_coe (by norm_num)]
  simp only [← EReal.coe_mul]
  rw [← coe_sum, ← EReal.coe_mul, ← EReal.coe_add]
  refine IsReal.rsqrt (add_pos_of_nonneg_of_pos (mul_nonneg (Finset.sum_nonneg fun d _ => mul_self_nonneg _) (by norm_num)) (by norm_num))

/-- The averaging matrix: `1/64` where two lanes are of one head, else 0. -/
def averaging (v w : Fin 256) : EReal :=
  Ideal.div (if v.val / 64 = w.val / 64 then 1 else 0) (Ideal.ofBits .f32 0x42800000#32)

/-- The squares' product with the averaging matrix is the mean square. -/
theorem average (o : Fin 256 → EReal) (w : Fin 256) :
    Rows.product (fun v => o v * o v) averaging w
      = meanSquare o w := by
  unfold Rows.product meanSquare averaging
  simp only [word_64, Ideal.div_coe (show (64 : ℝ) ≠ 0 by norm_num), ite_mul, one_mul, zero_mul]
  rw [mul_comm (∑ _, _), coe_mul_sum _ _ (by norm_num)]
  simp only [mul_ite, mul_zero]
  rw [← Finset.sum_filter]
  symm
  refine Finset.sum_bij (fun (d : Fin 64) _ => (⟨w.val / 64 * 64 + d.val, by omega⟩ : Fin 256)) ?_ ?_ ?_ ?_
  · intro d _; simp; omega
  · intro d _ e _ h; simp at h; exact Fin.ext h
  · intro v hv
    simp at hv
    exact ⟨⟨v.val % 64, by omega⟩, Finset.mem_univ _, Fin.ext (by simp; omega)⟩
  · intro d _; exact mul_comm _ _

/-- A token's result, in the token's rows: the four branches read out, gated and projected, and their sum with the residual. -/
def token (x g1 : Fin 1024 → EReal) (h : Fin 1024 → EReal) (yf yb u o y1 y3 z d c gain : Fin 256 → EReal)
    (G : Fin 256 → Fin 256 → EReal) (V : Fin 4 → Fin 1024 → Fin 1024 → EReal) (U : Fin 4 → Fin 256 → Fin 1024 → EReal)
    (Wo : Fin 1024 → Fin 1024 → EReal) (k : Fin 1024) : EReal :=
  merged x g1 (term h (V 0) (readout (fun w => gelu (yf w + yb w + d w * u w)) G c) (U 0)) (term h (V 1) y1 (U 1))
    (term h (V 2) (gatedNorm o (meanSquare o) gain z) (U 2)) (term h (V 3) y3 (U 3)) Wo k

/-- The kernel's form of it, from the weights and the averaging matrix it is given. -/
def kernelToken (x g1 : Fin 1024 → EReal) (h : Fin 1024 → EReal) (yf yb u o o' y1 y3 z d c gain : Fin 256 → EReal)
    (G A : Fin 256 → Fin 256 → EReal) (V : Fin 4 → Fin 1024 → Fin 1024 → EReal) (U : Fin 4 → Fin 256 → Fin 1024 → EReal)
    (Wo : Fin 1024 → Fin 1024 → EReal) (k : Fin 1024) : EReal :=
  merged x g1 (kernelTerm h (V 0) (readout (fun w => gelu (yf w + yb w + d w * u w)) G c) (U 0)) (kernelTerm h (V 1) y1 (U 1))
    (kernelTerm h (V 2) (gatedNorm (fun w => o w + o' w) (Rows.product (fun v => (o v + o' v) * (o v + o' v)) A) gain z) (U 2))
    (kernelTerm h (V 3) y3 (U 3)) Wo k

/-- The two are equal, with the halved weights and the averaging matrix, where the branches are finite. -/
theorem token_eq {x g1 : Fin 1024 → EReal} {h : Fin 1024 → EReal} {yf yb u o o' y1 y3 z d c gain : Fin 256 → EReal}
    {G : Fin 256 → Fin 256 → EReal} {V : Fin 4 → Fin 1024 → Fin 1024 → EReal} {U : Fin 4 → Fin 256 → Fin 1024 → EReal}
    {Wo : Fin 1024 → Fin 1024 → EReal} (hyf : ∀ w, IsReal (yf w)) (hyb : ∀ w, IsReal (yb w)) (hu : ∀ w, IsReal (u w))
    (ho : ∀ w, IsReal (o w)) (ho' : ∀ w, IsReal (o' w)) (hy1 : ∀ w, IsReal (y1 w)) (hy3 : ∀ w, IsReal (y3 w))
    (hz : ∀ w, IsReal (z w)) (hd : ∀ w, IsReal (d w)) (hgain : ∀ w, IsReal (gain w)) (hU : ∀ j w k, IsReal (U j w k))
    (k : Fin 1024) :
    kernelToken x g1 h yf yb u o o' y1 y3 z d c gain G averaging (fun j i k => Ideal.ofBits .f32 0x3F000000#32 * V j i k)
        (fun j w k => Ideal.ofBits .f32 0x3F000000#32 * U j w k) Wo k
      = token x g1 h yf yb u (fun w => o w + o' w) y1 y3 z d c gain G V U Wo k := by
  have havg : Rows.product (fun v => (o v + o' v) * (o v + o' v)) averaging = meanSquare fun w => o w + o' w :=
    funext fun w => average (fun w => o w + o' w) w
  unfold token kernelToken
  rw [havg,
    funext fun k => kernelTerm_half h (V 0) (readout_real G c fun w => gelu_real (((hyf w).add (hyb w)).add ((hd w).mul (hu w)))) (hU 0) k,
    funext fun k => kernelTerm_half h (V 1) hy1 (hU 1) k,
    funext fun k => kernelTerm_half h (V 2) (gatedNorm_real (fun w => (ho w).add (ho' w)) hgain hz) (hU 2) k,
    funext fun k => kernelTerm_half h (V 3) hy3 (hU 3) k]

end Cert.Merging
-- ==== Proof.Merge.Point.lean ====
/- What one grid point of the merge kernel stores, step by step, as functions of the rows the point works on. -/
module

public import proofs.«01_k».proof.Proof.Merge.Rows
public import proofs.«01_k».proof.Proof.Gen.MergeIdeal.Value
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Cert.MergeIdeal.Point
open Cert.MergeIdeal Cert.MergeIdeal.Gen Cert.Merging

variable {yf yb d u y b o o' ms gain z : Fin 256 → EReal} {G A : Fin 256 → Fin 256 → EReal} {h : Fin 1024 → EReal}
  {V Wo : Fin 1024 → Fin 1024 → EReal} {U : Fin 256 → Fin 1024 → EReal} {t t' t0 t1 t2 t3 x g1 : Fin 1024 → EReal}

/-- The first batch row's `gelu` of the state space branch. -/
theorem gelu0 (v0 v2 : Vec Ideal S1x256x256 .f32) (v5 : Vec Ideal S1x256 .f32) (v7 : Vec Ideal S1x256x256 .f32) (i : Fin 256)
    (h0 : ∀ w, v0 (ix3 0 i w) = yf w) (h2 : ∀ w, v2 (ix3 0 i w) = yb w) (h5 : ∀ w, v5 (ix2 0 w) = d w)
    (h7 : ∀ w, v7 (ix3 0 i w) = u w) (w : Fin 256) :
    k0_pay2 (F := Ideal) v0 v2 v5 v7 (ix2 i w) = gelu (yf w + yb w + d w * u w) := by
  pointwise [k0_pay2, gelu]
  simp only [h0, h2, h5, h7]

/-- The second batch row's. -/
theorem gelu1 (v29 : FVec Ideal S256x256 .f32) (v31 : FVec Ideal S1x256 .f32) (v32 : Vec Ideal S1x256x256 .f32) (i : Fin 256)
    (h29 : ∀ w, v29 (ix2 i w) = yf w + yb w) (h31 : ∀ w, v31 (ix2 0 w) = d w) (h32 : ∀ w, v32 (ix3 0 i w) = u w) (w : Fin 256) :
    k0_pay5 (F := Ideal) v29 v31 v32 (ix2 i w) = gelu (yf w + yb w + d w * u w) := by
  pointwise [k0_pay5, gelu]
  simp only [h29, h31, h32]

/-- The first batch row's readout. -/
theorem readout0 (v24 : FVec Ideal S256x256 .f32) (v51 : Vec Ideal S256x256 .bf16) (v82 : Vec Ideal S1x256 .f32) (i : Fin 256)
    (h24 : ∀ w, v24 (ix2 i w) = y w) (h51 : ∀ v w, v51 (ix2 v w) = G v w) (h82 : ∀ w, v82 (ix2 0 w) = b w) (w : Fin 256) :
    k0_pay13 (F := Ideal) v24 (k0_pay6 v24 v51) v82 (ix2 i w) = readout y G b w := by
  pointwise [k0_pay13, k0_pay6, readout, Merging.logistic, Rows.product]
  simp only [h24, h51, h82, Cert.Sigmoid.eq]

/-- The second batch row's. -/
theorem readout1 (v29 : FVec Ideal S256x256 .f32) (v31 : FVec Ideal S1x256 .f32) (v32 : Vec Ideal S1x256x256 .f32)
    (v55 : Vec Ideal S256x256 .bf16) (v94 : Vec Ideal S1x256 .f32) (i : Fin 256)
    (hy : ∀ w, k0_pay5 (F := Ideal) v29 v31 v32 (ix2 i w) = y w) (h55 : ∀ v w, v55 (ix2 v w) = G v w)
    (h94 : ∀ w, v94 (ix2 0 w) = b w) (w : Fin 256) :
    k0_pay14 (F := Ideal) (k0_pay5 v29 v31 v32) (k0_pay7 v29 v31 v32 v55) v94 (ix2 i w) = readout y G b w := by
  pointwise [k0_pay14, k0_pay7, readout, Merging.logistic, Rows.product]
  simp only [hy, h55, h94, Cert.Sigmoid.eq]

/-- The first batch row's recurrent branch. -/
theorem gated0 (v58 v61 : Vec Ideal S1x256x256 .bf16) (v73 : Vec Ideal S256x256 .bf16) (v110 : Vec Ideal S1x256 .f32)
    (v114 : Vec Ideal S1x256x256 .bf16) (i : Fin 256) (h58 : ∀ w, v58 (ix3 0 i w) = o w) (h61 : ∀ w, v61 (ix3 0 i w) = o' w)
    (h73 : ∀ v w, v73 (ix2 v w) = A v w) (h110 : ∀ w, v110 (ix2 0 w) = gain w) (h114 : ∀ w, v114 (ix3 0 i w) = z w) (w : Fin 256) :
    k0_pay16 (F := Ideal) (k0_pay15 (k0_pay8 v58 v61) v73) v110 v114 (ix2 i w)
      = gatedNorm (fun w => o w + o' w) (Rows.product (fun v => (o v + o' v) * (o v + o' v)) A) gain z w := by
  pointwise [k0_pay16, k0_pay15, k0_pay8, gatedNorm, Merging.logistic, Rows.product]
  simp only [h58, h61, h73, h110, h114, Cert.Sigmoid.eq]

/-- The second batch row's. -/
theorem gated1 (v67 : FVec Ideal S256x256 .f32) (v69 : FVec Ideal S256x256 .bf16) (v78 : Vec Ideal S256x256 .bf16)
    (v130 : Vec Ideal S1x256 .f32) (v134 : Vec Ideal S1x256x256 .bf16) (i : Fin 256) (h67 : ∀ w, v67 (ix2 i w) = o w)
    (h69 : ∀ w, v69 (ix2 i w) = o' w) (h78 : ∀ v w, v78 (ix2 v w) = A v w) (h130 : ∀ w, v130 (ix2 0 w) = gain w)
    (h134 : ∀ w, v134 (ix3 0 i w) = z w) (w : Fin 256) :
    k0_pay17 (F := Ideal) (k0_pay11 v67 v69) (k0_pay12 v67 v69 v78) v130 v134 (ix2 i w)
      = gatedNorm (fun w => o w + o' w) (Rows.product (fun v => (o v + o' v) * (o v + o' v)) A) gain z w := by
  pointwise [k0_pay17, k0_pay11, k0_pay12, gatedNorm, Merging.logistic, Rows.product]
  simp only [h67, h69, h78, h130, h134, Cert.Sigmoid.eq]

/-- The first batch row's first term. -/
theorem term0 (v93 : FVec Ideal S256x256 .f32) (v154 : Vec Ideal S1x256x1024 .bf16) (v156 : Vec Ideal S1024x1024 .bf16)
    (v161 : Vec Ideal S1x256x1024 .bf16) (i : Fin 256) (h93 : ∀ w, v93 (ix2 i w) = y w) (h154 : ∀ k, v154 (ix3 0 i k) = h k)
    (h156 : ∀ j k, v156 (ix2 j k) = V j k) (h161 : ∀ w k, v161 (ix3 0 w k) = U w k) (k : Fin 1024) :
    k0_pay22 (F := Ideal) v93 v154 v156 v161 (ix2 i k) = kernelTerm h V y U k := by
  pointwise [k0_pay22, kernelTerm, Rows.product]
  simp only [h93, h154, h156, h161]

/-- The first batch row's second term, added to the first. -/
theorem term1 (v146 : Vec Ideal S1x256x256 .bf16) (v165 : FVec Ideal S256x1024 .f32) (v178 : Vec Ideal S1x256x1024 .bf16)
    (v180 : Vec Ideal S1024x1024 .bf16) (v184 : Vec Ideal S1x256x1024 .bf16) (i : Fin 256) (h146 : ∀ w, v146 (ix3 0 i w) = y w)
    (h165 : ∀ k, v165 (ix2 i k) = t k) (h178 : ∀ k, v178 (ix3 0 i k) = h k) (h180 : ∀ j k, v180 (ix2 j k) = V j k)
    (h184 : ∀ w k, v184 (ix3 0 w k) = U w k) (k : Fin 1024) :
    k0_pay25 (F := Ideal) (k0_pay18 v146) v165 (k0_pay24 v178) v180 v184 (ix2 i k) = t k + kernelTerm h V y U k := by
  pointwise [k0_pay25, k0_pay18, k0_pay24, kernelTerm, Rows.product]
  simp only [h146, h165, h178, h180, h184]

/-- The first batch row's third term. -/
theorem term2 (v125 : FVec Ideal S256x256 .f32) (v202 : Vec Ideal S1x256x1024 .bf16) (v204 : Vec Ideal S1024x1024 .bf16)
    (v209 : Vec Ideal S1x256x1024 .bf16) (i : Fin 256) (h125 : ∀ w, v125 (ix2 i w) = y w) (h202 : ∀ k, v202 (ix3 0 i k) = h k)
    (h204 : ∀ j k, v204 (ix2 j k) = V j k) (h209 : ∀ w k, v209 (ix3 0 w k) = U w k) (k : Fin 1024) :
    k0_pay27 (F := Ideal) v125 v202 v204 v209 (ix2 i k) = kernelTerm h V y U k := by
  pointwise [k0_pay27, kernelTerm, Rows.product]
  simp only [h125, h202, h204, h209]

/-- The first batch row's fourth term, added to the others. -/
theorem term3 (v148 : Vec Ideal S1x256x256 .bf16) (v189 v213 : FVec Ideal S256x1024 .f32) (v228 : Vec Ideal S1x256x1024 .bf16)
    (v230 : Vec Ideal S1024x1024 .bf16) (v234 : Vec Ideal S1x256x1024 .bf16) (i : Fin 256) (h148 : ∀ w, v148 (ix3 0 i w) = y w)
    (h189 : ∀ k, v189 (ix2 i k) = t k) (h213 : ∀ k, v213 (ix2 i k) = t' k) (h228 : ∀ k, v228 (ix3 0 i k) = h k)
    (h230 : ∀ j k, v230 (ix2 j k) = V j k) (h234 : ∀ w k, v234 (ix3 0 w k) = U w k) (k : Fin 1024) :
    k0_pay29 (F := Ideal) (k0_pay19 v148) v189 v213 v228 v230 v234 (ix2 i k) = t k + t' k + kernelTerm h V y U k := by
  pointwise [k0_pay29, k0_pay19, kernelTerm, Rows.product]
  simp only [h148, h189, h213, h228, h230, h234]

/-- What is stored for the first batch row. -/
theorem stored0 (v239 : FVec Ideal S256x1024 .f32) (v253 : Vec Ideal S1024x1024 .bf16) (v260 : Vec Ideal S1x256x1024 .f32)
    (v262 : Vec Ideal S1x1x1024 .f32) (i : Fin 256) (h239 : ∀ k, v239 (ix2 i k) = t0 k + t1 k + t2 k + t3 k)
    (h253 : ∀ j k, v253 (ix2 j k) = Wo j k) (h260 : ∀ k, v260 (ix3 0 i k) = x k) (h262 : ∀ k, v262 (ix3 0 0 k) = g1 k) (k : Fin 1024) :
    k0_pay31 (F := Ideal) v239 v253 v260 v262 (ix3 0 i k) = merged x g1 t0 t1 t2 t3 Wo k := by
  pointwise [k0_pay31, merged, Rows.product]
  simp only [h239, h253, h260, h262]

/-- The second batch row's first term. -/
theorem term0' (v105 : FVec Ideal S256x256 .f32) (v166 : Vec Ideal S1x256x1024 .bf16) (v168 : Vec Ideal S1024x1024 .bf16)
    (v173 : Vec Ideal S1x256x1024 .bf16) (i : Fin 256) (h105 : ∀ w, v105 (ix2 i w) = y w) (h166 : ∀ k, v166 (ix3 0 i k) = h k)
    (h168 : ∀ j k, v168 (ix2 j k) = V j k) (h173 : ∀ w k, v173 (ix3 0 w k) = U w k) (k : Fin 1024) :
    k0_pay23 (F := Ideal) v105 v166 v168 v173 (ix2 i k) = kernelTerm h V y U k := by
  pointwise [k0_pay23, kernelTerm, Rows.product]
  simp only [h105, h166, h168, h173]

/-- The second batch row's second term, added to the first. -/
theorem term1' (v150 : Vec Ideal S1x256x256 .bf16) (v177 : FVec Ideal S256x1024 .f32) (v190 : Vec Ideal S1x256x1024 .bf16)
    (v192 : Vec Ideal S1024x1024 .bf16) (v196 : Vec Ideal S1x256x1024 .bf16) (i : Fin 256) (h150 : ∀ w, v150 (ix3 0 i w) = y w)
    (h177 : ∀ k, v177 (ix2 i k) = t k) (h190 : ∀ k, v190 (ix3 0 i k) = h k) (h192 : ∀ j k, v192 (ix2 j k) = V j k)
    (h196 : ∀ w k, v196 (ix3 0 w k) = U w k) (k : Fin 1024) :
    k0_pay26 (F := Ideal) (k0_pay20 v150) v177 v190 v192 v196 (ix2 i k) = t k + kernelTerm h V y U k := by
  pointwise [k0_pay26, k0_pay20, kernelTerm, Rows.product]
  simp only [h150, h177, h190, h192, h196]

/-- The second batch row's third term, added to the others. -/
theorem term2' (v145 : FVec Ideal S256x256 .f32) (v201 : FVec Ideal S256x1024 .f32) (v215 : Vec Ideal S1x256x1024 .bf16)
    (v217 : Vec Ideal S1024x1024 .bf16) (v222 : Vec Ideal S1x256x1024 .bf16) (i : Fin 256) (h145 : ∀ w, v145 (ix2 i w) = y w)
    (h201 : ∀ k, v201 (ix2 i k) = t k) (h215 : ∀ k, v215 (ix3 0 i k) = h k) (h217 : ∀ j k, v217 (ix2 j k) = V j k)
    (h222 : ∀ w k, v222 (ix3 0 w k) = U w k) (k : Fin 1024) :
    k0_pay28 (F := Ideal) v145 v201 v215 v217 v222 (ix2 i k) = t k + kernelTerm h V y U k := by
  pointwise [k0_pay28, kernelTerm, Rows.product]
  simp only [h145, h201, h215, h217, h222]

/-- What is stored for the second batch row, from its first three terms and the fourth branch. -/
theorem stored1 (v152 : Vec Ideal S1x256x256 .bf16) (v227 : FVec Ideal S256x1024 .f32) (v240 : Vec Ideal S1x256x1024 .bf16)
    (v242 : Vec Ideal S1024x1024 .bf16) (v246 : Vec Ideal S1x256x1024 .bf16) (v257 : Vec Ideal S1024x1024 .bf16)
    (v270 : Vec Ideal S1x256x1024 .f32) (v272 : Vec Ideal S1x1x1024 .f32) (i : Fin 256) (h152 : ∀ w, v152 (ix3 0 i w) = y w)
    (h227 : ∀ k, v227 (ix2 i k) = t0 k + t1 k + t2 k) (h240 : ∀ k, v240 (ix3 0 i k) = h k) (h242 : ∀ j k, v242 (ix2 j k) = V j k)
    (h246 : ∀ w k, v246 (ix3 0 w k) = U w k) (h257 : ∀ j k, v257 (ix2 j k) = Wo j k) (h270 : ∀ k, v270 (ix3 0 i k) = x k)
    (h272 : ∀ k, v272 (ix3 0 0 k) = g1 k) (k : Fin 1024) :
    k0_pay1 (F := Ideal) (k0_pay32 (k0_pay21 v152) v227 (k0_pay30 v240 v242) v246 v257 v270 v272) (ix3 0 i k)
      = merged x g1 t0 t1 t2 (kernelTerm h V y U) Wo k := by
  pointwise [k0_pay1, k0_pay32, k0_pay21, k0_pay30, merged, kernelTerm, Rows.product]
  simp only [h152, h227, h240, h242, h246, h257, h270, h272]

end Cert.MergeIdeal.Point
-- ==== Proof.Merge.Reference.lean ====
/- The merge reference's composed term, cut into the steps of the mathematics, and each step read at one token as a function
   of that token's rows. -/
module

public import proofs.«01_k».proof.Proof.Merge.Rows
public import proofs.«01_k».proof.Proof.Gen.MergeRefIdeal.Run
public import Idealize.ShloMosaic.PureOps.Ideal
public import Idealize.ShloMosaic.Lib.Pipeline.ValueKit

@[expose] public section

set_option maxRecDepth 16384
noncomputable section
open Idealize.ShloMosaic Idealize.ShloMosaic.TcCoe Idealize.SL.Sem

namespace Cert.MergeRefIdeal.Steps
open Cert.MergeRefIdeal Cert.MergeRefIdeal.Gen

/-- Every token's modulation vectors: its batch entry's for a latent token, the context's for a context token. -/
def tokenMods (M : FVec Ideal S32x1x6144 .f32) (C : FVec Ideal S6144 .f32) : FVec Ideal S32x2304x6144 .f32 :=
  concatenate S32x2304x6144 1 [⟨S32x2048x6144, (broadcastInDim S32x2048x6144 ![0, 1, 2] bcast_S32x1x6144_S32x2048x6144_0_1_2 M)⟩,
    ⟨S32x256x6144, (broadcastInDim S32x256x6144 ![2] bcast_S6144_S32x256x6144_2 C)⟩]
    concatenates_S32x2048x6144_S32x256x6144_S32x2304x6144_d1

/-- A vector of 256 lanes, for every token. -/
def lanes (v : FVec Ideal S256 .f32) : FVec Ideal S32x2304x256 .f32 :=
  broadcastInDim S32x2304x256 ![0, 1, 2] bcast_S1x1x256_S32x2304x256_0_1_2 (broadcastInDim S1x1x256 ![2] bcast_S256_S1x1x256_2 v)

/-- A number, for every lane of every token. -/
def every (w : BitVec 32) : FVec Ideal S32x2304x256 .f32 :=
  broadcastInDim S32x2304x256 ![] bcast_S_S32x2304x256 (constant S_ .f32 w)

/-- The state space branch before its readout. -/
def scanned (yf yb u : FVec Ideal S32x2304x256 .f32) (d : FVec Ideal S256 .f32) : FVec Ideal S32x2304x256 .f32 :=
  addf (addf yf yb) (mulf (lanes d) u)

/-- The Gaussian error linear unit. -/
def geluAll (U : FVec Ideal S32x2304x256 .f32) : FVec Ideal S32x2304x256 .f32 :=
  mulf U (mulf (every 0x3F000000#32) (addf (every 0x3F800000#32) (Host.tanh (mulf (every 0x3F4C422A#32)
    (addf U (mulf (every 0x3D372713#32) (mulf (mulf U U) U)))))))

/-- The readout. -/
def readoutAll (Y : FVec Ideal S32x2304x256 .f32) (G : FVec Ideal S256x256 .f32) (b : FVec Ideal S256 .f32) :
    FVec Ideal S32x2304x256 .f32 :=
  mulf Y (Host.divf (every 0x3F800000#32) (addf (every 0x3F800000#32) (Host.exp (Host.negf
    (addf (Host.dotGeneral dot_S32x2304x256_S256x256_S32x2304x256_2_0_01_1_n_n none Y G) (lanes b))))))

/-- The recurrence's two directions' sum, by heads. -/
def heads (f b : FVec Ideal S32x2304x256 .bf16) : FVec Ideal S32x2304x4x64 .f32 :=
  shapeCast S32x2304x4x64 (addf (extf .f32 f bitsLt_bf16_f32) (extf .f32 b bitsLt_bf16_f32)) shapeCasts_S32x2304x256_S32x2304x4x64

/-- Its gate. -/
def siluAll (z : FVec Ideal S32x2304x256 .bf16) : FVec Ideal S32x2304x256 .f32 :=
  mulf (extf .f32 z bitsLt_bf16_f32) (Host.divf (every 0x3F800000#32) (addf (every 0x3F800000#32) (Host.exp (Host.negf
    (extf .f32 z bitsLt_bf16_f32)))))

/-- The normalised, gained and gated recurrent branch, from the heads and the gate. -/
def gatedHeads (O : FVec Ideal S32x2304x4x64 .f32) (z : FVec Ideal S32x2304x256 .f32) (gain : FVec Ideal S64 .f32) :
    FVec Ideal S32x2304x4x64 .f32 :=
  mulf (mulf (mulf O (broadcastInDim S32x2304x4x64 ![0, 1, 2, 3] bcast_S32x2304x4x1_S32x2304x4x64_0_1_2_3 (Host.rsqrt (addf
    (Host.divf (broadcastInDim S32x2304x4x1 ![0, 1, 2] bcast_S32x2304x4_S32x2304x4x1_0_1_2
      (Host.reduceAdd (mulf O O) (constant S_ .f32 0x00000000#32) reducesTo_S32x2304x4x64_S32x2304x4_d3 h_S_))
      (broadcastInDim S32x2304x4x1 ![] bcast_S_S32x2304x4x1 (constant S_ .f32 0x42800000#32)))
    (broadcastInDim S32x2304x4x1 ![] bcast_S_S32x2304x4x1 (constant S_ .f32 0x358637BD#32))))))
    (broadcastInDim S32x2304x4x64 ![0, 1, 2, 3] bcast_S1x1x1x64_S32x2304x4x64_0_1_2_3
      (broadcastInDim S1x1x1x64 ![3] bcast_S64_S1x1x1x64_3 gain)))
    (shapeCast S32x2304x4x64 z shapeCasts_S32x2304x256_S32x2304x4x64)

/-- The gates of the four branches. -/
def gates (h : FVec Ideal S32x2304x1024 .bf16) (Wg : FVec Ideal S1024x4096 .f32) : FVec Ideal S32x2304x4x1024 .f32 :=
  shapeCast S32x2304x4x1024 (Host.divf (broadcastInDim S32x2304x4096 ![] bcast_S_S32x2304x4096 (constant S_ .f32 0x3F800000#32))
    (addf (broadcastInDim S32x2304x4096 ![] bcast_S_S32x2304x4096 (constant S_ .f32 0x3F800000#32)) (Host.exp (Host.negf
      (Host.dotGeneral dot_S32x2304x1024_S1024x4096_S32x2304x4096_2_0_01_1_n_n none (extf .f32 h bitsLt_bf16_f32) Wg)))))
    shapeCasts_S32x2304x4096_S32x2304x4x1024

/-- One branch's term, from its gate and its projection. -/
def termAll (g : FVec Ideal S32x2304x1x1024 .f32) (Y : FVec Ideal S32x2304x256 .f32) (W : FVec Ideal S1x256x1024 .f32) :
    FVec Ideal S32x2304x1024 .f32 :=
  mulf (shapeCast S32x2304x1024 g shapeCasts_S32x2304x1x1024_S32x2304x1024)
    (Host.dotGeneral dot_S32x2304x256_S256x1024_S32x2304x1024_2_0_01_1_n_n none Y
      (shapeCast S256x1024 W shapeCasts_S1x256x1024_S256x1024))

/-- The residual sum. -/
def withResidual (X : FVec Ideal S32x2304x1024 .f32) (T : FVec Ideal S32x2304x6144 .f32) (A : FVec Ideal S32x2304x1024 .f32)
    (Wo : FVec Ideal S1024x1024 .f32) : FVec Ideal S32x2304x1024 .f32 :=
  addf X (mulf (extractStridedSlice S32x2304x1024 ![0, 0, 2048] T slices_S32x2304x6144_S32x2304x1024_0_0_2048)
    (Host.dotGeneral dot_S32x2304x1024_S1024x1024_S32x2304x1024_2_0_01_1_n_n none A Wo))

/-- The first branch. -/
def branch0 (yf yb u : FVec Ideal S32x2304x256 .f32) (d : FVec Ideal S256 .f32) (G : FVec Ideal S256x256 .f32)
    (b : FVec Ideal S256 .f32) : FVec Ideal S32x2304x256 .f32 :=
  readoutAll (geluAll (scanned yf yb u d)) G b

/-- The third branch. -/
def branch2 (f b z : FVec Ideal S32x2304x256 .bf16) (gain : FVec Ideal S64 .f32) : FVec Ideal S32x2304x256 .f32 :=
  shapeCast S32x2304x256 (gatedHeads (heads f b) (siluAll z) gain) shapeCasts_S32x2304x4x64_S32x2304x256

/-- The four terms' sum, from the gates and the branches. -/
def terms (S : FVec Ideal S32x2304x4x1024 .f32) (Y0 Y1 Y2 Y3 : FVec Ideal S32x2304x256 .f32) (W : FVec Ideal S4x256x1024 .f32) :
    FVec Ideal S32x2304x1024 .f32 :=
  addf (addf (addf
    (termAll (extractStridedSlice S32x2304x1x1024 ![0, 0, 0, 0] S slices_S32x2304x4x1024_S32x2304x1x1024_0_0_0_0) Y0
      (extractStridedSlice S1x256x1024 ![0, 0, 0] W slices_S4x256x1024_S1x256x1024_0_0_0))
    (termAll (extractStridedSlice S32x2304x1x1024 ![0, 0, 1, 0] S slices_S32x2304x4x1024_S32x2304x1x1024_0_0_1_0) Y1
      (extractStridedSlice S1x256x1024 ![1, 0, 0] W slices_S4x256x1024_S1x256x1024_1_0_0)))
    (termAll (extractStridedSlice S32x2304x1x1024 ![0, 0, 2, 0] S slices_S32x2304x4x1024_S32x2304x1x1024_0_0_2_0) Y2
      (extractStridedSlice S1x256x1024 ![2, 0, 0] W slices_S4x256x1024_S1x256x1024_2_0_0)))
    (termAll (extractStridedSlice S32x2304x1x1024 ![0, 0, 3, 0] S slices_S32x2304x4x1024_S32x2304x1x1024_0_0_3_0) Y3
      (extractStridedSlice S1x256x1024 ![3, 0, 0] W slices_S4x256x1024_S1x256x1024_3_0_0))

/-- The reference's whole result over its arguments. -/
def result (a0 : FVec Ideal S32x2304x1024 .f32) (a1 : FVec Ideal S32x1x6144 .f32) (a2 : FVec Ideal S6144 .f32)
    (a3 : FVec Ideal S32x2304x1024 .bf16) (a4 a5 a6 : FVec Ideal S32x2304x256 .f32)
    (a7 a8 a9 a10 a11 : FVec Ideal S32x2304x256 .bf16) (a12 : FVec Ideal S256 .f32) (a13 : FVec Ideal S256x256 .f32)
    (a14 : FVec Ideal S256 .f32) (a15 : FVec Ideal S64 .f32) (a16 : FVec Ideal S1024x4096 .f32)
    (a17 : FVec Ideal S4x256x1024 .f32) (a18 : FVec Ideal S1024x1024 .f32) : FVec Ideal S32x2304x1024 .f32 :=
  withResidual a0 (tokenMods a1 a2) (terms (gates a3 a16) (branch0 a4 a5 a6 a12 a13 a14) (extf .f32 a10 bitsLt_bf16_f32)
    (branch2 a7 a8 a9 a15) (extf .f32 a11 bitsLt_bf16_f32) a17) a18

set_option maxHeartbeats 1000000 in
/-- The term the run of the reference ends with is that. -/
theorem run_term (m : (ℓ : Loc nD τ sig) → Buf (Elt Ideal) ℓ) (c : Dev nD) :
    Cert.MergeRefIdeal.Value.res_out0 m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) (m ((c.tc : Thread nD τ).loc main_arg15))
          (m ((c.tc : Thread nD τ).loc main_arg16)) (m ((c.tc : Thread nD τ).loc main_arg17))
          (m ((c.tc : Thread nD τ).loc main_arg18)) := rfl

section
variable (b : Fin 32) (r : Fin 2304)

theorem scanned_at (yf yb u : FVec Ideal S32x2304x256 .f32) (d : FVec Ideal S256 .f32) (w : Fin 256) :
    scanned yf yb u d (ix3 b r w) = yf (ix3 b r w) + yb (ix3 b r w) + d (ix1 w) * u (ix3 b r w) := by
  pointwise [scanned, lanes]

/-- The Gaussian error linear unit at a token. -/
theorem geluAll_at (U : FVec Ideal S32x2304x256 .f32) (w : Fin 256) : geluAll U (ix3 b r w) = Merging.gelu (U (ix3 b r w)) := by
  pointwise [geluAll, every, Merging.gelu]
  rw [mul_left_comm]
  exact (mul_assoc _ _ _).symm

/-- The readout at a token. -/
theorem readoutAll_at (Y : FVec Ideal S32x2304x256 .f32) (G : FVec Ideal S256x256 .f32) (c : FVec Ideal S256 .f32) (w : Fin 256) :
    readoutAll Y G c (ix3 b r w)
      = Merging.readout (fun w => Y (ix3 b r w)) (fun v w => G (ix2 v w)) (fun w => c (ix1 w)) w := by
  pointwise [readoutAll, every, lanes, Merging.readout, Merging.logistic, Rows.product]

/-- The first branch at a token. -/
theorem branch0_at (yf yb u : FVec Ideal S32x2304x256 .f32) (d : FVec Ideal S256 .f32) (G : FVec Ideal S256x256 .f32)
    (c : FVec Ideal S256 .f32) (w : Fin 256) :
    branch0 yf yb u d G c (ix3 b r w)
      = Merging.readout (fun w => Merging.gelu (yf (ix3 b r w) + yb (ix3 b r w) + d (ix1 w) * u (ix3 b r w)))
          (fun v w => G (ix2 v w)) (fun w => c (ix1 w)) w := by
  rw [branch0, readoutAll_at]
  simp only [geluAll_at, scanned_at]

/-- The third branch at a token. -/
theorem branch2_at (f g z : FVec Ideal S32x2304x256 .bf16) (gain : FVec Ideal S64 .f32) (w : Fin 256) :
    branch2 f g z gain (ix3 b r w)
      = Merging.gatedNorm (fun w => f (ix3 b r w) + g (ix3 b r w))
          (Merging.meanSquare fun w => f (ix3 b r w) + g (ix3 b r w)) (fun w => gain (ix1 ⟨w.val % 64, by omega⟩))
          (fun w => z (ix3 b r w)) w := by
  pointwise [branch2, gatedHeads, heads, siluAll, every, Merging.gatedNorm, Merging.meanSquare, Merging.logistic]

/-- The gates at a token. -/
theorem gates_at (h : FVec Ideal S32x2304x1024 .bf16) (Wg : FVec Ideal S1024x4096 .f32) (j : Fin 4) (k : Fin 1024) :
    gates h Wg (ix4 b r j k)
      = Merging.logistic (Rows.product (fun i => h (ix3 b r i)) (fun i k => Wg (ix2 i ⟨j.val * 1024 + k.val, by omega⟩)) k) := by
  pointwise [gates, Merging.logistic, Rows.product]

/-- A branch's term at a token. -/
theorem termAll_at (g : FVec Ideal S32x2304x1x1024 .f32) (Y : FVec Ideal S32x2304x256 .f32) (W : FVec Ideal S1x256x1024 .f32)
    (k : Fin 1024) :
    termAll g Y W (ix3 b r k) = g (ix4 b r 0 k) * Rows.product (fun w => Y (ix3 b r w)) (fun w k => W (ix3 0 w k)) k := by
  pointwise [termAll, Rows.product]

/-- The four terms' sum at a token. -/
theorem terms_at (h : FVec Ideal S32x2304x1024 .bf16) (Wg : FVec Ideal S1024x4096 .f32)
    (Y0 Y1 Y2 Y3 : FVec Ideal S32x2304x256 .f32) (W : FVec Ideal S4x256x1024 .f32) (k : Fin 1024) :
    terms (gates h Wg) Y0 Y1 Y2 Y3 W (ix3 b r k)
      = Merging.term (fun i => h (ix3 b r i)) (fun i k => Wg (ix2 i ⟨(0 : Fin 4).val * 1024 + k.val, by omega⟩))
          (fun w => Y0 (ix3 b r w)) (fun w k => W (ix3 0 w k)) k
        + Merging.term (fun i => h (ix3 b r i)) (fun i k => Wg (ix2 i ⟨(1 : Fin 4).val * 1024 + k.val, by omega⟩))
          (fun w => Y1 (ix3 b r w)) (fun w k => W (ix3 1 w k)) k
        + Merging.term (fun i => h (ix3 b r i)) (fun i k => Wg (ix2 i ⟨(2 : Fin 4).val * 1024 + k.val, by omega⟩))
          (fun w => Y2 (ix3 b r w)) (fun w k => W (ix3 2 w k)) k
        + Merging.term (fun i => h (ix3 b r i)) (fun i k => Wg (ix2 i ⟨(3 : Fin 4).val * 1024 + k.val, by omega⟩))
          (fun w => Y3 (ix3 b r w)) (fun w k => W (ix3 3 w k)) k := by
  unfold Merging.term
  rw [← gates_at, ← gates_at, ← gates_at, ← gates_at]
  generalize gates h Wg = S
  pointwise [terms, termAll, Rows.product]

/-- The result at a token, in the token's rows. -/
theorem result_at (a0 : FVec Ideal S32x2304x1024 .f32) (a1 : FVec Ideal S32x1x6144 .f32) (a2 : FVec Ideal S6144 .f32)
    (a3 : FVec Ideal S32x2304x1024 .bf16) (a4 a5 a6 : FVec Ideal S32x2304x256 .f32)
    (a7 a8 a9 a10 a11 : FVec Ideal S32x2304x256 .bf16) (a12 : FVec Ideal S256 .f32) (a13 : FVec Ideal S256x256 .f32)
    (a14 : FVec Ideal S256 .f32) (a15 : FVec Ideal S64 .f32) (a16 : FVec Ideal S1024x4096 .f32)
    (a17 : FVec Ideal S4x256x1024 .f32) (a18 : FVec Ideal S1024x1024 .f32) (k : Fin 1024) :
    result a0 a1 a2 a3 a4 a5 a6 a7 a8 a9 a10 a11 a12 a13 a14 a15 a16 a17 a18 (ix3 b r k)
      = Merging.token (fun k => a0 (ix3 b r k)) (fun k => tokenMods a1 a2 (ix3 b r ⟨2048 + k.val, by omega⟩))
          (fun k => a3 (ix3 b r k)) (fun w => a4 (ix3 b r w)) (fun w => a5 (ix3 b r w)) (fun w => a6 (ix3 b r w))
          (fun w => a7 (ix3 b r w) + a8 (ix3 b r w)) (fun w => a10 (ix3 b r w)) (fun w => a11 (ix3 b r w))
          (fun w => a9 (ix3 b r w)) (fun w => a12 (ix1 w)) (fun w => a14 (ix1 w)) (fun w => a15 (ix1 ⟨w.val % 64, by omega⟩))
          (fun v w => a13 (ix2 v w)) (fun j i k => a16 (ix2 i ⟨j.val * 1024 + k.val, by omega⟩))
          (fun j w k => a17 (ix3 j w k)) (fun i k => a18 (ix2 i k)) k := by
  have h0 : ∀ w, branch0 a4 a5 a6 a12 a13 a14 (ix3 b r w) = _ := branch0_at b r a4 a5 a6 a12 a13 a14
  have h2 : ∀ w, branch2 a7 a8 a9 a15 (ix3 b r w) = _ := branch2_at b r a7 a8 a9 a15
  unfold result Merging.token Merging.merged Rows.product
  have ht := fun k => terms_at b r a3 a16 (branch0 a4 a5 a6 a12 a13 a14) (extf .f32 a10 bitsLt_bf16_f32)
    (branch2 a7 a8 a9 a15) (extf .f32 a11 bitsLt_bf16_f32) a17 k
  simp only [h0, h2] at ht
  have he1 : (fun w => extf .f32 a10 bitsLt_bf16_f32 (ix3 b r w)) = fun w => a10 (ix3 b r w) := rfl
  have he3 : (fun w => extf .f32 a11 bitsLt_bf16_f32 (ix3 b r w)) = fun w => a11 (ix3 b r w) := rfl
  rw [he1, he3] at ht
  generalize terms _ _ _ _ _ _ = A at ht ⊢
  simp only [← ht]
  pointwise [withResidual]

/-- A latent token's modulation vectors. -/
theorem tokenMods_latent (M : FVec Ideal S32x1x6144 .f32) (C : FVec Ideal S6144 .f32) (hr : r.val < 2048) (k : Fin 6144) :
    tokenMods M C (ix3 b r k) = M (ix3 b 0 k) := by
  pointwise [tokenMods]
  simp [hr]

/-- A context token's modulation vectors. -/
theorem tokenMods_context (M : FVec Ideal S32x1x6144 .f32) (C : FVec Ideal S6144 .f32) (hr : 2048 ≤ r.val) (k : Fin 6144) :
    tokenMods M C (ix3 b r k) = C (ix1 k) := by
  pointwise [tokenMods]
  simp [hr]

end
end Cert.MergeRefIdeal.Steps
-- ==== Proof.Merge.Value.lean ====
/- The merge kernel's result array is the reference's result over the same arguments, where the branches are finite. -/
module

public import proofs.«01_k».proof.Proof.Merge.Point
public import proofs.«01_k».proof.Proof.Merge.Reference

@[expose] public section

set_option maxRecDepth 16384
noncomputable section
open Idealize.ShloMosaic Idealize.ShloMosaic.TcCoe Idealize.SL.Sem
open Idealize.ShloMosaic.Pipeline (Dat)
open Cert.MergeRefIdeal.Steps

namespace Cert.MergeIdeal.Final
open Cert.MergeIdeal Cert.MergeIdeal.Gen Cert.MergeIdeal.Point Cert.Merging

variable {x g1 h : Fin 1024 → EReal} {yf yb u o o' y1 y3 z d c gain : Fin 256 → EReal} {G A : Fin 256 → Fin 256 → EReal}
  {V : Fin 4 → Fin 1024 → Fin 1024 → EReal} {U : Fin 4 → Fin 256 → Fin 1024 → EReal} {Wo : Fin 1024 → Fin 1024 → EReal}

set_option maxHeartbeats 2000000 in
/-- A point's output block from its input blocks: row `i` of slot `s` is the token computed from that row's inputs. -/
theorem out_at (x0 : Vec Ideal S2x256x1024 .f32) (x1 : Vec Ideal S2x256x1024 .bf16) (x2 : Vec Ideal S2x1x1024 .f32)
    (x3 x4 x5 : Vec Ideal S2x256x256 .f32) (x6 : Vec Ideal S1x256 .f32) (x7 : Vec Ideal S256x256 .bf16) (x8 : Vec Ideal S1x256 .f32)
    (x9 x10 x11 : Vec Ideal S2x256x256 .bf16) (x12 : Vec Ideal S1x256 .f32) (x13 : Vec Ideal S256x256 .bf16)
    (x14 x15 : Vec Ideal S2x256x256 .bf16) (x16 : Vec Ideal S1024x4096 .bf16) (x17 : Vec Ideal S4x256x1024 .bf16)
    (x18 : Vec Ideal S1024x1024 .bf16)
    (s : Fin 2) (i : Fin 256)
    (h0 : ∀ k, x0 (ix3 s i k) = x k) (h1 : ∀ k, x1 (ix3 s i k) = h k) (h2 : ∀ k, x2 (ix3 s 0 k) = g1 k)
    (h3 : ∀ w, x3 (ix3 s i w) = yf w) (h4 : ∀ w, x4 (ix3 s i w) = yb w) (h5 : ∀ w, x5 (ix3 s i w) = u w)
    (h6 : ∀ w, x6 (ix2 0 w) = d w) (h7 : ∀ v w, x7 (ix2 v w) = G v w) (h8 : ∀ w, x8 (ix2 0 w) = c w)
    (h9 : ∀ w, x9 (ix3 s i w) = o w) (h10 : ∀ w, x10 (ix3 s i w) = o' w) (h11 : ∀ w, x11 (ix3 s i w) = z w)
    (h12 : ∀ w, x12 (ix2 0 w) = gain w) (h13 : ∀ v w, x13 (ix2 v w) = A v w) (h14 : ∀ w, x14 (ix3 s i w) = y1 w)
    (h15 : ∀ w, x15 (ix3 s i w) = y3 w)
    (h16 : ∀ (j : Fin 4) (i k : Fin 1024), x16 (ix2 i ⟨j.val * 1024 + k.val, by omega⟩) = V j i k)
    (h17 : ∀ (j : Fin 4) w k, x17 (ix3 j w k) = U j w k) (h18 : ∀ i k, x18 (ix2 i k) = Wo i k) (k : Fin 1024) :
    out0_19 x0 x1 x2 x3 x4 x5 x6 x7 x8 x9 x10 x11 x12 x13 x14 x15 x16 x17 x18 (ix3 s i k)
      = kernelToken x g1 h yf yb u o o' y1 y3 z d c gain G A V U Wo k := by
  unfold out0_19
  canon_tiles y hx
  · have hs : s = 1 := by
      have : (s : ℕ) = 1 + ↑(y 0) := hx0
      omega
    have h1' : (i : ℕ) = ↑(y 1) := hx1
    have h2' : (k : ℕ) = ↑(y 2) := hx2
    have hx : y = ix3 0 i k := by blk_ext
    subst hs hx
    exact stored1 _ _ _ _ _ _ _ _ i (fun w => (by pointwise [View.ld_unit] : _ = x15 (ix3 1 i w)).trans (h15 w))
      (term2' _ _ _ _ _ i
        (gated1 _ _ _ _ _ i (fun w => (by unfold k0_pay36; pointwise [k0_pay9, View.ld_unit] : _ = x9 (ix3 1 i w)).trans (h9 w))
          (fun w => (by unfold k0_pay37; pointwise [k0_pay10, View.ld_unit] : _ = x10 (ix3 1 i w)).trans (h10 w))
          (fun v w => (by pointwise [View.ld_unit] : _ = x13 (ix2 v w)).trans (h13 v w)) (fun w => (by pointwise [View.ld_unit] : _ = x12 (ix2 0 w)).trans (h12 w))
          (fun w => (by pointwise [View.ld_unit] : _ = x11 (ix3 1 i w)).trans (h11 w)))
        (term1' _ _ _ _ _ i (fun w => (by pointwise [View.ld_unit] : _ = x14 (ix3 1 i w)).trans (h14 w))
          (term0' _ _ _ _ i
            (readout1 _ _ _ _ _ i
              (gelu1 _ _ _ i
                (fun w => (by unfold k0_pay34; pointwise [k0_pay3, View.ld_unit] : _ = x3 (ix3 1 i w) + x4 (ix3 1 i w)).trans
                  (congrArg₂ _ (h3 w) (h4 w)))
                (fun w => (by unfold k0_pay35; pointwise [k0_pay4, View.ld_unit] : _ = x6 (ix2 0 w)).trans (h6 w))
                (fun w => (by pointwise [View.ld_unit] : _ = x5 (ix3 1 i w)).trans (h5 w)))
              (fun v w => (by pointwise [View.ld_unit] : _ = x7 (ix2 v w)).trans (h7 v w)) (fun w => (by pointwise [View.ld_unit] : _ = x8 (ix2 0 w)).trans (h8 w)))
            (fun k => (by pointwise [View.ld_unit] : _ = x1 (ix3 1 i k)).trans (h1 k)) (fun i k => (by pointwise [View.ld_unit] : _ = x16 (ix2 i ⟨(0 : Fin 4).val * 1024 + k.val, by omega⟩)).trans (h16 0 i k))
            (fun w k => (by pointwise [View.ld_unit] : _ = x17 (ix3 0 w k)).trans (h17 0 w k)))
          (fun k => (by pointwise [View.ld_unit] : _ = x1 (ix3 1 i k)).trans (h1 k)) (fun i k => (by pointwise [View.ld_unit] : _ = x16 (ix2 i ⟨(1 : Fin 4).val * 1024 + k.val, by omega⟩)).trans (h16 1 i k))
          (fun w k => (by pointwise [View.ld_unit] : _ = x17 (ix3 1 w k)).trans (h17 1 w k)))
        (fun k => (by pointwise [View.ld_unit] : _ = x1 (ix3 1 i k)).trans (h1 k)) (fun i k => (by pointwise [View.ld_unit] : _ = x16 (ix2 i ⟨(2 : Fin 4).val * 1024 + k.val, by omega⟩)).trans (h16 2 i k))
        (fun w k => (by pointwise [View.ld_unit] : _ = x17 (ix3 2 w k)).trans (h17 2 w k)))
      (fun k => (by pointwise [View.ld_unit] : _ = x1 (ix3 1 i k)).trans (h1 k)) (fun i k => (by pointwise [View.ld_unit] : _ = x16 (ix2 i ⟨(3 : Fin 4).val * 1024 + k.val, by omega⟩)).trans (h16 3 i k))
      (fun w k => (by pointwise [View.ld_unit] : _ = x17 (ix3 3 w k)).trans (h17 3 w k))
      (fun i k => (by pointwise [View.ld_unit] : _ = x18 (ix2 i k)).trans (h18 i k))
      (fun k => (by pointwise [View.ld_unit] : _ = x0 (ix3 1 i k)).trans (h0 k)) (fun k => (by pointwise [View.ld_unit] : _ = x2 (ix3 1 0 k)).trans (h2 k)) k
  · have hs : s = 0 := by
      have : (s : ℕ) = ↑(y 0) := hx0
      omega
    have h1' : (i : ℕ) = ↑(y 1) := hx1
    have h2' : (k : ℕ) = ↑(y 2) := hx2
    have hx : y = ix3 0 i k := by blk_ext
    subst hs hx
    exact stored0 _ _ _ _ i
      (term3 _ _ _ _ _ _ i (fun w => (by pointwise [View.ld_unit] : _ = x15 (ix3 0 i w)).trans (h15 w))
        (term1 _ _ _ _ _ i (fun w => (by pointwise [View.ld_unit] : _ = x14 (ix3 0 i w)).trans (h14 w))
          (term0 _ _ _ _ i
            (readout0 _ _ _ i
              (gelu0 _ _ _ _ i (fun w => (by pointwise [View.ld_unit] : _ = x3 (ix3 0 i w)).trans (h3 w))
                (fun w => (by pointwise [View.ld_unit] : _ = x4 (ix3 0 i w)).trans (h4 w)) (fun w => (by pointwise [View.ld_unit] : _ = x6 (ix2 0 w)).trans (h6 w))
                (fun w => (by pointwise [View.ld_unit] : _ = x5 (ix3 0 i w)).trans (h5 w)))
              (fun v w => (by pointwise [View.ld_unit] : _ = x7 (ix2 v w)).trans (h7 v w)) (fun w => (by pointwise [View.ld_unit] : _ = x8 (ix2 0 w)).trans (h8 w)))
            (fun k => (by pointwise [View.ld_unit] : _ = x1 (ix3 0 i k)).trans (h1 k)) (fun i k => (by pointwise [View.ld_unit] : _ = x16 (ix2 i ⟨(0 : Fin 4).val * 1024 + k.val, by omega⟩)).trans (h16 0 i k))
            (fun w k => (by pointwise [View.ld_unit] : _ = x17 (ix3 0 w k)).trans (h17 0 w k)))
          (fun k => (by pointwise [View.ld_unit] : _ = x1 (ix3 0 i k)).trans (h1 k)) (fun i k => (by pointwise [View.ld_unit] : _ = x16 (ix2 i ⟨(1 : Fin 4).val * 1024 + k.val, by omega⟩)).trans (h16 1 i k))
          (fun w k => (by pointwise [View.ld_unit] : _ = x17 (ix3 1 w k)).trans (h17 1 w k)))
        (term2 _ _ _ _ i
          (gated0 _ _ _ _ _ i (fun w => (by pointwise [View.ld_unit] : _ = x9 (ix3 0 i w)).trans (h9 w))
            (fun w => (by pointwise [View.ld_unit] : _ = x10 (ix3 0 i w)).trans (h10 w)) (fun v w => (by pointwise [View.ld_unit] : _ = x13 (ix2 v w)).trans (h13 v w))
            (fun w => (by pointwise [View.ld_unit] : _ = x12 (ix2 0 w)).trans (h12 w)) (fun w => (by pointwise [View.ld_unit] : _ = x11 (ix3 0 i w)).trans (h11 w)))
          (fun k => (by pointwise [View.ld_unit] : _ = x1 (ix3 0 i k)).trans (h1 k)) (fun i k => (by pointwise [View.ld_unit] : _ = x16 (ix2 i ⟨(2 : Fin 4).val * 1024 + k.val, by omega⟩)).trans (h16 2 i k))
          (fun w k => (by pointwise [View.ld_unit] : _ = x17 (ix3 2 w k)).trans (h17 2 w k)))
        (fun k => (by pointwise [View.ld_unit] : _ = x1 (ix3 0 i k)).trans (h1 k)) (fun i k => (by pointwise [View.ld_unit] : _ = x16 (ix2 i ⟨(3 : Fin 4).val * 1024 + k.val, by omega⟩)).trans (h16 3 i k))
        (fun w k => (by pointwise [View.ld_unit] : _ = x17 (ix3 3 w k)).trans (h17 3 w k)))
      (fun i k => (by pointwise [View.ld_unit] : _ = x18 (ix2 i k)).trans (h18 i k))
      (fun k => (by pointwise [View.ld_unit] : _ = x0 (ix3 0 i k)).trans (h0 k)) (fun k => (by pointwise [View.ld_unit] : _ = x2 (ix3 0 0 k)).trans (h2 k)) k

variable (m : (ℓ : Loc nD τ sig) → Buf (Elt Ideal) ℓ)

/-- The modulation rows the kernel is given: the batch entries', then the context's four times. -/
def hostMods (M : FVec Ideal S32x1x6144 .f32) (C : FVec Ideal S6144 .f32) : FVec Ideal S36x1x6144 .f32 :=
  concatenate S36x1x6144 0 [⟨S32x1x6144, M⟩, ⟨S4x1x6144, broadcastInDim S4x1x6144 ![0, 1, 2] bcast_S1x1x6144_S4x1x6144_0_1_2
    (shapeCast S1x1x6144 C shapeCasts_S6144_S1x1x6144)⟩] concatenates_S32x1x6144_S4x1x6144_S36x1x6144_d0

theorem hostMods_latent (M : FVec Ideal S32x1x6144 .f32) (C : FVec Ideal S6144 .f32) (q : Fin 36) (b : Fin 32)
    (h : q.val = b.val) (k : Fin 6144) : hostMods M C (ix3 q 0 k) = M (ix3 b 0 k) := by
  pointwise [hostMods]
  simp [h]

theorem hostMods_context (M : FVec Ideal S32x1x6144 .f32) (C : FVec Ideal S6144 .f32) (q : Fin 36) (h : 32 ≤ q.val)
    (k : Fin 6144) : hostMods M C (ix3 q 0 k) = C (ix1 k) := by
  pointwise [hostMods]
  simp [h]

/-- The averaging matrix the kernel is given. -/
def hostAvg : FVec Ideal S256x256 .bf16 :=
  truncf .bf16 (Host.divf (uitofp .f32 (cmpi .eq
      (broadcastInDim S256x256 ![0, 1] bcast_S256x1_S256x256_0_1 (broadcastInDim S256x1 ![0] bcast_S256_S256x1_0
        (Host.divsi (iotaInDim S256 32 0) (broadcastInDim S256 ![] bcast_S_S256 (constantI S_ 32 64#32)))))
      (broadcastInDim S256x256 ![0, 1] bcast_S1x256_S256x256_0_1 (broadcastInDim S1x256 ![1] bcast_S256_S1x256_1
        (Host.divsi (iotaInDim S256 32 0) (broadcastInDim S256 ![] bcast_S_S256 (constantI S_ 32 64#32)))))))
    (broadcastInDim S256x256 ![] bcast_S_S256x256 (constant S_ .f32 0x42800000#32))) bitsLt_bf16_f32

/-- It is `1/64` where two lanes are of one head, else 0. -/
theorem hostAvg_at (v w : Fin 256) : hostAvg (ix2 v w) = averaging v w := by
  have lane : ∀ v : Fin 256, IntOp.divsi .host (BitVec.ofNat 32 v) 64#32 = BitVec.ofNat 32 (v.val / 64) := by decide +kernel
  pointwise [hostAvg, averaging]
  rw [lane, lane]
  congr 1
  have cmp : ∀ a b : Fin 4, FloatOps.uitofp (F := Ideal) .f32 (IntOp.cmpi .eq (BitVec.ofNat 32 a.val) (BitVec.ofNat 32 b.val))
      = if a = b then 1 else 0 := by
    intro a b
    have : IntOp.cmpi .eq (BitVec.ofNat 32 a.val) (BitVec.ofNat 32 b.val) = if a = b then 1#1 else 0#1 := by
      revert a b; decide +kernel
    rw [this]
    split_ifs
    · exact (by norm_num : ((((1#1 : BitVec 1).toNat : ℝ)) : EReal) = 1)
    · exact (by norm_num : ((((0#1 : BitVec 1).toNat : ℝ)) : EReal) = 0)
  rw [cmp ⟨v.val / 64, by omega⟩ ⟨w.val / 64, by omega⟩]
  simp only [Fin.mk.injEq]

/-- The block row of the modulation array: the batch pair's for the eight latent tiles, row 16 for the context tile. -/
theorem idx : ∀ t : Fin cfg0.N, win0_2.index t = ![if t.val % 9 < 8 then t.val / 9 else 16, 0, 2]
    ∧ win0_0.index t = ![t.val / 9, t.val % 9, 0] ∧ win0_1.index t = ![t.val / 9, t.val % 9, 0]
    ∧ win0_3.index t = ![t.val / 9, t.val % 9, 0] ∧ win0_4.index t = ![t.val / 9, t.val % 9, 0]
    ∧ win0_5.index t = ![t.val / 9, t.val % 9, 0] ∧ win0_6.index t = ![0, 0] ∧ win0_7.index t = ![0, 0]
    ∧ win0_8.index t = ![0, 0] ∧ win0_9.index t = ![t.val / 9, t.val % 9, 0] ∧ win0_10.index t = ![t.val / 9, t.val % 9, 0]
    ∧ win0_11.index t = ![t.val / 9, t.val % 9, 0] ∧ win0_12.index t = ![0, 0] ∧ win0_13.index t = ![0, 0]
    ∧ win0_14.index t = ![t.val / 9, t.val % 9, 0] ∧ win0_15.index t = ![t.val / 9, t.val % 9, 0]
    ∧ win0_16.index t = ![0, 0] ∧ win0_17.index t = ![0, 0, 0] ∧ win0_18.index t = ![0, 0]
    ∧ win0_19.index t = ![t.val / 9, t.val % 9, 0] :=
  (by decide +kernel : ∀ t : Fin grid0.N, _)

/-- The averaging matrix's block, read. -/
theorem read_avg (c : Dev nD) (t : Fin cfg0.N) (v w : Fin 256) : iblk m c 13 t (ix2 v w) = averaging v w := by
  have hV : V m c main_v11 = hostAvg := by entry_read; rfl
  have he : (win0_13.blk t).view.emb (ix2 v w) = ix2 v w := by blk_ext [idx t]
  exact (congrArg (V m c main_v11) he).trans ((congrFun hV _).trans (hostAvg_at v w))

set_option maxHeartbeats 2000000 in
/-- The result array after the run is the reference's result, where what the branches are computed from is finite. -/
theorem final (c : Dev nD)
    (f4 : ∀ i, IsReal (m ((c : Thread nD τ).loc main_arg4) i)) (f5 : ∀ i, IsReal (m ((c : Thread nD τ).loc main_arg5) i)) (f6 : ∀ i, IsReal (m ((c : Thread nD τ).loc main_arg6) i)) (f7 : ∀ i, IsReal (m ((c : Thread nD τ).loc main_arg7) i))
    (f8 : ∀ i, IsReal (m ((c : Thread nD τ).loc main_arg8) i)) (f9 : ∀ i, IsReal (m ((c : Thread nD τ).loc main_arg9) i)) (f10 : ∀ i, IsReal (m ((c : Thread nD τ).loc main_arg10) i))
    (f11 : ∀ i, IsReal (m ((c : Thread nD τ).loc main_arg11) i)) (f12 : ∀ i, IsReal (m ((c : Thread nD τ).loc main_arg12) i)) (f15 : ∀ i, IsReal (m ((c : Thread nD τ).loc main_arg15) i))
    (f17 : ∀ i, IsReal (m ((c : Thread nD τ).loc main_arg17) i)) :
    (dats m 0 c).arrAt 19 (cfgs 0).N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) (m ((c : Thread nD τ).loc main_arg17))
        (m ((c : Thread nD τ).loc main_arg18)) := by
  refine (dats m 0 c).arrAt_eq_of_covers 19 _ (by decide +kernel) fun t _ y => ?_
  blk_simp
  rw [after0_19]
  have ht : t.val < 144 := lt_of_lt_of_eq t.isLt (by decide)
  obtain ⟨s, i, k, rfl⟩ : ∃ (s : Fin 2) (i : Fin 256) (k : Fin 1024), y = ix3 s i k := ⟨y 0, y 1, y 2, by blk_ext⟩
  have hj : (win0_19.blk t).view.emb (ix3 s i k)
      = (ix3 (⟨2 * (t.val / 9) + s.val, by omega⟩ : Fin 32) (⟨256 * (t.val % 9) + i.val, by omega⟩ : Fin 2304) k : S32x2304x1024.Idx) := by
    blk_ext [idx t]
  rw [hj, result_at]
  refine Eq.trans ?_ (token_eq (fun w => f4 _) (fun w => f5 _) (fun w => f6 _) (fun w => f7 _) (fun w => f8 _) (fun w => f10 _)
    (fun w => f11 _) (fun w => f9 _) (fun w => f12 _) (fun w => f15 _) (fun j w k => f17 _) k)
  refine out_at _ _ _ _ _ _ _ _ _ _ _ _ _ _ _ _ _ _ _ s i
    (fun k => ?_) (fun k => ?_) (fun k => ?_) (fun w => ?_) (fun w => ?_) (fun w => ?_) (fun w => ?_) (fun v w => ?_)
    (fun w => ?_) (fun w => ?_) (fun w => ?_) (fun w => ?_) (fun w => ?_) (fun v w => ?_) (fun w => ?_) (fun w => ?_)
    (fun j i k => ?_) (fun j w k => ?_) (fun i k => ?_) k
  case refine_14 =>
    exact read_avg m c t v w
  case refine_3 =>
    obtain ⟨h2, -⟩ := idx t
    by_cases h8 : t.val % 9 < 8
    · rw [if_pos h8] at h2
      rw [tokenMods_latent _ _ _ _ (by show 256 * (t.val % 9) + i.val < 2048; omega)]
      refine Eq.trans ?_ (hostMods_latent _ (m ((c : Thread nD τ).loc main_arg2)) ⟨t.val / 9 * 2 + s.val, by omega⟩ _
        (by show t.val / 9 * 2 + s.val = 2 * (t.val / 9) + s.val; omega) _)
      blk_point [iblk, V, h2, hostMods]
    · rw [if_neg h8] at h2
      rw [tokenMods_context _ _ _ _ (by show 2048 ≤ 256 * (t.val % 9) + i.val; omega)]
      refine Eq.trans ?_ (hostMods_context (m ((c : Thread nD τ).loc main_arg1)) _ ⟨16 * 2 + s.val, by omega⟩ (by simp) _)
      blk_point [iblk, V, h2, hostMods]
  all_goals blk_point [iblk, V, idx t]

end Cert.MergeIdeal.Final
-- ==== Proof.Merge.Finite.lean ====
/- The precondition of the merge, read: what the branches are computed from is finite. -/
module

public import proofs.«01_k».proof.Defs
public import proofs.«01_k».proof.Proof.Gen.Pre_branches_finite
public import proofs.«01_k».proof.Proof.Reals
public import Idealize.ShloMosaic.Lib.ReduceAll

@[expose] public section

noncomputable section
open Idealize.ShloMosaic Idealize.ShloMosaic.TcCoe Idealize.SL.Sem

namespace Cert.Merging

/-- An element whose absolute value compares below the float infinity is finite. -/
theorem real_of_cmpf {x : EReal} (h : FloatOps.cmpf (F := Ideal) (φ := .f32) .olt (FloatOps.absf (F := Ideal) (φ := .f32) x)
    (Ideal.ofBits .f32 0x7F800000#32) = 1#1) : IsReal x := by
  apply IsReal.of_abs_lt
  have ht : Ideal.ofBits .f32 0x7F800000#32 = ⊤ := by simp [Ideal.ofBits, Ideal.ieee]
  rw [ht] at h
  by_contra hn
  have : FloatOps.cmpf (F := Ideal) (φ := .f32) .olt (FloatOps.absf (F := Ideal) (φ := .f32) x) ⊤ = 0#1 := by
    simp [FloatOps.cmpf, FloatOps.absf, Ideal.cmp, hn]
  rw [this] at h
  exact absurd h (by decide)

open Cert.Pre_branches_finite in
/-- Every array the precondition names is finite at every index. -/
theorem finite_of_pre {a0 : FVec Ideal S32x2304x1024 .f32} {a1 : FVec Ideal S32x1x6144 .f32} {a2 : FVec Ideal S6144 .f32}
    {a3 : FVec Ideal S32x2304x1024 .bf16} {a4 a5 a6 : FVec Ideal S32x2304x256 .f32}
    {a7 a8 a9 a10 a11 : FVec Ideal S32x2304x256 .bf16} {a12 : FVec Ideal S256 .f32} {a13 : FVec Ideal S256x256 .f32}
    {a14 : FVec Ideal S256 .f32} {a15 : FVec Ideal S64 .f32} {a16 : FVec Ideal S1024x4096 .f32}
    {a17 : FVec Ideal S4x256x1024 .f32} {a18 : FVec Ideal S1024x1024 .f32}
    [Cert.Pre_branches_finite.Facts]
    (h : fn (F := Ideal) a0 a1 a2 a3 a4 a5 a6 a7 a8 a9 a10 a11 a12 a13 a14 a15 a16 a17 a18 (Shape.Idx.first (by decide)) = 1#1) :
    (∀ i, IsReal (a4 i)) ∧ (∀ i, IsReal (a5 i)) ∧ (∀ i, IsReal (a6 i)) ∧ (∀ i, IsReal (a7 i)) ∧ (∀ i, IsReal (a8 i))
      ∧ (∀ i, IsReal (a9 i)) ∧ (∀ i, IsReal (a10 i)) ∧ (∀ i, IsReal (a11 i)) ∧ (∀ i, IsReal (a12 i)) ∧ (∀ i, IsReal (a15 i))
      ∧ (∀ i, IsReal (a17 i)) := by
  unfold fn fn_part1 fn_part2 fn_part3 at h
  simp only [andi, IntOp.andi_eq_one] at h
  have : Subsingleton S_.Idx := ⟨fun a b => funext fun i => i.elim0⟩
  obtain ⟨⟨⟨⟨⟨⟨⟨⟨⟨⟨h4, h5⟩, h6⟩, h7⟩, h8⟩, h9⟩, h10⟩, h11⟩, h12⟩, h15⟩, h17⟩ := h
  exact ⟨fun i => real_of_cmpf (Host.reduce_andi_all _ _ _ _ _ h4 i), fun i => real_of_cmpf (Host.reduce_andi_all _ _ _ _ _ h5 i),
    fun i => real_of_cmpf (Host.reduce_andi_all _ _ _ _ _ h6 i), fun i => real_of_cmpf (Host.reduce_andi_all _ _ _ _ _ h7 i),
    fun i => real_of_cmpf (Host.reduce_andi_all _ _ _ _ _ h8 i), fun i => real_of_cmpf (Host.reduce_andi_all _ _ _ _ _ h9 i),
    fun i => real_of_cmpf (Host.reduce_andi_all _ _ _ _ _ h10 i), fun i => real_of_cmpf (Host.reduce_andi_all _ _ _ _ _ h11 i),
    fun i => real_of_cmpf (Host.reduce_andi_all _ _ _ _ _ h12 i), fun i => real_of_cmpf (Host.reduce_andi_all _ _ _ _ _ h15 i),
    fun i => real_of_cmpf (Host.reduce_andi_all _ _ _ _ _ h17 i)⟩

end Cert.Merging
-- ==== Proof.Merge.Claim.lean ====
/- The claims about the merge program that are not generated: the frames and the equality of the results. -/
module

public import proofs.«01_k».proof.Defs
public import proofs.«01_k».proof.Proof.Merge.Value
public import proofs.«01_k».proof.Proof.Merge.Finite
public import Idealize.ShloMosaic.Lib.Claim

@[expose] public section

set_option maxRecDepth 16384
noncomputable section
open Idealize.ShloMosaic Idealize.ShloMosaic.TcCoe Idealize.SL.Sem

namespace Cert.MergeIdeal.Final

/-- The reference terminates and leaves its arguments as they were. -/
theorem frame_reference : Cert.quiescent_MergeRefIdeal (hMergeRefIdeal := Cert.MergeRefIdeal.Gen.facts) := by
  intro m g _
  exact (θ_run Cert.MergeRefIdeal.defs _ _).mono
    (fun r h => ⟨fun c => (h c).2, sem_eq_zero_of_no_sems (by decide) r.2⟩) (Cert.MergeRefIdeal.Value.run m g)

set_option maxHeartbeats 4000000 in
/-- Kernel and reference end with the same result, where what the branches are computed from is finite. -/
theorem algebraic : Cert.algebraic_MergeIdeal_MergeRefIdeal_pre_branches_finite (hMergeIdeal := Cert.MergeIdeal.Gen.facts)
    (hMergeRefIdeal := Cert.MergeRefIdeal.Gen.facts) (hPre_branches_finite := Cert.Pre_branches_finite.Gen.facts) := by
  pair_intro
  · run_from Cert.MergeIdeal.Gen.run_main m g
    exact hc.1 19
  · run_from Cert.MergeRefIdeal.Value.run m' g'
    obtain ⟨h0, h1, h2, h3, h4, h5, h6, h7, h8, h9, h10, h11, h12, h13, h14, h15, h16, h17, h18⟩ := hagree c
    obtain ⟨f4, f5, f6, f7, f8, f9, f10, f11, f12, f15, f17⟩ := Cert.Merging.finite_of_pre (congrFun (hpre c) _)
    refine (Cert.MergeRefIdeal.Steps.run_term m' c).trans (Eq.trans ?_ (final m c f4 f5 f6 f7 f8 f9 f10 f11 f12 f15 f17).symm)
    rw [h0, h1, h2, h3, h4, h5, h6, h7, h8, h9, h10, h11, h12, h13, h14, h15, h16, h17, h18]

end Cert.MergeIdeal.Final
-- ==== Proof.Kin.Rows.lean ====
/- The mathematics of one token of the input projections, as functions of rows: the modulated token, its products, the short
   convolution over the neighbouring tokens, the normalisation by head and the two gates. -/
module

public import proofs.«01_k».proof.Proof.Rows
public import proofs.«01_k».proof.Proof.Reals

@[expose] public section

noncomputable section
open Idealize.ShloMosaic

namespace Cert.Inputs

/-- The logistic function. -/
def logistic (x : EReal) : EReal := Ideal.div 1 (1 + Ideal.exp (-x))

/-- A convolved feature: the taps on the token before, the token and the token after, through `silu`. -/
def feature {n : ℕ} (c0 c1 c2 p t q : Fin n → EReal) (w : Fin n) : EReal :=
  (p w * c0 w + t w * c1 w + q w * c2 w) * logistic (p w * c0 w + t w * c1 w + q w * c2 w)

/-- The sum of squares over the 64 lanes of a lane's head. -/
def headSquares (f : Fin 256 → EReal) (w : Fin 256) : EReal :=
  ∑ d : Fin 64, f ⟨w.val / 64 * 64 + d.val, by omega⟩ * f ⟨w.val / 64 * 64 + d.val, by omega⟩

/-- `f / sqrt (s + ε)`. -/
def scaled (f s : Fin 256 → EReal) (w : Fin 256) : EReal := f w * Ideal.rsqrt (s w + Ideal.ofBits .f32 0x358637BD#32)

/-- 1 where two lanes are of one head, else 0. -/
def sameHead (v w : Fin 256) : EReal := if v.val / 64 = w.val / 64 then 1 else 0

/-- The squares' product with that matrix is the sum over the head. -/
theorem squares (f : Fin 256 → EReal) (w : Fin 256) : Rows.product (fun v => f v * f v) sameHead w = headSquares f w := by
  unfold Rows.product headSquares sameHead
  simp only [mul_ite, mul_one, mul_zero]
  rw [← Finset.sum_filter]
  symm
  refine Finset.sum_bij (fun (d : Fin 64) _ => (⟨w.val / 64 * 64 + d.val, by omega⟩ : Fin 256)) ?_ ?_ ?_ ?_
  · intro d _; simp; omega
  · intro d _ e _ h; simp at h; exact Fin.ext h
  · intro v hv
    simp at hv
    exact ⟨⟨v.val % 64, by omega⟩, Finset.mem_univ _, Fin.ext (by simp; omega)⟩
  · intro d _; rfl

/-- The decay of a lane: `-exp a · softplus (z + t)`. -/
def decay (a z t : EReal) : EReal :=
  -Ideal.exp a * (max (z + t) 0 + Ideal.log (1 + Ideal.exp (-max (z + t) (-(z + t)))))

/-- The keys, values and queries a token's features make, column by column. -/
def row (f : Fin 768 → EReal) (j : Fin 768) : EReal :=
  if h : j.val < 256 then
    scaled (fun w => f ⟨0 + w.val, by omega⟩) (headSquares fun w => f ⟨0 + w.val, by omega⟩) ⟨j.val, h⟩
  else if h : j.val < 512 then f j
  else scaled (fun w => f ⟨512 + w.val, by omega⟩) (headSquares fun w => f ⟨512 + w.val, by omega⟩)
    ⟨j.val - 512, by omega⟩ * Ideal.ofBits .f32 0x3E000000#32

end Cert.Inputs
-- ==== Proof.Kin.Point.lean ====
/- What one grid point of the input-projection kernel stores, step by step, as functions of the rows the point works on. The
   kernel writes its four batch rows out one after another; each is the same computation, so the first is read and the others
   are shown equal to it. -/
module

public import proofs.«01_k».proof.Proof.Kin.Rows
public import proofs.«01_k».proof.Proof.Gen.KinIdeal.Value
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem

namespace Cert.KinIdeal.Point
open Cert.KinIdeal Cert.KinIdeal.Gen

/-! ### The batch rows' computations are one computation -/

section
variable (x : Vec Ideal S1x256x1024 .f32) (a b : Vec Ideal S1x8x1024 .f32) (g : Vec Ideal S1x1024 .f32) (sc sh : Vec Ideal S1x1x1024 .f32)

theorem hidden1 : k0_pay6 (F := Ideal) (k0_pay3 x) (k0_pay4 g) (k0_pay5 sc) sh = k0_pay2 x g sc sh := rfl
theorem hidden2 : k0_pay10 (F := Ideal) (k0_pay7 sc) (k0_pay8 sh) (k0_pay9 x g) = k0_pay2 x g sc sh := rfl
theorem hidden3 : k0_pay11 (F := Ideal) x g sc sh = k0_pay2 x g sc sh := rfl

theorem edge0 : k0_pay22 (F := Ideal) (k0_pay14 (k0_pay12 a) (k0_pay13 b)) (k0_pay18 g) (k0_pay19 sc) (k0_pay20 sh)
    (k0_pay21 (k0_pay12 a) (k0_pay13 b)) = k0_pay23 (k0_pay15 a b) g sc sh := rfl
theorem edge2 : k0_pay26 (F := Ideal) (k0_pay16 a b) (k0_pay24 g) (k0_pay25 sc) sh = k0_pay23 (k0_pay15 a b) g sc sh := rfl
theorem edge3 : k0_pay29 (F := Ideal) (k0_pay27 (k0_pay17 a b) g sc) (k0_pay28 sh) = k0_pay23 (k0_pay15 a b) g sc sh := rfl
end

section
variable (h : FVec Ideal S256x1024 .bf16) (e : FVec Ideal S16x1024 .bf16) (W : Vec Ideal S1024x768 .bf16)

theorem wide1 : k0_pay55 (F := Ideal) h e W = k0_pay54 h e W := rfl
theorem wide2 : k0_pay56 (F := Ideal) h e W = k0_pay54 h e W := rfl
theorem wide3 : k0_pay57 (F := Ideal) h e W = k0_pay54 h e W := rfl
end

section
variable (H : FVec Ideal S272x768 .f32) (p n : EReal) (c0 c1 c2 : Vec Ideal S1x768 .f32)

/-- The row before the tile, or nothing at a stream's start. -/
def rowBefore : FVec Ideal S1x768 .f32 :=
  mulf (extractStridedSlice S1x768 ![263, 0] H slices_S272x768_o263_0_S1x768) (broadcast S1x768 p)

/-- The features of a tile from its product, the rows before and after it and the taps. -/
def convolved : FVec Ideal S256x768 .f32 :=
  k0_pay61 (k0_pay68 H) (rowBefore H p) (k0_pay69 (F := Ideal) n H) (iota .tc S256x768 32 [0] iota_S256x768_d0_w32) c0 c1 c2

theorem convolved1 : k0_pay71 (F := Ideal) (k0_pay68 H) (k0_pay69 (F := Ideal) n H) (iota .tc S256x768 32 [0] iota_S256x768_d0_w32)
    (k0_pay70 (F := Ideal) p H) 255#32 c0 c1 c2 = convolved H p n c0 c1 c2 := rfl
theorem convolved2 : k0_pay82 (F := Ideal) (k0_pay79 H) (k0_pay80 (F := Ideal) p H) (k0_pay81 (F := Ideal) n H) c0 c1 c2
    = convolved H p n c0 c1 c2 := rfl
theorem convolved3 : k0_pay92 (F := Ideal) (k0_pay88 H) (k0_pay89 (F := Ideal) n H) (k0_pay90 (F := Ideal) p H c0) (k0_pay91 c1) c2
    = convolved H p n c0 c1 c2 := rfl
end

/-- Features divided by their head's norm. -/
def unit (f : FVec Ideal S256x256 .f32) (S : Vec Ideal S256x256 .bf16) : FVec Ideal S256x256 .f32 :=
  mulf f (rsqrt (addf (matmul dot_S256x256_S256x256_S256x256_1_0_0_1_n_n none (truncf .bf16 (mulf f f) bitsLt_bf16_f32)
    (shapeCast S256x256 S shapeCasts_S256x256_S256x256 : FVec Ideal S256x256 .bf16) (constant S256x256 .f32 0x00000000#32))
    (broadcast S256x256 (Scalar.ofBits (F := Ideal) .f32 0x358637BD#32))))

/-- The keys stored from a tile's features. -/
def keys (f : FVec Ideal S256x768 .f32) (S : Vec Ideal S256x256 .bf16) : FVec Ideal S1x256x256 .bf16 :=
  k0_pay85 (unit (extractStridedSlice S256x256 ![0, 0] f slices_S256x768_o0_0_S256x256) S)

/-- The queries stored from a tile's features. -/
def queries (f : FVec Ideal S256x768 .f32) (S : Vec Ideal S256x256 .bf16) : FVec Ideal S1x256x256 .bf16 :=
  k0_pay87 (mulf (unit (extractStridedSlice S256x256 ![0, 512] f slices_S256x768_o0_512_S256x256) S)
    (broadcast S256x256 (Scalar.ofBits (F := Ideal) .f32 0x3E000000#32)))

section
variable (v : FVec Ideal S256x768 .f32) (p n : FVec Ideal S1x768 .f32) (q r s : FVec Ideal S256x768 .f32) (t : IVec S256x768 32)
  (k : BitVec 32) (c0 c1 c2 : Vec Ideal S1x768 .f32) (S : Vec Ideal S256x256 .bf16)

theorem keys0 : k0_pay65 (F := Ideal) (k0_pay62 v p n t c0 c1 c2) (k0_pay64 v p n t c0 c1 c2 S) = keys (k0_pay61 v p n t c0 c1 c2) S := rfl
theorem keys1 : k0_pay76 (F := Ideal) (k0_pay73 v p t q k c0 c1 c2 S) = keys (k0_pay71 v p t q k c0 c1 c2) S := rfl
theorem keys2 : k0_pay85 (F := Ideal) (k0_pay83 v q r c0 c1 c2 S) = keys (k0_pay82 v q r c0 c1 c2) S := rfl
theorem keys3 : k0_pay95 (F := Ideal) v q r s c2 S = keys (k0_pay92 v q r s c2) S := rfl

theorem queries0 : k0_pay67 (F := Ideal) (k0_pay63 v p n t c0 c1 c2) S = queries (k0_pay61 v p n t c0 c1 c2) S := rfl
theorem queries1 : k0_pay78 (F := Ideal) (k0_pay72 v p t q k c0 c1 c2) (k0_pay74 S) (k0_pay75 v p t q k c0 c1 c2)
    (constant S256x256 .f32 0x00000000#32) = queries (k0_pay71 v p t q k c0 c1 c2) S := rfl
theorem queries2 : k0_pay87 (F := Ideal) (k0_pay84 v q r c0 c1 c2 S) = queries (k0_pay82 v q r c0 c1 c2) S := rfl
theorem queries3 : k0_pay97 (F := Ideal) (k0_pay93 v q r s c2 S) = queries (k0_pay92 v q r s c2) S := rfl

theorem values1 : k0_pay77 (F := Ideal) v = k0_pay66 v := rfl
theorem values2 : k0_pay86 (F := Ideal) v = k0_pay66 v := rfl
theorem values3 : k0_pay96 (F := Ideal) (k0_pay94 v q r s c2) = k0_pay66 (k0_pay92 v q r s c2) := rfl
end

section
variable (h : FVec Ideal S256x1024 .bf16) (W : Vec Ideal S1024x128 .bf16) (t a : Vec Ideal S1x128 .f32)

theorem gates0 : k0_pay102 (F := Ideal) (k0_pay99 h W t a) k0_pay100 (k0_pay101 h W) (Scalar.ofBits (F := Ideal) .f32 0x3F000000#32)
    = k0_pay109 (k0_pay108 h W t a) := rfl
theorem gates1 : k0_pay107 (F := Ideal) (k0_pay104 h W t a) k0_pay105 (k0_pay106 h W) (Scalar.ofBits (F := Ideal) .f32 0x3F000000#32)
    = k0_pay109 (k0_pay108 h W t a) := rfl
theorem gates3 : k0_pay1 (F := Ideal) (k0_pay110 h W t a) = k0_pay109 (k0_pay108 h W t a) := rfl
end

/-! ### The computation, read -/

variable {x g sc sh : Fin 1024 → EReal} {h y z : Fin 1024 → EReal} {f : Fin 768 → EReal}

/-- A row of the modulated tile. -/
theorem modulated (v0 : Vec Ideal S1x256x1024 .f32) (v2 : Vec Ideal S1x1024 .f32) (v4 v6 : Vec Ideal S1x1x1024 .f32)
    (i : Fin 256) (h0 : ∀ k, v0 (ix3 0 i k) = x k) (h2 : ∀ k, v2 (ix2 0 k) = g k) (h4 : ∀ k, v4 (ix3 0 0 k) = sc k)
    (h6 : ∀ k, v6 (ix3 0 0 k) = sh k) (k : Fin 1024) :
    k0_pay2 (F := Ideal) v0 v2 v4 v6 (ix2 i k) = Rows.modulated x g sc sh k := by
  pointwise [k0_pay2, Rows.modulated, Rows.normalised]
  simp only [h0, h2, h4, h6]

/-- The modulated row before the tile. -/
theorem modulatedBefore (a b : Vec Ideal S1x8x1024 .f32) (v2 : Vec Ideal S1x1024 .f32) (v4 v6 : Vec Ideal S1x1x1024 .f32)
    (h0 : ∀ k, a (ix3 0 7 k) = x k) (h2 : ∀ k, v2 (ix2 0 k) = g k) (h4 : ∀ k, v4 (ix3 0 0 k) = sc k)
    (h6 : ∀ k, v6 (ix3 0 0 k) = sh k) (k : Fin 1024) :
    k0_pay23 (F := Ideal) (k0_pay15 a b) v2 v4 v6 (ix2 7 k) = Rows.modulated x g sc sh k := by
  pointwise [k0_pay23, k0_pay15, Rows.modulated, Rows.normalised]
  simp only [h0, h2, h4, h6]

/-- The modulated row after the tile. -/
theorem modulatedAfter (a b : Vec Ideal S1x8x1024 .f32) (v2 : Vec Ideal S1x1024 .f32) (v4 v6 : Vec Ideal S1x1x1024 .f32)
    (h0 : ∀ k, b (ix3 0 0 k) = x k) (h2 : ∀ k, v2 (ix2 0 k) = g k) (h4 : ∀ k, v4 (ix3 0 0 k) = sc k)
    (h6 : ∀ k, v6 (ix3 0 0 k) = sh k) (k : Fin 1024) :
    k0_pay23 (F := Ideal) (k0_pay15 a b) v2 v4 v6 (ix2 8 k) = Rows.modulated x g sc sh k := by
  pointwise [k0_pay23, k0_pay15, Rows.modulated, Rows.normalised]
  simp only [h0, h2, h4, h6]

/-- What is stored of the modulated tile itself. -/
theorem tokens (v : FVec Ideal S256x1024 .bf16) (i : Fin 256) (hv : ∀ k, v (ix2 i k) = h k) (k : Fin 1024) :
    k0_pay32 (F := Ideal) v (ix3 0 i k) = h k := by
  pointwise [k0_pay32]
  simp only [hv]

/-- The projection to the S5 branch. -/
theorem project256 (v : FVec Ideal S256x1024 .bf16) (W : Vec Ideal S1024x256 .bf16) {M : Fin 1024 → Fin 256 → EReal} (i : Fin 256)
    (hv : ∀ k, v (ix2 i k) = h k) (hW : ∀ k j, W (ix2 k j) = M k j) (j : Fin 256) :
    k0_pay36 (F := Ideal) v W (ix3 0 i j) = Rows.product h M j := by
  pointwise [k0_pay36, Rows.product]
  simp only [hv, hW]

/-- The output gate's projection. -/
theorem projectGate (v : FVec Ideal S256x1024 .bf16) (W : Vec Ideal S1024x256 .bf16) {M : Fin 1024 → Fin 256 → EReal} (i : Fin 256)
    (hv : ∀ k, v (ix2 i k) = h k) (hW : ∀ k j, W (ix2 k j) = M k j) (j : Fin 256) :
    k0_pay40 (F := Ideal) v W (ix3 0 i j) = Rows.product h M j := by
  pointwise [k0_pay40, Rows.product]
  simp only [hv, hW]

/-- The projections to the other two branches. -/
theorem project512 (v : FVec Ideal S256x1024 .bf16) (W : Vec Ideal S1024x512 .bf16) {M : Fin 1024 → Fin 512 → EReal} (i : Fin 256)
    (hv : ∀ k, v (ix2 i k) = h k) (hW : ∀ k j, W (ix2 k j) = M k j) (j : Fin 512) :
    k0_pay45 (F := Ideal) v W (ix3 0 i j) = Rows.product h M j := by
  pointwise [k0_pay45, Rows.product]
  simp only [hv, hW]

/-- The tile's product with the rows around it: a row of the tile. -/
theorem wide_at (v : FVec Ideal S256x1024 .bf16) (e : FVec Ideal S16x1024 .bf16) (W : Vec Ideal S1024x768 .bf16)
    {M : Fin 1024 → Fin 768 → EReal} (i : Fin 256) (hv : ∀ k, v (ix2 i k) = h k) (hW : ∀ k j, W (ix2 k j) = M k j) (j : Fin 768) :
    k0_pay54 (F := Ideal) v e W (ix2 ⟨i.val, by omega⟩ j) = Rows.product h M j := by
  pointwise [k0_pay54, Rows.product]
  simp [hv, hW]

/-- The row before the tile. -/
theorem wide_before (v : FVec Ideal S256x1024 .bf16) (e : FVec Ideal S16x1024 .bf16) (W : Vec Ideal S1024x768 .bf16)
    {M : Fin 1024 → Fin 768 → EReal} (hv : ∀ k, e (ix2 7 k) = h k) (hW : ∀ k j, W (ix2 k j) = M k j) (j : Fin 768) :
    k0_pay54 (F := Ideal) v e W (ix2 263 j) = Rows.product h M j := by
  pointwise [k0_pay54, Rows.product]
  simp [hv, hW]

/-- The row after the tile. -/
theorem wide_after (v : FVec Ideal S256x1024 .bf16) (e : FVec Ideal S16x1024 .bf16) (W : Vec Ideal S1024x768 .bf16)
    {M : Fin 1024 → Fin 768 → EReal} (hv : ∀ k, e (ix2 8 k) = h k) (hW : ∀ k j, W (ix2 k j) = M k j) (j : Fin 768) :
    k0_pay54 (F := Ideal) v e W (ix2 264 j) = Rows.product h M j := by
  pointwise [k0_pay54, Rows.product]
  simp [hv, hW]

/-- The row before a row of the tile. -/
def above (T : Fin 256 → Fin 768 → EReal) (P : Fin 768 → EReal) (p : EReal) (i : Fin 256) (w : Fin 768) : EReal :=
  if i.val = 0 then P w * p else T ⟨i.val - 1, by omega⟩ w

/-- The row after a row of the tile. -/
def below (T : Fin 256 → Fin 768 → EReal) (N : Fin 768 → EReal) (n : EReal) (i : Fin 256) (w : Fin 768) : EReal :=
  if h : i.val = 255 then N w * n else T ⟨i.val + 1, by omega⟩ w

/-- A row of the tile's features. -/
theorem convolved_at (H : FVec Ideal S272x768 .f32) (p n : EReal) (v0 v1 v2 : Vec Ideal S1x768 .f32) {T : Fin 256 → Fin 768 → EReal}
    {P N c0 c1 c2 : Fin 768 → EReal} (i : Fin 256)
    (hT : ∀ i w, H (ix2 ⟨i.val, by omega⟩ w) = T i w)
    (hP : ∀ w, H (ix2 263 w) = P w) (hN : ∀ w, H (ix2 264 w) = N w)
    (h0 : ∀ w, v0 (ix2 0 w) = c0 w) (h1 : ∀ w, v1 (ix2 0 w) = c1 w) (h2 : ∀ w, v2 (ix2 0 w) = c2 w) (w : Fin 768) :
    convolved H p n v0 v1 v2 (ix2 i w) = Inputs.feature c0 c1 c2 (above T P p i) (T i) (below T N n i) w := by
  have first : ∀ i : Fin 256, IntOp.cmpi .eq (BitVec.ofNat 32 i.val) 0#32 = if i.val = 0 then 1#1 else 0#1 := by decide +kernel
  have last : ∀ i : Fin 256, IntOp.cmpi .eq (BitVec.ofNat 32 i.val) 255#32 = if i.val = 255 then 1#1 else 0#1 := by decide +kernel
  have ha : Scalar.select (IntOp.cmpi .eq (BitVec.ofNat 32 i.val) 0#32) (H (ix2 263 w) * p)
      (H (ix2 ⟨(i.val + 256 - 1) % 256, by omega⟩ w)) = above T P p i w := by
    unfold above
    rw [first]
    by_cases h : i.val = 0
    · simp [h, hP, Scalar.select]
    · have e : (i.val + 256 - 1) % 256 = i.val - 1 := by omega
      simp only [h, if_false, e, Scalar.select]
      exact hT ⟨i.val - 1, by omega⟩ w
  have hb : Scalar.select (IntOp.cmpi .eq (BitVec.ofNat 32 i.val) 255#32) (H (ix2 264 w) * n)
      (H (ix2 ⟨(i.val + 256 - 255) % 256, by omega⟩ w)) = below T N n i w := by
    unfold below
    rw [last]
    by_cases h : i.val = 255
    · simp [h, hN, Scalar.select]
    · have e : (i.val + 256 - 255) % 256 = i.val + 1 := by omega
      simp only [h, if_false, dif_neg, not_false_eq_true, e, Scalar.select]
      exact hT ⟨i.val + 1, by omega⟩ w
  pointwise [convolved, rowBefore, k0_pay61, k0_pay68, k0_pay69, Inputs.feature, Inputs.logistic, Cert.Sigmoid.eq]
  simp only [ha, hb, hT, h0, h1, h2]

/-- A row of the keys. -/
theorem keys_at (F : FVec Ideal S256x768 .f32) (S : Vec Ideal S256x256 .bf16) (i : Fin 256) (hF : ∀ w, F (ix2 i w) = f w)
    (hS : ∀ v w, S (ix2 v w) = Inputs.sameHead v w) (w : Fin 256) :
    keys F S (ix3 0 i w) = Inputs.scaled (fun w => f ⟨0 + w.val, by omega⟩) (Inputs.headSquares fun w => f ⟨0 + w.val, by omega⟩) w := by
  have hs := Inputs.squares (fun w => f ⟨0 + w.val, by omega⟩) w
  unfold Rows.product at hs
  pointwise [keys, k0_pay85, unit, Inputs.scaled]
  simp only [Nat.zero_add] at hs ⊢
  simp only [hF, hS, ← hs]

/-- A row of the queries. -/
theorem queries_at (F : FVec Ideal S256x768 .f32) (S : Vec Ideal S256x256 .bf16) (i : Fin 256) (hF : ∀ w, F (ix2 i w) = f w)
    (hS : ∀ v w, S (ix2 v w) = Inputs.sameHead v w) (w : Fin 256) :
    queries F S (ix3 0 i w) = Inputs.scaled (fun w => f ⟨512 + w.val, by omega⟩)
      (Inputs.headSquares fun w => f ⟨512 + w.val, by omega⟩) w * Ideal.ofBits .f32 0x3E000000#32 := by
  have hs := Inputs.squares (fun w => f ⟨512 + w.val, by omega⟩) w
  unfold Rows.product at hs
  pointwise [queries, k0_pay87, unit, Inputs.scaled]
  simp only [hF, hS, ← hs]

/-- A row of the values. -/
theorem values_at (F : FVec Ideal S256x768 .f32) (i : Fin 256) (hF : ∀ w, F (ix2 i w) = f w) (w : Fin 256) :
    k0_pay66 (F := Ideal) F (ix3 0 i w) = f ⟨256 + w.val, by omega⟩ := by
  pointwise [k0_pay66]
  simp only [hF]

/-- A row of the decays and write strengths. -/
theorem gates_at (v : FVec Ideal S256x1024 .bf16) (W : Vec Ideal S1024x128 .bf16) (t a : Vec Ideal S1x128 .f32)
    {M : Fin 1024 → Fin 128 → EReal} {t' a' : Fin 8 → EReal} (i : Fin 256)
    (hv : ∀ k, v (ix2 i k) = h k) (hW : ∀ k j, W (ix2 k j) = M k j) (ht : ∀ j : Fin 8, t (ix2 0 ⟨j.val, by omega⟩) = t' j)
    (ha : ∀ j : Fin 8, a (ix2 0 ⟨j.val, by omega⟩) = a' j) (j : Fin 128) :
    k0_pay109 (F := Ideal) (k0_pay108 v W t a) (ix3 0 i j)
      = if hj : j.val < 8 then Inputs.decay (a' ⟨j.val, hj⟩) (Rows.product h M j) (t' ⟨j.val, hj⟩)
        else Inputs.logistic (Rows.product h M j) := by
  pointwise [k0_pay109, k0_pay108, Rows.product, Inputs.decay, Inputs.logistic, Cert.Sigmoid.eq]
  simp only [hv, hW]
  have lane : ∀ j : Fin 128, IntOp.cmpi .slt (BitVec.ofNat 32 j.val) 8#32 = if j.val < 8 then 1#1 else 0#1 := by decide +kernel
  rw [lane]
  by_cases hj : j.val < 8
  · rw [show t (ix2 0 j) = t' ⟨j.val, hj⟩ from ht ⟨j.val, hj⟩, show a (ix2 0 j) = a' ⟨j.val, hj⟩ from ha ⟨j.val, hj⟩]
    simp only [hj, if_true, dif_pos, Scalar.select, zero_sub]
    rfl
  · simp only [hj, if_false, dif_neg, not_false_eq_true, Scalar.select]
    rfl

/-- The words the kernel makes 0 and 1 of. -/
theorem word0 : Scalar.sitofp (F := Ideal) .f32 (0#32 : BitVec 32) = (0 : EReal) :=
  (by norm_num : (((0#32 : BitVec 32).toInt : ℝ) : EReal) = 0)
theorem word1 : Scalar.sitofp (F := Ideal) .f32 (1#32 : BitVec 32) = (1 : EReal) :=
  (by norm_num : (((1#32 : BitVec 32).toInt : ℝ) : EReal) = 1)

/-- Whether there is a row before the tile, as the kernel computes it from the tile's number. -/
theorem hasBefore (j : Fin 9) : k0_pay30 (F := Ideal) (BitVec.ofNat 32 j.val) = if j.val = 0 ∨ j.val = 8 then (0 : EReal) else 1 := by
  have h : Scalar.extui (Scalar.andi (Scalar.cmpi .ne (BitVec.ofNat 32 j.val) 0#32) (Scalar.cmpi .ne (BitVec.ofNat 32 j.val) 8#32))
      = if j.val = 0 ∨ j.val = 8 then 0#32 else 1#32 := by
    revert j; decide +kernel
  unfold k0_pay30
  simp only [h]
  split_ifs
  exacts [word0, word1]

/-- Whether there is a row after the tile. -/
theorem hasAfter (j : Fin 9) : k0_pay31 (F := Ideal) (BitVec.ofNat 32 j.val) = if j.val = 7 ∨ j.val = 8 then (0 : EReal) else 1 := by
  have h : Scalar.extui (Scalar.andi (Scalar.cmpi .ne (BitVec.ofNat 32 j.val) 7#32) (Scalar.cmpi .ne (BitVec.ofNat 32 j.val) 8#32))
      = if j.val = 7 ∨ j.val = 8 then 0#32 else 1#32 := by
    revert j; decide +kernel
  unfold k0_pay31
  simp only [h]
  split_ifs
  exacts [word0, word1]

end Cert.KinIdeal.Point
-- ==== Proof.Kin.Tile.lean ====
/- The input-projection kernel's blocks: what a grid point stores, from its input blocks, as functions of the rows. The four batch
   rows of a block are its slots; everything is stated for a slot. -/
module

public import proofs.«01_k».proof.Proof.Kin.Point

@[expose] public section

set_option maxRecDepth 16384
noncomputable section
open Idealize.ShloMosaic Idealize.ShloMosaic.TcCoe Idealize.SL.Sem

namespace Cert.KinIdeal.Tile
open Cert.KinIdeal Cert.KinIdeal.Gen Cert.KinIdeal.Point

variable {i : grid0.Coords} {x0 : Vec Ideal S4x256x1024 .f32} {x1 x2 : Vec Ideal S4x8x1024 .f32} {x3 x4 : Vec Ideal S4x1x1024 .f32}
  {x5 : Vec Ideal S1x1024 .f32} {x6 : Vec Ideal S1024x256 .bf16} {x7 : Vec Ideal S1024x768 .bf16} {x8 : Vec Ideal S1024x128 .bf16}
  {x9 : Vec Ideal S1024x256 .bf16} {x10 x11 : Vec Ideal S1024x512 .bf16} {x12 : Vec Ideal S3x768 .f32} {x13 : Vec Ideal S256x256 .bf16}
  {x14 x15 : Vec Ideal S1x128 .f32}
  {x g sc sh u v : Fin 1024 → EReal} {X : Fin 256 → Fin 1024 → EReal} {s : Fin 4}

/-! ### A slot of a block -/

/-- A slot of the token block. -/
def slot256 (x : Vec Ideal S4x256x1024 .f32) (q : Fin 4) : Vec Ideal S1x256x1024 .f32 :=
  View.ld x (Rect.unit (s := S4x256x1024) ![q.val, 0, 0] S1x256x1024.size (by revert q; decide))

/-- A slot of a block of rows around the tile. -/
def slot8 (x : Vec Ideal S4x8x1024 .f32) (q : Fin 4) : Vec Ideal S1x8x1024 .f32 :=
  View.ld x (Rect.unit (s := S4x8x1024) ![q.val, 0, 0] S1x8x1024.size (by revert q; decide))

/-- A slot of a modulation block. -/
def slot1 (x : Vec Ideal S4x1x1024 .f32) (q : Fin 4) : Vec Ideal S1x1x1024 .f32 :=
  View.ld x (Rect.unit (s := S4x1x1024) ![q.val, 0, 0] S1x1x1024.size (by revert q; decide))

theorem slot256_at (x : Vec Ideal S4x256x1024 .f32) (q : Fin 4) (r : Fin 256) (k : Fin 1024) : slot256 x q (ix3 0 r k) = x (ix3 q r k) := by
  fin_cases q <;> pointwise [slot256, View.ld_unit]

theorem slot8_at (x : Vec Ideal S4x8x1024 .f32) (q : Fin 4) (r : Fin 8) (k : Fin 1024) : slot8 x q (ix3 0 r k) = x (ix3 q r k) := by
  fin_cases q <;> pointwise [slot8, View.ld_unit]

theorem slot1_at (x : Vec Ideal S4x1x1024 .f32) (q : Fin 4) (k : Fin 1024) : slot1 x q (ix3 0 0 k) = x (ix3 q 0 k) := by
  fin_cases q <;> pointwise [slot1, View.ld_unit]

theorem gain_at (x : Vec Ideal S1x1024 .f32) (k : Fin 1024) : View.ld x r0_1 (ix2 0 k) = x (ix2 0 k) := by pointwise [View.ld_unit]

/-- Where a slot's store holds an element of the block: at the slot's own index. -/
theorem in_slot {n : ℕ} {α : Type} {s : Fin 4} {r : Fin 256} {j : Fin n} {y : (⟨3, ![1, 256, n]⟩ : Shape).Idx}
    {P : (⟨3, ![1, 256, n]⟩ : Shape).Idx → α} {c : α} (q : Fin 4) (h0 : s.val = q.val + (y 0).val) (h1 : r.val = (y 1).val)
    (h2 : j.val = (y 2).val) (h : s = q → P (ix3 0 r j) = c) : P y = c := by
  have b0 : (y 0).val < 1 := (y 0).isLt
  have e : y = ix3 0 r j := by blk_ext
  rw [e]
  exact h (Fin.ext (by omega))

/-! ### What a slot computes -/

/-- A slot's modulated tile. -/
def tile (x0 : Vec Ideal S4x256x1024 .f32) (x3 x4 : Vec Ideal S4x1x1024 .f32) (x5 : Vec Ideal S1x1024 .f32) (q : Fin 4) :
    FVec Ideal S256x1024 .bf16 := k0_pay2 (slot256 x0 q) (View.ld x5 r0_1) (slot1 x4 q) (slot1 x3 q)

/-- The rows around a slot's tile, modulated. -/
def around (x1 x2 : Vec Ideal S4x8x1024 .f32) (x3 x4 : Vec Ideal S4x1x1024 .f32) (x5 : Vec Ideal S1x1024 .f32) (q : Fin 4) :
    FVec Ideal S16x1024 .bf16 := k0_pay23 (k0_pay15 (slot8 x1 q) (slot8 x2 q)) (View.ld x5 r0_1) (slot1 x4 q) (slot1 x3 q)

/-- A slot's features. -/
def features (i : grid0.Coords) (x0 : Vec Ideal S4x256x1024 .f32) (x1 x2 : Vec Ideal S4x8x1024 .f32) (x3 x4 : Vec Ideal S4x1x1024 .f32)
    (x5 : Vec Ideal S1x1024 .f32) (x7 : Vec Ideal S1024x768 .bf16) (x12 : Vec Ideal S3x768 .f32) (q : Fin 4) : FVec Ideal S256x768 .f32 :=
  convolved (k0_pay54 (tile x0 x3 x4 x5 q) (around x1 x2 x3 x4 x5 q) (View.ld x7 r0_23)) (k0_pay30 (F := Ideal) (BitVec.ofNat 32 (i 1).val))
    (k0_pay31 (F := Ideal) (BitVec.ofNat 32 (i 1).val)) (View.ld x12 r0_24) (View.ld x12 r0_25) (View.ld x12 r0_26)

section
variable (i : grid0.Coords) (x0 : Vec Ideal S4x256x1024 .f32) (x1 x2 : Vec Ideal S4x8x1024 .f32) (x3 x4 : Vec Ideal S4x1x1024 .f32)
  (x5 : Vec Ideal S1x1024 .f32) (x6 : Vec Ideal S1024x256 .bf16) (x7 : Vec Ideal S1024x768 .bf16) (x8 : Vec Ideal S1024x128 .bf16)
  (x9 : Vec Ideal S1024x256 .bf16) (x10 x11 : Vec Ideal S1024x512 .bf16) (x12 : Vec Ideal S3x768 .f32) (x13 : Vec Ideal S256x256 .bf16)
  (x14 x15 : Vec Ideal S1x128 .f32)

theorem tile0 : k0_pay111 i x0 x1 x2 x3 x4 x5 x6 x7 x8 x9 x10 x11 x12 x13 x14 x15 = tile x0 x3 x4 x5 0 := rfl
theorem tile1 : k0_pay112 i x0 x1 x2 x3 x4 x5 x6 x7 x8 x9 x10 x11 x12 x13 x14 x15 = tile x0 x3 x4 x5 1 := rfl
theorem tile2 : k0_pay113 i x0 x1 x2 x3 x4 x5 x6 x7 x8 x9 x10 x11 x12 x13 x14 x15 = tile x0 x3 x4 x5 2 := rfl
theorem tile3 : k0_pay114 i x0 x1 x2 x3 x4 x5 x6 x7 x8 x9 x10 x11 x12 x13 x14 x15 = tile x0 x3 x4 x5 3 := rfl

theorem features0 : k0_pay61 (k0_pay122 i x0 x1 x2 x3 x4 x5 x6 x7 x8 x9 x10 x11 x12 x13 x14 x15)
    (k0_pay123 i x0 x1 x2 x3 x4 x5 x6 x7 x8 x9 x10 x11 x12 x13 x14 x15) (k0_pay124 i x0 x1 x2 x3 x4 x5 x6 x7 x8 x9 x10 x11 x12 x13 x14 x15)
    (k0_pay118 i x0 x1 x2 x3 x4 x5 x6 x7 x8 x9 x10 x11 x12 x13 x14 x15) (View.ld x12 r0_24) (View.ld x12 r0_25) (View.ld x12 r0_26)
    = features i x0 x1 x2 x3 x4 x5 x7 x12 0 := rfl
theorem features1 : k0_pay71 (k0_pay126 i x0 x1 x2 x3 x4 x5 x6 x7 x8 x9 x10 x11 x12 x13 x14 x15)
    (k0_pay127 i x0 x1 x2 x3 x4 x5 x6 x7 x8 x9 x10 x11 x12 x13 x14 x15) (k0_pay125 i x0 x1 x2 x3 x4 x5 x6 x7 x8 x9 x10 x11 x12 x13 x14 x15)
    (k0_pay128 i x0 x1 x2 x3 x4 x5 x6 x7 x8 x9 x10 x11 x12 x13 x14 x15) 255#32 (View.ld x12 r0_24) (View.ld x12 r0_25) (View.ld x12 r0_26)
    = features i x0 x1 x2 x3 x4 x5 x7 x12 1 := convolved1 _ _ _ _ _ _
theorem features2 : k0_pay82 (k0_pay129 i x0 x1 x2 x3 x4 x5 x6 x7 x8 x9 x10 x11 x12 x13 x14 x15)
    (k0_pay130 i x0 x1 x2 x3 x4 x5 x6 x7 x8 x9 x10 x11 x12 x13 x14 x15) (k0_pay131 i x0 x1 x2 x3 x4 x5 x6 x7 x8 x9 x10 x11 x12 x13 x14 x15)
    (View.ld x12 r0_24) (View.ld x12 r0_25) (View.ld x12 r0_26) = features i x0 x1 x2 x3 x4 x5 x7 x12 2 := convolved2 _ _ _ _ _ _
theorem features3 : k0_pay92 (k0_pay132 i x0 x1 x2 x3 x4 x5 x6 x7 x8 x9 x10 x11 x12 x13 x14 x15)
    (k0_pay133 i x0 x1 x2 x3 x4 x5 x6 x7 x8 x9 x10 x11 x12 x13 x14 x15) (k0_pay134 i x0 x1 x2 x3 x4 x5 x6 x7 x8 x9 x10 x11 x12 x13 x14 x15)
    (k0_pay135 i x0 x1 x2 x3 x4 x5 x6 x7 x8 x9 x10 x11 x12 x13 x14 x15) (View.ld x12 r0_26)
    = features i x0 x1 x2 x3 x4 x5 x7 x12 3 := convolved3 _ _ _ _ _ _
end

/-- A row of a slot's modulated tile. -/
theorem tile_at (r : Fin 256) (h0 : ∀ k, x0 (ix3 s r k) = x k) (h5 : ∀ k, x5 (ix2 0 k) = g k) (h4 : ∀ k, x4 (ix3 s 0 k) = sc k)
    (h3 : ∀ k, x3 (ix3 s 0 k) = sh k) (q : Fin 4) (e : s = q) (k : Fin 1024) :
    tile x0 x3 x4 x5 q (ix2 r k) = Rows.modulated x g sc sh k := by
  subst e
  exact modulated _ _ _ _ r (fun k => (slot256_at _ _ _ _).trans (h0 k)) (fun k => (gain_at _ _).trans (h5 k))
    (fun k => (slot1_at _ _ _).trans (h4 k)) (fun k => (slot1_at _ _ _).trans (h3 k)) k

/-- A row of a slot's features. -/
theorem features_at {M : Fin 1024 → Fin 768 → EReal} {c0 c1 c2 : Fin 768 → EReal} (r : Fin 256)
    (h0 : ∀ r k, x0 (ix3 s r k) = X r k) (h1 : ∀ k, x1 (ix3 s 7 k) = u k) (h2 : ∀ k, x2 (ix3 s 0 k) = v k)
    (h3 : ∀ k, x3 (ix3 s 0 k) = sh k) (h4 : ∀ k, x4 (ix3 s 0 k) = sc k) (h5 : ∀ k, x5 (ix2 0 k) = g k)
    (h7 : ∀ k j, x7 (ix2 k j) = M k j) (h120 : ∀ w, x12 (ix2 0 w) = c0 w) (h121 : ∀ w, x12 (ix2 1 w) = c1 w)
    (h122 : ∀ w, x12 (ix2 2 w) = c2 w) (q : Fin 4) (e : s = q) (w : Fin 768) :
    features i x0 x1 x2 x3 x4 x5 x7 x12 q (ix2 r w)
      = Inputs.feature c0 c1 c2 (above (fun r => Rows.product (Rows.modulated (X r) g sc sh) M) (Rows.product (Rows.modulated u g sc sh) M)
          (k0_pay30 (F := Ideal) (BitVec.ofNat 32 (i 1).val)) r) (Rows.product (Rows.modulated (X r) g sc sh) M)
        (below (fun r => Rows.product (Rows.modulated (X r) g sc sh) M) (Rows.product (Rows.modulated v g sc sh) M)
          (k0_pay31 (F := Ideal) (BitVec.ofNat 32 (i 1).val)) r) w := by
  subst e
  have h7' : ∀ k j, View.ld x7 r0_23 (ix2 k j) = M k j := fun k j => (by pointwise [View.ld_unit] : _ = x7 (ix2 k j)).trans (h7 k j)
  have g' : ∀ k, View.ld x5 r0_1 (ix2 0 k) = g k := fun k => (gain_at _ _).trans (h5 k)
  have sc' : ∀ k, slot1 x4 s (ix3 0 0 k) = sc k := fun k => (slot1_at _ _ _).trans (h4 k)
  have sh' : ∀ k, slot1 x3 s (ix3 0 0 k) = sh k := fun k => (slot1_at _ _ _).trans (h3 k)
  exact convolved_at _ _ _ _ _ _ r (fun r w => wide_at _ _ _ r (tile_at r (h0 r) h5 h4 h3 s rfl) h7' w)
    (fun w => wide_before _ _ _ (modulatedBefore _ _ _ _ _ (fun k => (slot8_at _ _ _ _).trans (h1 k)) g' sc' sh') h7' w)
    (fun w => wide_after _ _ _ (modulatedAfter _ _ _ _ _ (fun k => (slot8_at _ _ _ _).trans (h2 k)) g' sc' sh') h7' w)
    (fun w => (by pointwise [View.ld_unit] : _ = x12 (ix2 0 w)).trans (h120 w)) (fun w => (by pointwise [View.ld_unit] : _ = x12 (ix2 1 w)).trans (h121 w))
    (fun w => (by pointwise [View.ld_unit] : _ = x12 (ix2 2 w)).trans (h122 w)) w

/-! ### What a point stores -/

/-- The modulated tokens. -/
theorem out22_at (r : Fin 256) (h0 : ∀ k, x0 (ix3 s r k) = x k) (h5 : ∀ k, x5 (ix2 0 k) = g k) (h4 : ∀ k, x4 (ix3 s 0 k) = sc k)
    (h3 : ∀ k, x3 (ix3 s 0 k) = sh k) (k : Fin 1024) :
    out0_22 i x0 x1 x2 x3 x4 x5 x6 x7 x8 x9 x10 x11 x12 x13 x14 x15 (ix3 s r k) = Rows.modulated x g sc sh k := by
  have hT := tile_at r h0 h5 h4 h3
  unfold out0_22
  canon_tiles y hx
  · exact in_slot 3 hx0 hx1 hx2 fun e => tokens _ r (hT 3 e) k
  · exact in_slot 2 hx0 hx1 hx2 fun e => tokens _ r (hT 2 e) k
  · exact in_slot 1 hx0 hx1 hx2 fun e => tokens _ r (hT 1 e) k
  · exact in_slot 0 (hx0.trans (Nat.zero_add _).symm) hx1 hx2 fun e => tokens _ r (hT 0 e) k

/-- The S5 branch's input. -/
theorem out16_at {M : Fin 1024 → Fin 256 → EReal} (r : Fin 256) (h0 : ∀ k, x0 (ix3 s r k) = x k) (h5 : ∀ k, x5 (ix2 0 k) = g k)
    (h4 : ∀ k, x4 (ix3 s 0 k) = sc k) (h3 : ∀ k, x3 (ix3 s 0 k) = sh k) (hM : ∀ k j, x6 (ix2 k j) = M k j) (j : Fin 256) :
    out0_16 i x0 x1 x2 x3 x4 x5 x6 x7 x8 x9 x10 x11 x12 x13 x14 x15 (ix3 s r j) = Rows.product (Rows.modulated x g sc sh) M j := by
  have hT := tile_at r h0 h5 h4 h3
  have hW : ∀ k j, View.ld x6 r0_13 (ix2 k j) = M k j := fun k j => (by pointwise [View.ld_unit] : _ = x6 (ix2 k j)).trans (hM k j)
  unfold out0_16
  canon_tiles y hx
  · exact in_slot 3 hx0 hx1 hx2 fun e => project256 _ _ r (hT 3 e) hW j
  · exact in_slot 2 hx0 hx1 hx2 fun e => project256 _ _ r (hT 2 e) hW j
  · exact in_slot 1 hx0 hx1 hx2 fun e => project256 _ _ r (hT 1 e) hW j
  · exact in_slot 0 (hx0.trans (Nat.zero_add _).symm) hx1 hx2 fun e => project256 _ _ r (hT 0 e) hW j

/-- The output gate's projection. -/
theorem out19_at {M : Fin 1024 → Fin 256 → EReal} (r : Fin 256) (h0 : ∀ k, x0 (ix3 s r k) = x k) (h5 : ∀ k, x5 (ix2 0 k) = g k)
    (h4 : ∀ k, x4 (ix3 s 0 k) = sc k) (h3 : ∀ k, x3 (ix3 s 0 k) = sh k) (hM : ∀ k j, x9 (ix2 k j) = M k j) (j : Fin 256) :
    out0_19 i x0 x1 x2 x3 x4 x5 x6 x7 x8 x9 x10 x11 x12 x13 x14 x15 (ix3 s r j) = Rows.product (Rows.modulated x g sc sh) M j := by
  have hT := tile_at r h0 h5 h4 h3
  have hW : ∀ k j, View.ld x9 r0_13 (ix2 k j) = M k j := fun k j => (by pointwise [View.ld_unit] : _ = x9 (ix2 k j)).trans (hM k j)
  unfold out0_19
  canon_tiles y hx
  · exact in_slot 3 hx0 hx1 hx2 fun e => projectGate _ _ r (hT 3 e) hW j
  · exact in_slot 2 hx0 hx1 hx2 fun e => projectGate _ _ r (hT 2 e) hW j
  · exact in_slot 1 hx0 hx1 hx2 fun e => projectGate _ _ r (hT 1 e) hW j
  · exact in_slot 0 (hx0.trans (Nat.zero_add _).symm) hx1 hx2 fun e => projectGate _ _ r (hT 0 e) hW j

/-- The FNet branch's input. -/
theorem out20_at {M : Fin 1024 → Fin 512 → EReal} (r : Fin 256) (h0 : ∀ k, x0 (ix3 s r k) = x k) (h5 : ∀ k, x5 (ix2 0 k) = g k)
    (h4 : ∀ k, x4 (ix3 s 0 k) = sc k) (h3 : ∀ k, x3 (ix3 s 0 k) = sh k) (hM : ∀ k j, x10 (ix2 k j) = M k j) (j : Fin 512) :
    out0_20 i x0 x1 x2 x3 x4 x5 x6 x7 x8 x9 x10 x11 x12 x13 x14 x15 (ix3 s r j) = Rows.product (Rows.modulated x g sc sh) M j := by
  have hT := tile_at r h0 h5 h4 h3
  have hW : ∀ k j, View.ld x10 r0_18 (ix2 k j) = M k j := fun k j => (by pointwise [View.ld_unit] : _ = x10 (ix2 k j)).trans (hM k j)
  unfold out0_20
  canon_tiles y hx
  · exact in_slot 3 hx0 hx1 hx2 fun e => project512 _ _ r (hT 3 e) hW j
  · exact in_slot 2 hx0 hx1 hx2 fun e => project512 _ _ r (hT 2 e) hW j
  · exact in_slot 1 hx0 hx1 hx2 fun e => project512 _ _ r (hT 1 e) hW j
  · exact in_slot 0 (hx0.trans (Nat.zero_add _).symm) hx1 hx2 fun e => project512 _ _ r (hT 0 e) hW j

/-- The gating branch's input. -/
theorem out21_at {M : Fin 1024 → Fin 512 → EReal} (r : Fin 256) (h0 : ∀ k, x0 (ix3 s r k) = x k) (h5 : ∀ k, x5 (ix2 0 k) = g k)
    (h4 : ∀ k, x4 (ix3 s 0 k) = sc k) (h3 : ∀ k, x3 (ix3 s 0 k) = sh k) (hM : ∀ k j, x11 (ix2 k j) = M k j) (j : Fin 512) :
    out0_21 i x0 x1 x2 x3 x4 x5 x6 x7 x8 x9 x10 x11 x12 x13 x14 x15 (ix3 s r j) = Rows.product (Rows.modulated x g sc sh) M j := by
  have hT := tile_at r h0 h5 h4 h3
  have hW : ∀ k j, View.ld x11 r0_18 (ix2 k j) = M k j := fun k j => (by pointwise [View.ld_unit] : _ = x11 (ix2 k j)).trans (hM k j)
  unfold out0_21
  canon_tiles y hx
  · exact in_slot 3 hx0 hx1 hx2 fun e => project512 _ _ r (hT 3 e) hW j
  · exact in_slot 2 hx0 hx1 hx2 fun e => project512 _ _ r (hT 2 e) hW j
  · exact in_slot 1 hx0 hx1 hx2 fun e => project512 _ _ r (hT 1 e) hW j
  · exact in_slot 0 (hx0.trans (Nat.zero_add _).symm) hx1 hx2 fun e => project512 _ _ r (hT 0 e) hW j

/-- The decays and write strengths. -/
theorem out18_at {M : Fin 1024 → Fin 128 → EReal} {t' a' : Fin 8 → EReal} (r : Fin 256) (h0 : ∀ k, x0 (ix3 s r k) = x k)
    (h5 : ∀ k, x5 (ix2 0 k) = g k) (h4 : ∀ k, x4 (ix3 s 0 k) = sc k) (h3 : ∀ k, x3 (ix3 s 0 k) = sh k) (h8 : ∀ k j, x8 (ix2 k j) = M k j)
    (h15 : ∀ j : Fin 8, x15 (ix2 0 ⟨j.val, by omega⟩) = t' j) (h14 : ∀ j : Fin 8, x14 (ix2 0 ⟨j.val, by omega⟩) = a' j) (j : Fin 128) :
    out0_18 i x0 x1 x2 x3 x4 x5 x6 x7 x8 x9 x10 x11 x12 x13 x14 x15 (ix3 s r j)
      = if hj : j.val < 8 then Inputs.decay (a' ⟨j.val, hj⟩) (Rows.product (Rows.modulated x g sc sh) M j) (t' ⟨j.val, hj⟩)
        else Inputs.logistic (Rows.product (Rows.modulated x g sc sh) M j) := by
  have hT := tile_at r h0 h5 h4 h3
  have hW : ∀ k j, View.ld x8 r0_40 (ix2 k j) = M k j := fun k j => (by pointwise [View.ld_unit] : _ = x8 (ix2 k j)).trans (h8 k j)
  have ht : ∀ j : Fin 8, View.ld x15 r0_41 (ix2 0 ⟨j.val, by omega⟩) = t' j := fun j =>
    (by pointwise [View.ld_unit] : _ = x15 (ix2 0 ⟨j.val, by omega⟩)).trans (h15 j)
  have ha : ∀ j : Fin 8, View.ld x14 r0_41 (ix2 0 ⟨j.val, by omega⟩) = a' j := fun j =>
    (by pointwise [View.ld_unit] : _ = x14 (ix2 0 ⟨j.val, by omega⟩)).trans (h14 j)
  unfold out0_18
  canon_tiles y hx
  · exact in_slot 3 hx0 hx1 hx2 fun e => (congrFun (gates3 _ _ _ _) _).trans (gates_at _ _ _ _ r (hT 3 e) hW ht ha j)
  · exact in_slot 2 hx0 hx1 hx2 fun e => gates_at _ _ _ _ r (hT 2 e) hW ht ha j
  · exact in_slot 1 hx0 hx1 hx2 fun e => (congrFun (gates1 _ _ _ _) _).trans (gates_at _ _ _ _ r (hT 1 e) hW ht ha j)
  · exact in_slot 0 (hx0.trans (Nat.zero_add _).symm) hx1 hx2 fun e =>
      (congrFun (gates0 _ _ _ _) _).trans (gates_at _ _ _ _ r (hT 0 e) hW ht ha j)

section
variable {F : FVec Ideal S256x768 .f32} {S : Vec Ideal S256x256 .bf16} {f : Fin 768 → EReal} {r : Fin 256} {j : Fin 768} {y : S1x256x256.Idx}

/-- A slot's keys, in the keys' columns of the block. -/
theorem keys_row (q : Fin 4) (h0 : s.val = q.val + (y 0).val) (h1 : r.val = (y 1).val) (h2 : j.val = (y 2).val)
    (hF : s = q → ∀ w, F (ix2 r w) = f w) (hS : ∀ v w, S (ix2 v w) = Inputs.sameHead v w) : keys F S y = Inputs.row f j := by
  have b : (y 2).val < 256 := (y 2).isLt
  refine in_slot (j := ⟨(y 2).val, b⟩) q h0 h1 rfl fun e => (keys_at _ _ r (hF e) hS _).trans ?_
  unfold Inputs.row
  rw [dif_pos (by omega)]
  exact congrArg (Inputs.scaled _ _) (Fin.ext h2.symm)

/-- A slot's values, in the values' columns. -/
theorem values_row (q : Fin 4) (h0 : s.val = q.val + (y 0).val) (h1 : r.val = (y 1).val) (h2 : j.val = 256 + (y 2).val)
    (hF : s = q → ∀ w, F (ix2 r w) = f w) : k0_pay66 (F := Ideal) F y = Inputs.row f j := by
  have b : (y 2).val < 256 := (y 2).isLt
  refine in_slot (j := ⟨(y 2).val, b⟩) q h0 h1 rfl fun e => (values_at _ r (hF e) _).trans ?_
  unfold Inputs.row
  rw [dif_neg (by omega), dif_pos (by omega)]
  exact congrArg f (Fin.ext h2.symm)

/-- A slot's queries, in the queries' columns. -/
theorem queries_row (q : Fin 4) (h0 : s.val = q.val + (y 0).val) (h1 : r.val = (y 1).val) (h2 : j.val = 512 + (y 2).val)
    (hF : s = q → ∀ w, F (ix2 r w) = f w) (hS : ∀ v w, S (ix2 v w) = Inputs.sameHead v w) : queries F S y = Inputs.row f j := by
  have b : (y 2).val < 256 := (y 2).isLt
  refine in_slot (j := ⟨(y 2).val, b⟩) q h0 h1 rfl fun e => (queries_at _ _ r (hF e) hS _).trans ?_
  unfold Inputs.row
  rw [dif_neg (by omega), dif_neg (by omega)]
  exact congrArg (Inputs.scaled _ _ · * _) (Fin.ext (by dsimp; omega))
end

/-- The keys, values and queries. -/
theorem out17_at {M : Fin 1024 → Fin 768 → EReal} {c0 c1 c2 : Fin 768 → EReal} (r : Fin 256)
    (h0 : ∀ r k, x0 (ix3 s r k) = X r k) (h1 : ∀ k, x1 (ix3 s 7 k) = u k) (h2 : ∀ k, x2 (ix3 s 0 k) = v k)
    (h3 : ∀ k, x3 (ix3 s 0 k) = sh k) (h4 : ∀ k, x4 (ix3 s 0 k) = sc k) (h5 : ∀ k, x5 (ix2 0 k) = g k)
    (h7 : ∀ k j, x7 (ix2 k j) = M k j) (h120 : ∀ w, x12 (ix2 0 w) = c0 w) (h121 : ∀ w, x12 (ix2 1 w) = c1 w)
    (h122 : ∀ w, x12 (ix2 2 w) = c2 w) (h13 : ∀ v w, x13 (ix2 v w) = Inputs.sameHead v w) (j : Fin 768) :
    out0_17 i x0 x1 x2 x3 x4 x5 x6 x7 x8 x9 x10 x11 x12 x13 x14 x15 (ix3 s r j)
      = Inputs.row (Inputs.feature c0 c1 c2 (above (fun r => Rows.product (Rows.modulated (X r) g sc sh) M) (Rows.product (Rows.modulated u g sc sh) M)
          (k0_pay30 (F := Ideal) (BitVec.ofNat 32 (i 1).val)) r) (Rows.product (Rows.modulated (X r) g sc sh) M)
        (below (fun r => Rows.product (Rows.modulated (X r) g sc sh) M) (Rows.product (Rows.modulated v g sc sh) M)
          (k0_pay31 (F := Ideal) (BitVec.ofNat 32 (i 1).val)) r)) j := by
  have hF := features_at (i := i) r h0 h1 h2 h3 h4 h5 h7 h120 h121 h122
  have hS : ∀ v w, View.ld x13 r0_27 (ix2 v w) = Inputs.sameHead v w := fun v w =>
    (by pointwise [View.ld_unit] : _ = x13 (ix2 v w)).trans (h13 v w)
  unfold out0_17
  canon_tiles y hx
  · rw [queries3, features3]; exact queries_row 3 hx0 hx1 hx2 (hF 3) hS
  · rw [values3, features3]; exact values_row 3 hx0 hx1 hx2 (hF 3)
  · rw [keys3, features3]; exact keys_row 3 hx0 hx1 hx2 (hF 3) hS
  · rw [queries2, features2]; exact queries_row 2 hx0 hx1 hx2 (hF 2) hS
  · rw [values2, features2]; exact values_row 2 hx0 hx1 hx2 (hF 2)
  · rw [keys2, features2]; exact keys_row 2 hx0 hx1 hx2 (hF 2) hS
  · rw [queries1, features1]; exact queries_row 1 hx0 hx1 hx2 (hF 1) hS
  · rw [values1, features1]; exact values_row 1 hx0 hx1 hx2 (hF 1)
  · rw [keys1, features1]; exact keys_row 1 hx0 hx1 hx2 (hF 1) hS
  · rw [queries0, features0]; exact queries_row 0 (hx0.trans (Nat.zero_add _).symm) hx1 hx2 (hF 0) hS
  · rw [features0]; exact values_row 0 (hx0.trans (Nat.zero_add _).symm) hx1 hx2 (hF 0)
  · rw [keys0, features0]; exact keys_row 0 (hx0.trans (Nat.zero_add _).symm) hx1 hx2 (hF 0) hS

end Cert.KinIdeal.Tile
-- ==== Proof.Kin.Reference.lean ====
/- The input projections' reference: its composed terms, cut into the steps of the mathematics, and each step read at one
   token as a function of the tokens' rows. -/
module

public import proofs.«01_k».proof.Proof.Kin.Rows
public import proofs.«01_k».proof.Proof.Gen.KinRefIdeal.Run
public import Idealize.ShloMosaic.PureOps.Ideal
public import Idealize.ShloMosaic.Lib.Pipeline.ValueKit

@[expose] public section

set_option maxRecDepth 16384
noncomputable section
open Idealize.ShloMosaic Idealize.ShloMosaic.TcCoe Idealize.SL.Sem

namespace Cert.KinRefIdeal.Steps
open Cert.KinRefIdeal Cert.KinRefIdeal.Gen

/-- Every token's modulation vectors: its batch entry's for a latent token, the context's for a context token. -/
def tokenMods (M : FVec Ideal S32x1x6144 .f32) (C : FVec Ideal S6144 .f32) : FVec Ideal S32x2304x6144 .f32 :=
  concatenate S32x2304x6144 1 [⟨S32x2048x6144, (broadcastInDim S32x2048x6144 ![0, 1, 2] bcast_S32x1x6144_S32x2048x6144_0_1_2 M)⟩,
    ⟨S32x256x6144, (broadcastInDim S32x256x6144 ![2] bcast_S6144_S32x256x6144_2 C)⟩]
    concatenates_S32x2048x6144_S32x256x6144_S32x2304x6144_d1

/-- The modulated tokens. -/
def hidden (X : FVec Ideal S32x2304x1024 .f32) (M : FVec Ideal S32x1x6144 .f32) (C : FVec Ideal S6144 .f32) (g : FVec Ideal S1024 .f32) :
    FVec Ideal S32x2304x1024 .f32 :=
  addf (mulf (mulf (mulf X (broadcastInDim S32x2304x1024 ![0, 1, 2] bcast_S32x2304x1_S32x2304x1024_0_1_2 (Host.rsqrt (addf
    (Host.divf (broadcastInDim S32x2304x1 ![0, 1] bcast_S32x2304_S32x2304x1_0_1
      (Host.reduceAdd (mulf X X) (constant S_ .f32 0x00000000#32) reducesTo_S32x2304x1024_S32x2304_d2 h_S_))
      (broadcastInDim S32x2304x1 ![] bcast_S_S32x2304x1 (constant S_ .f32 0x44800000#32)))
    (broadcastInDim S32x2304x1 ![] bcast_S_S32x2304x1 (constant S_ .f32 0x358637BD#32))))))
    (broadcastInDim S32x2304x1024 ![0, 1, 2] bcast_S1x1x1024_S32x2304x1024_0_1_2
      (broadcastInDim S1x1x1024 ![2] bcast_S1024_S1x1x1024_2 g)))
    (addf (broadcastInDim S32x2304x1024 ![] bcast_S_S32x2304x1024 (constant S_ .f32 0x3F800000#32))
      (extractStridedSlice S32x2304x1024 ![0, 0, 1024] (tokenMods M C) slices_S32x2304x6144_S32x2304x1024_0_0_1024)))
    (extractStridedSlice S32x2304x1024 ![0, 0, 0] (tokenMods M C) slices_S32x2304x6144_S32x2304x1024_0_0_0)

/-- A column of a feature's taps, for every token of the latent stream. -/
def latentTap (c : FVec Ideal S256x1 .f32) : FVec Ideal S32x2048x256 .f32 :=
  broadcastInDim S32x2048x256 ![0, 1, 2] bcast_S1x1x256_S32x2048x256_0_1_2
    (broadcastInDim S1x1x256 ![2] bcast_S256_S1x1x256_2 (shapeCast S256 c shapeCasts_S256x1_S256))

/-- The same for the context stream. -/
def contextTap (c : FVec Ideal S256x1 .f32) : FVec Ideal S32x256x256 .f32 :=
  broadcastInDim S32x256x256 ![0, 1, 2] bcast_S1x1x256_S32x256x256_0_1_2
    (broadcastInDim S1x1x256 ![2] bcast_S256_S1x1x256_2 (shapeCast S256 c shapeCasts_S256x1_S256))

/-- A row of zeros. -/
def zeroRow : FVec Ideal S32x1x256 .f32 := broadcastInDim S32x1x256 ![] bcast_S_S32x1x256 (constant S_ .f32 0x00000000#32)

/-- The short convolution of the latent stream. -/
def latentConv (Z : FVec Ideal S32x2048x256 .f32) (w : FVec Ideal S256x3 .f32) : FVec Ideal S32x2048x256 .f32 :=
  addf (addf
    (mulf (concatenate S32x2048x256 1 [⟨S32x1x256, zeroRow⟩,
        ⟨S32x2047x256, extractStridedSlice S32x2047x256 ![0, 0, 0] Z slices_S32x2048x256_S32x2047x256_0_0_0⟩]
        concatenates_S32x1x256_S32x2047x256_S32x2048x256_d1)
      (latentTap (extractStridedSlice S256x1 ![0, 0] w slices_S256x3_S256x1_0_0)))
    (mulf Z (latentTap (extractStridedSlice S256x1 ![0, 1] w slices_S256x3_S256x1_0_1))))
    (mulf (concatenate S32x2048x256 1 [⟨S32x2047x256, extractStridedSlice S32x2047x256 ![0, 1, 0] Z slices_S32x2048x256_S32x2047x256_0_1_0⟩,
        ⟨S32x1x256, zeroRow⟩] concatenates_S32x2047x256_S32x1x256_S32x2048x256_d1)
      (latentTap (extractStridedSlice S256x1 ![0, 2] w slices_S256x3_S256x1_0_2)))

/-- The short convolution of the context stream. -/
def contextConv (Z : FVec Ideal S32x256x256 .f32) (w : FVec Ideal S256x3 .f32) : FVec Ideal S32x256x256 .f32 :=
  addf (addf
    (mulf (concatenate S32x256x256 1 [⟨S32x1x256, zeroRow⟩,
        ⟨S32x255x256, extractStridedSlice S32x255x256 ![0, 0, 0] Z slices_S32x256x256_S32x255x256_0_0_0⟩]
        concatenates_S32x1x256_S32x255x256_S32x256x256_d1)
      (contextTap (extractStridedSlice S256x1 ![0, 0] w slices_S256x3_S256x1_0_0)))
    (mulf Z (contextTap (extractStridedSlice S256x1 ![0, 1] w slices_S256x3_S256x1_0_1))))
    (mulf (concatenate S32x256x256 1 [⟨S32x255x256, extractStridedSlice S32x255x256 ![0, 1, 0] Z slices_S32x256x256_S32x255x256_0_1_0⟩,
        ⟨S32x1x256, zeroRow⟩] concatenates_S32x255x256_S32x1x256_S32x256x256_d1)
      (contextTap (extractStridedSlice S256x1 ![0, 2] w slices_S256x3_S256x1_0_2)))

/-- The short convolution of the tokens, stream by stream. -/
def conv (Z : FVec Ideal S32x2304x256 .f32) (w : FVec Ideal S256x3 .f32) : FVec Ideal S32x2304x256 .f32 :=
  concatenate S32x2304x256 1 [⟨S32x2048x256, latentConv (extractStridedSlice S32x2048x256 ![0, 0, 0] Z slices_S32x2304x256_S32x2048x256_0_0_0) w⟩,
    ⟨S32x256x256, contextConv (extractStridedSlice S32x256x256 ![0, 2048, 0] Z slices_S32x2304x256_S32x256x256_0_2048_0) w⟩]
    concatenates_S32x2048x256_S32x256x256_S32x2304x256_d1

/-- The convolved features through `silu`, by head. -/
def feats (Z : FVec Ideal S32x2304x256 .f32) (w : FVec Ideal S1x256x3 .f32) : FVec Ideal S32x2304x4x64 .f32 :=
  shapeCast S32x2304x4x64 (mulf (conv Z (shapeCast S256x3 w shapeCasts_S1x256x3_S256x3)) (Host.divf
    (broadcastInDim S32x2304x256 ![] bcast_S_S32x2304x256 (constant S_ .f32 0x3F800000#32))
    (addf (broadcastInDim S32x2304x256 ![] bcast_S_S32x2304x256 (constant S_ .f32 0x3F800000#32))
      (Host.exp (Host.negf (conv Z (shapeCast S256x3 w shapeCasts_S1x256x3_S256x3))))))) shapeCasts_S32x2304x256_S32x2304x4x64

/-- Features divided by their head's norm. -/
def normed (Y : FVec Ideal S32x2304x4x64 .f32) : FVec Ideal S32x2304x4x64 .f32 :=
  mulf Y (broadcastInDim S32x2304x4x64 ![0, 1, 2, 3] bcast_S32x2304x4x1_S32x2304x4x64_0_1_2_3 (Host.rsqrt (addf
    (broadcastInDim S32x2304x4x1 ![0, 1, 2] bcast_S32x2304x4_S32x2304x4x1_0_1_2
      (Host.reduceAdd (mulf Y Y) (constant S_ .f32 0x00000000#32) reducesTo_S32x2304x4x64_S32x2304x4_d3 h_S_))
    (broadcastInDim S32x2304x4x1 ![] bcast_S_S32x2304x4x1 (constant S_ .f32 0x358637BD#32)))))

/-- Keys, values and queries, side by side. -/
def kvq (Z : FVec Ideal S32x2304x768 .f32) (w : FVec Ideal S3x256x3 .f32) : FVec Ideal S32x2304x768 .bf16 :=
  truncf .bf16 (concatenate S32x2304x768 2
    [⟨S32x2304x256, shapeCast S32x2304x256 (normed (feats
        (extractStridedSlice S32x2304x256 ![0, 0, 0] Z slices_S32x2304x768_S32x2304x256_0_0_0)
        (extractStridedSlice S1x256x3 ![0, 0, 0] w slices_S3x256x3_S1x256x3_0_0_0))) shapeCasts_S32x2304x4x64_S32x2304x256⟩,
      ⟨S32x2304x256, shapeCast S32x2304x256 (feats
        (extractStridedSlice S32x2304x256 ![0, 0, 256] Z slices_S32x2304x768_S32x2304x256_0_0_256)
        (extractStridedSlice S1x256x3 ![1, 0, 0] w slices_S3x256x3_S1x256x3_1_0_0)) shapeCasts_S32x2304x4x64_S32x2304x256⟩,
      ⟨S32x2304x256, shapeCast S32x2304x256 (mulf (normed (feats
        (extractStridedSlice S32x2304x256 ![0, 0, 512] Z slices_S32x2304x768_S32x2304x256_0_0_512)
        (extractStridedSlice S1x256x3 ![2, 0, 0] w slices_S3x256x3_S1x256x3_2_0_0)))
        (broadcastInDim S32x2304x4x64 ![] bcast_S_S32x2304x4x64 (constant S_ .f32 0x3E000000#32))) shapeCasts_S32x2304x4x64_S32x2304x256⟩]
    concatenates_S32x2304x256_S32x2304x256_S32x2304x256_S32x2304x768_d2) bitsLt_bf16_f32

/-- The decays' arguments: the first eight columns, with their bias. -/
def biased (Z : FVec Ideal S32x2304x128 .f32) (t : FVec Ideal S8 .f32) : FVec Ideal S32x2304x8 .f32 :=
  addf (extractStridedSlice S32x2304x8 ![0, 0, 0] Z slices_S32x2304x128_S32x2304x8_0_0_0)
    (broadcastInDim S32x2304x8 ![0, 1, 2] bcast_S1x1x8_S32x2304x8_0_1_2 (broadcastInDim S1x1x8 ![2] bcast_S8_S1x1x8_2 t))

/-- A number for every decay of every token. -/
def zero8 : FVec Ideal S32x2304x8 .f32 := broadcastInDim S32x2304x8 ![] bcast_S_S32x2304x8 (constant S_ .f32 0x00000000#32)

/-- Decays and write strengths, side by side. -/
def gb (Z : FVec Ideal S32x2304x128 .f32) (a t : FVec Ideal S8 .f32) : FVec Ideal S32x2304x128 .f32 :=
  concatenate S32x2304x128 2 [⟨S32x2304x8, mulf (broadcastInDim S32x2304x8 ![0, 1, 2] bcast_S1x1x8_S32x2304x8_0_1_2
      (broadcastInDim S1x1x8 ![2] bcast_S8_S1x1x8_2 (Host.negf (Host.exp a))))
      (select (cmpf .une (subf (biased Z t) zero8) (subf (biased Z t) zero8)) (addf (biased Z t) zero8)
        (addf (maximumf (biased Z t) zero8) (Host.log1p (Host.exp (Host.negf (Host.absf (subf (biased Z t) zero8)))))))⟩,
    ⟨S32x2304x120, Host.divf (broadcastInDim S32x2304x120 ![] bcast_S_S32x2304x120 (constant S_ .f32 0x3F800000#32))
      (addf (broadcastInDim S32x2304x120 ![] bcast_S_S32x2304x120 (constant S_ .f32 0x3F800000#32)) (Host.exp (Host.negf
        (extractStridedSlice S32x2304x120 ![0, 0, 8] Z slices_S32x2304x128_S32x2304x120_0_0_8))))⟩]
    concatenates_S32x2304x8_S32x2304x120_S32x2304x128_d2

/-- The product with the keys', values' and queries' weights. -/
def product768 (H : FVec Ideal S32x2304x1024 .f32) (W : FVec Ideal S1024x768 .f32) : FVec Ideal S32x2304x768 .f32 :=
  Host.dotGeneral dot_S32x2304x1024_S1024x768_S32x2304x768_2_0_01_1_n_n none H W

/-- The product with the gates' weights. -/
def product128 (H : FVec Ideal S32x2304x1024 .f32) (W : FVec Ideal S1024x128 .f32) : FVec Ideal S32x2304x128 .f32 :=
  Host.dotGeneral dot_S32x2304x1024_S1024x128_S32x2304x128_2_0_01_1_n_n none H W

/-- A product with 256 columns. -/
def product256 (H : FVec Ideal S32x2304x1024 .f32) (W : FVec Ideal S1024x256 .f32) : FVec Ideal S32x2304x256 .f32 :=
  Host.dotGeneral dot_S32x2304x1024_S1024x256_S32x2304x256_2_0_01_1_n_n none H W

/-- A product with 512 columns. -/
def product512 (H : FVec Ideal S32x2304x1024 .f32) (W : FVec Ideal S1024x512 .f32) : FVec Ideal S32x2304x512 .f32 :=
  Host.dotGeneral dot_S32x2304x1024_S1024x512_S32x2304x512_2_0_01_1_n_n none H W

section
variable (b : Fin 32) (r : Fin 2304)

/-- A latent token's modulation vectors. -/
theorem tokenMods_latent (M : FVec Ideal S32x1x6144 .f32) (C : FVec Ideal S6144 .f32) (hr : r.val < 2048) (k : Fin 6144) :
    tokenMods M C (ix3 b r k) = M (ix3 b 0 k) := by
  pointwise [tokenMods]
  simp [hr]

/-- A context token's modulation vectors. -/
theorem tokenMods_context (M : FVec Ideal S32x1x6144 .f32) (C : FVec Ideal S6144 .f32) (hr : 2048 ≤ r.val) (k : Fin 6144) :
    tokenMods M C (ix3 b r k) = C (ix1 k) := by
  pointwise [tokenMods]
  simp [hr]

/-- One token's modulated row. -/
def token (X : FVec Ideal S32x2304x1024 .f32) (M : FVec Ideal S32x1x6144 .f32) (C : FVec Ideal S6144 .f32) (g : FVec Ideal S1024 .f32)
    (b : Fin 32) (r : Fin 2304) : Fin 1024 → EReal :=
  Rows.modulated (fun k => X (ix3 b r k)) (fun k => g (ix1 k)) (fun k => tokenMods M C (ix3 b r ⟨1024 + k.val, by omega⟩))
    (fun k => tokenMods M C (ix3 b r ⟨0 + k.val, by omega⟩))

/-- The modulated tokens at a token. -/
theorem hidden_at (X : FVec Ideal S32x2304x1024 .f32) (M : FVec Ideal S32x1x6144 .f32) (C : FVec Ideal S6144 .f32)
    (g : FVec Ideal S1024 .f32) (k : Fin 1024) : hidden X M C g (ix3 b r k) = token X M C g b r k := by
  unfold hidden token
  generalize tokenMods M C = T
  pointwise [Rows.modulated, Rows.normalised]

theorem product256_at (H : FVec Ideal S32x2304x1024 .f32) (W : FVec Ideal S1024x256 .f32) (j : Fin 256) :
    product256 H W (ix3 b r j) = Rows.product (fun k => H (ix3 b r k)) (fun k j => W (ix2 k j)) j := by
  pointwise [product256, Rows.product]

theorem product512_at (H : FVec Ideal S32x2304x1024 .f32) (W : FVec Ideal S1024x512 .f32) (j : Fin 512) :
    product512 H W (ix3 b r j) = Rows.product (fun k => H (ix3 b r k)) (fun k j => W (ix2 k j)) j := by
  pointwise [product512, Rows.product]

theorem product128_at (H : FVec Ideal S32x2304x1024 .f32) (W : FVec Ideal S1024x128 .f32) (j : Fin 128) :
    product128 H W (ix3 b r j) = Rows.product (fun k => H (ix3 b r k)) (fun k j => W (ix2 k j)) j := by
  pointwise [product128, Rows.product]

theorem product768_at (H : FVec Ideal S32x2304x1024 .f32) (W : FVec Ideal S1024x768 .f32) (j : Fin 768) :
    product768 H W (ix3 b r j) = Rows.product (fun k => H (ix3 b r k)) (fun k j => W (ix2 k j)) j := by
  pointwise [product768, Rows.product]

/-- The tokens' row before a token's in its stream, zeros at the stream's beginning. -/
def before {n : ℕ} (Z : Fin 2304 → Fin n → EReal) (r : Fin 2304) (w : Fin n) : EReal :=
  if r.val = 0 ∨ r.val = 2048 then 0 else Z ⟨r.val - 1, by omega⟩ w

/-- The tokens' row after a token's in its stream, zeros at the stream's end. -/
def after {n : ℕ} (Z : Fin 2304 → Fin n → EReal) (r : Fin 2304) (w : Fin n) : EReal :=
  if h : r.val = 2047 ∨ r.val = 2303 then 0 else Z ⟨r.val + 1, by omega⟩ w

/-- The tokens' convolution at a token. -/
theorem conv_at (Z : FVec Ideal S32x2304x256 .f32) (c : FVec Ideal S256x3 .f32) (w : Fin 256) :
    conv Z c (ix3 b r w) = before (fun r w => Z (ix3 b r w)) r w * c (ix2 w 0) + Z (ix3 b r w) * c (ix2 w 1)
      + after (fun r w => Z (ix3 b r w)) r w * c (ix2 w 2) := by
  unfold before after
  have at_row : ∀ p q : Fin 2304, p.val = q.val → Z (ix3 b p w) = Z (ix3 b q w) := fun p q e => by rw [Fin.ext e]
  by_cases h : r.val < 2048
  · pointwise [conv, latentConv, latentTap, zeroRow]
    simp only [h, dif_pos]
    exact congrArg₂ (· + ·) (congrArg₂ (· + ·) (congrArg (· * _) (by (repeat' split) <;> first | rfl | (exfalso; omega)))
      rfl) (congrArg (· * _) (by (repeat' split) <;> first | rfl | (exfalso; omega) | exact at_row _ _ (by first | omega | (dsimp; omega))))
  · pointwise [conv, contextConv, contextTap, zeroRow]
    simp only [h, dif_neg, not_false_eq_true]
    exact congrArg₂ (· + ·) (congrArg₂ (· + ·)
      (congrArg (· * _) (by (repeat' split) <;> first | rfl | (exfalso; omega) | exact at_row _ _ (by first | omega | (dsimp; omega))))
      (congrArg (· * _) (at_row _ _ (by first | omega | (dsimp; omega)))))
      (congrArg (· * _) (by (repeat' split) <;> first | rfl | (exfalso; omega) | exact at_row _ _ (by first | omega | (dsimp; omega))))

/-- The convolved features at a token. -/
theorem feats_at (Z : FVec Ideal S32x2304x256 .f32) (c : FVec Ideal S1x256x3 .f32) (h : Fin 4) (d : Fin 64) :
    feats Z c (ix4 b r h d) = Inputs.feature (fun w => c (ix3 0 w 0)) (fun w => c (ix3 0 w 1)) (fun w => c (ix3 0 w 2))
      (before (fun r w => Z (ix3 b r w)) r) (fun w => Z (ix3 b r w)) (after (fun r w => Z (ix3 b r w)) r)
      ⟨h.val * 64 + d.val, by omega⟩ := by
  unfold Inputs.feature Inputs.logistic
  have e := conv_at b r Z (shapeCast S256x3 c shapeCasts_S1x256x3_S256x3)
  have e0 : ∀ w j, shapeCast S256x3 c shapeCasts_S1x256x3_S256x3 (ix2 w j) = c (ix3 0 w j) := fun w j => by pointwise []
  simp only [e0] at e
  simp only [← e]
  unfold feats
  generalize conv Z _ = Y
  pointwise []

/-- The normalised features at a token. -/
theorem normed_at (Y : FVec Ideal S32x2304x4x64 .f32) (f : Fin 256 → EReal)
    (hY : ∀ h d, Y (ix4 b r h d) = f ⟨h.val * 64 + d.val, by omega⟩) (h : Fin 4) (d : Fin 64) :
    normed Y (ix4 b r h d) = Inputs.scaled f (Inputs.headSquares f) ⟨h.val * 64 + d.val, by omega⟩ := by
  pointwise [normed, Inputs.scaled, Inputs.headSquares]
  simp only [hY, show (h.val * 64 + d.val) / 64 = h.val by omega]

/-- A token's convolved features, its keys', values' and queries' columns side by side. -/
def features (Z : Fin 2304 → Fin 768 → EReal) (c : FVec Ideal S3x256x3 .f32) (r : Fin 2304) : Fin 768 → EReal :=
  Inputs.feature (fun w => c (ix3 ⟨w.val / 256, by omega⟩ ⟨w.val % 256, by omega⟩ 0))
    (fun w => c (ix3 ⟨w.val / 256, by omega⟩ ⟨w.val % 256, by omega⟩ 1))
    (fun w => c (ix3 ⟨w.val / 256, by omega⟩ ⟨w.val % 256, by omega⟩ 2)) (before Z r) (Z r) (after Z r)

/-- One part's features, from the part's columns and taps. -/
theorem part_at (Z : FVec Ideal S32x2304x768 .f32) (c : FVec Ideal S3x256x3 .f32) (Z' : FVec Ideal S32x2304x256 .f32)
    (c' : FVec Ideal S1x256x3 .f32) (p : Fin 3) (o : ℕ) (ho : o = 256 * p.val) (hZ : ∀ r w, Z' (ix3 b r w) = Z (ix3 b r ⟨o + w.val, by omega⟩))
    (hc : ∀ w j, c' (ix3 0 w j) = c (ix3 p w j)) (h : Fin 4) (d : Fin 64) :
    feats Z' c' (ix4 b r h d) = features (fun r w => Z (ix3 b r w)) c r ⟨o + (h.val * 64 + d.val), by omega⟩ := by
  rw [feats_at]
  unfold features Inputs.feature before after
  have e : ∀ w : Fin 256, (⟨(o + w.val) / 256, by omega⟩ : Fin 3) = p := fun w => Fin.ext (by simp; omega)
  have e' : ∀ w : Fin 256, (⟨(o + w.val) % 256, by omega⟩ : Fin 256) = w := fun w => Fin.ext (by simp; omega)
  have e0 := e ⟨h.val * 64 + d.val, by omega⟩
  have e1 := e' ⟨h.val * 64 + d.val, by omega⟩
  simp only at e0 e1
  simp only [hZ, hc, e0, e1]

/-- The keys, values and queries at a token. -/
theorem kvq_at (Z : FVec Ideal S32x2304x768 .f32) (c : FVec Ideal S3x256x3 .f32) (j : Fin 768) :
    kvq Z c (ix3 b r j) = Inputs.row (features (fun r w => Z (ix3 b r w)) c r) j := by
  have k := part_at b r Z c (extractStridedSlice S32x2304x256 ![0, 0, 0] Z slices_S32x2304x768_S32x2304x256_0_0_0)
    (extractStridedSlice S1x256x3 ![0, 0, 0] c slices_S3x256x3_S1x256x3_0_0_0) 0 0 (by simp)
    (fun r w => by pointwise []) (fun w j => by pointwise [])
  have v := part_at b r Z c (extractStridedSlice S32x2304x256 ![0, 0, 256] Z slices_S32x2304x768_S32x2304x256_0_0_256)
    (extractStridedSlice S1x256x3 ![1, 0, 0] c slices_S3x256x3_S1x256x3_1_0_0) 1 256 (by simp)
    (fun r w => by pointwise []) (fun w j => by pointwise [])
  have q := part_at b r Z c (extractStridedSlice S32x2304x256 ![0, 0, 512] Z slices_S32x2304x768_S32x2304x256_0_0_512)
    (extractStridedSlice S1x256x3 ![2, 0, 0] c slices_S3x256x3_S1x256x3_2_0_0) 2 512 (by simp)
    (fun r w => by pointwise []) (fun w j => by pointwise [])
  unfold kvq Inputs.row
  generalize features _ c r = f at k v q ⊢
  have nk := normed_at b r _ (fun w => f ⟨0 + w.val, by omega⟩) k
  have nq := normed_at b r _ (fun w => f ⟨512 + w.val, by omega⟩) q
  generalize feats _ _ = K at k nk ⊢
  generalize feats _ _ = W at v ⊢
  generalize feats _ _ = Q at q nq ⊢
  generalize normed K = K' at nk ⊢
  generalize normed Q = Q' at nq ⊢
  pointwise []
  simp only [nk, v, nq]
  by_cases h : j.val < 256
  · simp only [h, dif_pos, Nat.zero_add]
    exact congrArg _ (Fin.ext (by dsimp; omega))
  · by_cases h' : j.val < 512
    · simp only [h, h', dif_neg, dif_pos, not_false_eq_true, show j.val - 256 < 256 by omega]
      exact congrArg f (Fin.ext (by dsimp; omega))
    · simp only [h, h', dif_neg, not_false_eq_true, show ¬ j.val - 256 < 256 by omega]
      exact congrArg (Inputs.scaled _ _ · * _) (Fin.ext (by dsimp; omega))

/-- The decays and write strengths at a token. -/
theorem gb_at (Z : FVec Ideal S32x2304x128 .f32) (a t : FVec Ideal S8 .f32) (j : Fin 128) :
    gb Z a t (ix3 b r j) = if h : j.val < 8 then Inputs.decay (a (ix1 ⟨j.val, h⟩)) (Z (ix3 b r j)) (t (ix1 ⟨j.val, h⟩))
      else Inputs.logistic (Z (ix3 b r j)) := by
  by_cases h : j.val < 8
  · pointwise [gb, biased, zero8, Inputs.decay]
    simp [h]
    rfl
  · pointwise [gb, biased, zero8, Inputs.logistic]
    simp only [h, dif_neg, not_false_eq_true]
    rw [show (⟨8 + (j.val - 8), by omega⟩ : Fin 128) = j from Fin.ext (by simp; omega)]

end
end Cert.KinRefIdeal.Steps
-- ==== Proof.Kin.Reads.lean ====
/- What the input-projection kernel reads at a grid point, as functions of its arguments. -/
module

public import proofs.«01_k».proof.Proof.Kin.Tile
public import proofs.«01_k».proof.Proof.Kin.Reference

@[expose] public section

set_option maxRecDepth 16384
noncomputable section
open Idealize.ShloMosaic Idealize.ShloMosaic.TcCoe Idealize.SL.Sem
open Idealize.ShloMosaic.Pipeline (Dat)
open Cert.KinRefIdeal.Steps

namespace Cert.KinIdeal.Final
open Cert.KinIdeal Cert.KinIdeal.Gen Cert.KinIdeal.Point Cert.KinIdeal.Tile

/-! ### What the host code prepares -/

/-- The modulation rows the kernel is given: the batch entries', then the context's four times. -/
def hostMods (M : FVec Ideal S32x1x6144 .f32) (C : FVec Ideal S6144 .f32) : FVec Ideal S36x1x6144 .f32 :=
  concatenate S36x1x6144 0 [⟨S32x1x6144, M⟩, ⟨S4x1x6144, broadcastInDim S4x1x6144 ![0, 1, 2] bcast_S1x1x6144_S4x1x6144_0_1_2
    (shapeCast S1x1x6144 C shapeCasts_S6144_S1x1x6144)⟩] concatenates_S32x1x6144_S4x1x6144_S36x1x6144_d0

theorem hostMods_latent (M : FVec Ideal S32x1x6144 .f32) (C : FVec Ideal S6144 .f32) (q : Fin 36) (b : Fin 32)
    (h : q.val = b.val) (k : Fin 6144) : hostMods M C (ix3 q 0 k) = M (ix3 b 0 k) := by
  pointwise [hostMods]
  simp [h]

theorem hostMods_context (M : FVec Ideal S32x1x6144 .f32) (C : FVec Ideal S6144 .f32) (q : Fin 36) (h : 32 ≤ q.val)
    (k : Fin 6144) : hostMods M C (ix3 q 0 k) = C (ix1 k) := by
  pointwise [hostMods]
  simp [h]

/-- The head matrix the kernel is given. -/
def hostHeads : FVec Ideal S256x256 .bf16 :=
  uitofp .bf16 (cmpi .eq
      (broadcastInDim S256x256 ![0, 1] bcast_S256x1_S256x256_0_1 (broadcastInDim S256x1 ![0] bcast_S256_S256x1_0
        (Host.divsi (iotaInDim S256 32 0) (broadcastInDim S256 ![] bcast_S_S256 (constantI S_ 32 64#32)))))
      (broadcastInDim S256x256 ![0, 1] bcast_S1x256_S256x256_0_1 (broadcastInDim S1x256 ![1] bcast_S256_S1x256_1
        (Host.divsi (iotaInDim S256 32 0) (broadcastInDim S256 ![] bcast_S_S256 (constantI S_ 32 64#32))))))

theorem hostHeads_at (v w : Fin 256) : hostHeads (ix2 v w) = Inputs.sameHead v w := by
  have lane : ∀ v : Fin 256, IntOp.divsi .host (BitVec.ofNat 32 v) 64#32 = BitVec.ofNat 32 (v.val / 64) := by decide +kernel
  pointwise [hostHeads, Inputs.sameHead]
  rw [lane, lane]
  have cmp : ∀ a b : Fin 4, FloatOps.uitofp (F := Ideal) .bf16 (IntOp.cmpi .eq (BitVec.ofNat 32 a.val) (BitVec.ofNat 32 b.val))
      = if a = b then 1 else 0 := by
    intro a b
    have : IntOp.cmpi .eq (BitVec.ofNat 32 a.val) (BitVec.ofNat 32 b.val) = if a = b then 1#1 else 0#1 := by
      revert a b; decide +kernel
    rw [this]
    split_ifs
    · exact (by norm_num : ((((1#1 : BitVec 1).toNat : ℝ)) : EReal) = 1)
    · exact (by norm_num : ((((0#1 : BitVec 1).toNat : ℝ)) : EReal) = 0)
  rw [cmp ⟨v.val / 64, by omega⟩ ⟨w.val / 64, by omega⟩]
  simp only [Fin.mk.injEq]

/-- The taps the kernel is given: a row for each. -/
def hostTaps (w : FVec Ideal S3x256x3 .f32) : FVec Ideal S3x768 .f32 :=
  shapeCast S3x768 (transpose S3x3x256 [2, 0, 1] w transposes_S3x256x3_S3x3x256_2_0_1) shapeCasts_S3x3x256_S3x768

theorem hostTaps_at (c : FVec Ideal S3x256x3 .f32) (q : Fin 3) (w : Fin 768) :
    hostTaps c (ix2 q w) = c (ix3 ⟨w.val / 256, by omega⟩ ⟨w.val % 256, by omega⟩ q) := by
  pointwise [hostTaps]

/-- A vector of eight numbers, padded with zeros to a row. -/
def hostPadded (a : FVec Ideal S8 .f32) : FVec Ideal S1x128 .f32 :=
  concatenate S1x128 1 [⟨S1x8, (shapeCast S1x8 a shapeCasts_S8_S1x8 : FVec Ideal S1x8 .f32)⟩,
    ⟨S1x120, broadcastInDim S1x120 ![] bcast_S_S1x120 (constant S_ .f32 0x00000000#32)⟩] concatenates_S1x8_S1x120_S1x128_d1

theorem hostPadded_at (a : FVec Ideal S8 .f32) (j : Fin 8) : hostPadded a (ix2 0 ⟨j.val, by omega⟩) = a (ix1 j) := by
  pointwise [hostPadded]

/-! ### What a point reads -/

/-- Every window's block at a point. -/
theorem idx : ∀ t : Fin cfg0.N, win0_0.index t = ![t.val / 9, t.val % 9, 0]
    ∧ win0_1.index t = ![t.val / 9, 32 * (t.val % 9) - 1, 0] ∧ win0_2.index t = ![t.val / 9, min (32 * (t.val % 9 + 1)) 287, 0]
    ∧ win0_3.index t = ![if t.val % 9 < 8 then t.val / 9 else 8, 0, 0] ∧ win0_4.index t = ![if t.val % 9 < 8 then t.val / 9 else 8, 0, 1]
    ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![0, 0]
    ∧ win0_16.index t = ![t.val / 9, t.val % 9, 0] ∧ win0_17.index t = ![t.val / 9, t.val % 9, 0]
    ∧ win0_18.index t = ![t.val / 9, t.val % 9, 0] ∧ win0_19.index t = ![t.val / 9, t.val % 9, 0]
    ∧ win0_20.index t = ![t.val / 9, t.val % 9, 0] ∧ win0_21.index t = ![t.val / 9, t.val % 9, 0]
    ∧ win0_22.index t = ![t.val / 9, t.val % 9, 0] :=
  (by decide +kernel : ∀ t : Fin grid0.N, _)

/-- The tile a point works on. -/
theorem tile_of (t : Fin cfg0.N) : (grid0.coords t 1).val = t.val % 9 := (by decide +kernel : ∀ t : Fin grid0.N, (grid0.coords t 1).val = t.val % 9) t

theorem lt72 (t : Fin cfg0.N) : t.val < 72 := lt_of_lt_of_eq t.isLt (by decide)

variable (m : (ℓ : Loc nD τ sig) → Buf (Elt Ideal) ℓ) (c : Dev nD) (t : Fin cfg0.N) (s : Fin 4) (i : Fin 256)

/-- The batch entry of a point's slot. -/
def entryOf : Fin 32 := ⟨4 * (t.val / 9) + s.val, by have := lt72 t; omega⟩

/-- The token of a point's row. -/
def tokenOf : Fin 2304 := ⟨256 * (t.val % 9) + i.val, by omega⟩

/-- The modulation vectors a slot of a point uses. -/
def slotMods (M : FVec Ideal S32x1x6144 .f32) (C : FVec Ideal S6144 .f32) (k : Fin 6144) : EReal :=
  if t.val % 9 < 8 then M (ix3 (entryOf t s) 0 k) else C (ix1 k)

/-- They are those of every token of the tile's stream. -/
theorem slotMods_eq (M : FVec Ideal S32x1x6144 .f32) (C : FVec Ideal S6144 .f32) (R : Fin 2304) (h : R.val < 2048 ↔ t.val % 9 < 8)
    (k : Fin 6144) : slotMods t s M C k = tokenMods M C (ix3 (entryOf t s) R k) := by
  unfold slotMods
  by_cases h8 : t.val % 9 < 8
  · rw [if_pos h8, tokenMods_latent _ _ _ _ (h.mpr h8)]
  · rw [if_neg h8, tokenMods_context _ _ _ _ (by have := mt h.mp h8; omega)]

theorem read_shift (k : Fin 1024) : iblk m c 3 t (ix3 s 0 k)
    = slotMods t s (m ((c : Thread nD τ).loc main_arg1)) (m ((c : Thread nD τ).loc main_arg2)) ⟨0 + k.val, by omega⟩ := by
  obtain ⟨-, -, -, h, -⟩ := idx t
  have ht := lt72 t
  unfold slotMods
  by_cases h8 : t.val % 9 < 8
  · rw [if_pos h8] at h ⊢
    refine Eq.trans ?_ (hostMods_latent _ (m ((c : Thread nD τ).loc main_arg2)) ⟨t.val / 9 * 4 + s.val, by omega⟩ (entryOf t s)
      (by show t.val / 9 * 4 + s.val = 4 * (t.val / 9) + s.val; omega) _)
    blk_point [iblk, V, h, hostMods]
  · rw [if_neg h8] at h ⊢
    refine Eq.trans ?_ (hostMods_context (m ((c : Thread nD τ).loc main_arg1)) _ ⟨8 * 4 + s.val, by omega⟩ (by simp) _)
    blk_point [iblk, V, h, hostMods]

theorem read_scale (k : Fin 1024) : iblk m c 4 t (ix3 s 0 k)
    = slotMods t s (m ((c : Thread nD τ).loc main_arg1)) (m ((c : Thread nD τ).loc main_arg2)) ⟨1024 + k.val, by omega⟩ := by
  obtain ⟨-, -, -, -, h, -⟩ := idx t
  have ht := lt72 t
  unfold slotMods
  by_cases h8 : t.val % 9 < 8
  · rw [if_pos h8] at h ⊢
    refine Eq.trans ?_ (hostMods_latent _ (m ((c : Thread nD τ).loc main_arg2)) ⟨t.val / 9 * 4 + s.val, by omega⟩ (entryOf t s)
      (by show t.val / 9 * 4 + s.val = 4 * (t.val / 9) + s.val; omega) _)
    blk_point [iblk, V, h, hostMods]
  · rw [if_neg h8] at h ⊢
    refine Eq.trans ?_ (hostMods_context (m ((c : Thread nD τ).loc main_arg1)) _ ⟨8 * 4 + s.val, by omega⟩ (by simp) _)
    blk_point [iblk, V, h, hostMods]

theorem read_token (k : Fin 1024) : iblk m c 0 t (ix3 s i k) = m ((c : Thread nD τ).loc main_arg0) (ix3 (entryOf t s) (tokenOf t i) k) := by
  unfold entryOf tokenOf
  blk_point [iblk, V, idx t]

theorem read_gain (k : Fin 1024) : iblk m c 5 t (ix2 0 k) = m ((c : Thread nD τ).loc main_arg3) (ix1 k) := by
  blk_point [iblk, V, idx t]

/-- The row before the tile, but at a stream's start. -/
theorem read_before (h : 0 < t.val % 9) (k : Fin 1024) : iblk m c 1 t (ix3 s 7 k)
    = m ((c : Thread nD τ).loc main_arg0) (ix3 (entryOf t s) ⟨256 * (t.val % 9) - 1, by omega⟩ k) := by
  unfold entryOf
  blk_point [iblk, V, idx t]

/-- The row after the tile, but at a stream's end. -/
theorem read_after (h : t.val % 9 < 8) (k : Fin 1024) : iblk m c 2 t (ix3 s 0 k)
    = m ((c : Thread nD τ).loc main_arg0) (ix3 (entryOf t s) ⟨256 * (t.val % 9) + 256, by omega⟩ k) := by
  unfold entryOf
  blk_point [iblk, V, idx t]

theorem read_heads (v w : Fin 256) : iblk m c 13 t (ix2 v w) = Inputs.sameHead v w := by
  have hV : V m c main_v8 = hostHeads := by entry_read; rfl
  have he : (win0_13.blk t).view.emb (ix2 v w) = ix2 v w := by blk_ext [idx t]
  exact (congrArg (V m c main_v8) he).trans ((congrFun hV _).trans (hostHeads_at v w))

theorem read_tap (q : Fin 3) (w : Fin 768) : iblk m c 12 t (ix2 q w)
    = m ((c : Thread nD τ).loc main_arg10) (ix3 ⟨w.val / 256, by omega⟩ ⟨w.val % 256, by omega⟩ q) := by
  have hV : V m c main_v16 = hostTaps (m ((c : Thread nD τ).loc main_arg10)) := by entry_read; rfl
  have he : (win0_12.blk t).view.emb (ix2 q w) = ix2 q w := by blk_ext [idx t]
  exact (congrArg (V m c main_v16) he).trans ((congrFun hV _).trans (hostTaps_at _ q w))

theorem read_log (j : Fin 8) : iblk m c 14 t (ix2 0 ⟨j.val, by omega⟩) = m ((c : Thread nD τ).loc main_arg11) (ix1 j) := by
  have hV : V m c main_v19 = hostPadded (m ((c : Thread nD τ).loc main_arg11)) := by entry_read; rfl
  have he : (win0_14.blk t).view.emb (ix2 0 (⟨j.val, by omega⟩ : Fin 128)) = ix2 0 ⟨j.val, by omega⟩ := by blk_ext [idx t]
  exact (congrArg (V m c main_v19) he).trans ((congrFun hV _).trans (hostPadded_at _ j))

theorem read_bias (j : Fin 8) : iblk m c 15 t (ix2 0 ⟨j.val, by omega⟩) = m ((c : Thread nD τ).loc main_arg12) (ix1 j) := by
  have hV : V m c main_v21 = hostPadded (m ((c : Thread nD τ).loc main_arg12)) := by entry_read; rfl
  have he : (win0_15.blk t).view.emb (ix2 0 (⟨j.val, by omega⟩ : Fin 128)) = ix2 0 ⟨j.val, by omega⟩ := by blk_ext [idx t]
  exact (congrArg (V m c main_v21) he).trans ((congrFun hV _).trans (hostPadded_at _ j))

end Cert.KinIdeal.Final
-- ==== Proof.Kin.Value.lean ====
/- The input-projection kernel's seven result arrays are the reference's over the same arguments. -/
module

public import proofs.«01_k».proof.Proof.Kin.Reads

@[expose] public section

set_option maxRecDepth 16384
noncomputable section
open Idealize.ShloMosaic Idealize.ShloMosaic.TcCoe Idealize.SL.Sem
open Idealize.ShloMosaic.Pipeline (Dat)
open Cert.KinRefIdeal.Steps

namespace Cert.KinIdeal.Final
open Cert.KinIdeal Cert.KinIdeal.Gen Cert.KinIdeal.Point Cert.KinIdeal.Tile

variable (m : (ℓ : Loc nD τ sig) → Buf (Elt Ideal) ℓ) (c : Dev nD) (t : Fin cfg0.N) (s : Fin 4) (i : Fin 256)

/-- The modulated tokens, from the kernel's arguments. -/
abbrev tokens0 : FVec Ideal S32x2304x1024 .f32 :=
  hidden (m ((c : Thread nD τ).loc main_arg0)) (m ((c : Thread nD τ).loc main_arg1)) (m ((c : Thread nD τ).loc main_arg2))
    (m ((c : Thread nD τ).loc main_arg3))

/-- A row of a point's tokens, modulated as the point does, is that token's row. -/
theorem tokens0_at (R : Fin 2304) (h : R.val < 2048 ↔ t.val % 9 < 8) : (fun k => tokens0 m c (ix3 (entryOf t s) R k))
    = Rows.modulated (fun k => m ((c : Thread nD τ).loc main_arg0) (ix3 (entryOf t s) R k)) (fun k => m ((c : Thread nD τ).loc main_arg3) (ix1 k))
        (fun k => slotMods t s (m ((c : Thread nD τ).loc main_arg1)) (m ((c : Thread nD τ).loc main_arg2)) ⟨1024 + k.val, by omega⟩)
        (fun k => slotMods t s (m ((c : Thread nD τ).loc main_arg1)) (m ((c : Thread nD τ).loc main_arg2)) ⟨0 + k.val, by omega⟩) := by
  funext k
  refine (hidden_at _ _ _ _ _ _ k).trans ?_
  unfold token
  simp only [slotMods_eq t s _ _ R h]

/-- A point's rows are of one stream. -/
theorem stream : (tokenOf t i).val < 2048 ↔ t.val % 9 < 8 := by
  unfold tokenOf
  dsimp
  omega

/-- What a row before the tile contributes: the token before, or nothing at a stream's start. -/
theorem above_eq (W : Fin 1024 → Fin 768 → EReal) :
    above (fun r => Rows.product (fun k => tokens0 m c (ix3 (entryOf t s) (tokenOf t r) k)) W)
      (Rows.product (Rows.modulated (fun k => iblk m c 1 t (ix3 s 7 k)) (fun k => m ((c : Thread nD τ).loc main_arg3) (ix1 k))
        (fun k => slotMods t s (m ((c : Thread nD τ).loc main_arg1)) (m ((c : Thread nD τ).loc main_arg2)) ⟨1024 + k.val, by omega⟩)
        (fun k => slotMods t s (m ((c : Thread nD τ).loc main_arg1)) (m ((c : Thread nD τ).loc main_arg2)) ⟨0 + k.val, by omega⟩)) W)
      (k0_pay30 (F := Ideal) (BitVec.ofNat 32 (grid0.coords t 1).val)) i
      = before (fun R => Rows.product (fun k => tokens0 m c (ix3 (entryOf t s) R k)) W) (tokenOf t i) := by
  funext w
  have hR : (tokenOf t i).val = 256 * (t.val % 9) + i.val := rfl
  have hb := hasBefore ⟨t.val % 9, by omega⟩
  rw [tile_of t, hb]
  unfold above before
  by_cases hi : i.val = 0
  · rw [if_pos hi]
    by_cases h : t.val % 9 = 0 ∨ t.val % 9 = 8
    · rw [if_pos h, if_pos (by omega), mul_zero]
    · rw [if_neg h, if_neg (by omega), mul_one]
      have e : (⟨(tokenOf t i).val - 1, by omega⟩ : Fin 2304) = ⟨256 * (t.val % 9) - 1, by omega⟩ := Fin.ext (by dsimp; omega)
      rw [e]; beta_reduce; rw [tokens0_at m c t s _ (by dsimp only; omega)]
      simp only [read_before m c t s (by omega)]
  · rw [if_neg hi, if_neg (by omega)]
    have e : tokenOf t ⟨i.val - 1, by omega⟩ = ⟨(tokenOf t i).val - 1, by omega⟩ := Fin.ext (by unfold tokenOf; dsimp; omega)
    beta_reduce; rw [e]

/-- What a row after the tile contributes: the token after, or nothing at a stream's end. -/
theorem below_eq (W : Fin 1024 → Fin 768 → EReal) :
    below (fun r => Rows.product (fun k => tokens0 m c (ix3 (entryOf t s) (tokenOf t r) k)) W)
      (Rows.product (Rows.modulated (fun k => iblk m c 2 t (ix3 s 0 k)) (fun k => m ((c : Thread nD τ).loc main_arg3) (ix1 k))
        (fun k => slotMods t s (m ((c : Thread nD τ).loc main_arg1)) (m ((c : Thread nD τ).loc main_arg2)) ⟨1024 + k.val, by omega⟩)
        (fun k => slotMods t s (m ((c : Thread nD τ).loc main_arg1)) (m ((c : Thread nD τ).loc main_arg2)) ⟨0 + k.val, by omega⟩)) W)
      (k0_pay31 (F := Ideal) (BitVec.ofNat 32 (grid0.coords t 1).val)) i
      = after (fun R => Rows.product (fun k => tokens0 m c (ix3 (entryOf t s) R k)) W) (tokenOf t i) := by
  funext w
  have hR : (tokenOf t i).val = 256 * (t.val % 9) + i.val := rfl
  have ha := hasAfter ⟨t.val % 9, by omega⟩
  rw [tile_of t, ha]
  unfold below after
  by_cases hi : i.val = 255
  · rw [dif_pos hi]
    by_cases h : t.val % 9 = 7 ∨ t.val % 9 = 8
    · rw [if_pos h, dif_pos (by omega), mul_zero]
    · rw [if_neg h, dif_neg (by omega), mul_one]
      have e : (⟨(tokenOf t i).val + 1, by omega⟩ : Fin 2304) = ⟨256 * (t.val % 9) + 256, by omega⟩ :=
        Fin.ext (by dsimp; omega)
      rw [e]; beta_reduce; rw [tokens0_at m c t s _ (by dsimp only; omega)]
      simp only [read_after m c t s (by omega)]
  · rw [dif_neg hi, dif_neg (by omega)]
    have e : tokenOf t ⟨i.val + 1, by omega⟩ = ⟨(tokenOf t i).val + 1, by omega⟩ := Fin.ext (by unfold tokenOf; dsimp; omega)
    beta_reduce; rw [e]

/-! ### The result arrays -/

/-- The S5 branch's input. -/
theorem final16 : (dats m 0 c).arrAt 16 (cfgs 0).N = product256 (tokens0 m c) (m ((c : Thread nD τ).loc main_arg4)) := by
  refine (dats m 0 c).arrAt_eq_of_covers 16 _ (by decide +kernel) fun t _ y => ?_
  blk_simp
  rw [after0_16]
  obtain ⟨s, i, j, rfl⟩ : ∃ (s : Fin 4) (i : Fin 256) (j : Fin 256), y = ix3 s i j := ⟨y 0, y 1, y 2, by blk_ext⟩
  have hj : (win0_16.blk t).view.emb (ix3 s i j) = (ix3 (entryOf t s) (tokenOf t i) j : S32x2304x256.Idx) := by
    unfold entryOf tokenOf; blk_ext [idx t]
  rw [hj, product256_at, tokens0_at m c t s _ (stream t i)]
  refine out16_at i (read_token m c t s i) (read_gain m c t) (read_scale m c t s) (read_shift m c t s) (fun k j => ?_) j
  blk_point [iblk, V, idx t]

/-- The keys, values and queries. -/
theorem final17 : (dats m 0 c).arrAt 17 (cfgs 0).N
    = kvq (product768 (tokens0 m c) (m ((c : Thread nD τ).loc main_arg5))) (m ((c : Thread nD τ).loc main_arg10)) := by
  refine (dats m 0 c).arrAt_eq_of_covers 17 _ (by decide +kernel) fun t _ y => ?_
  blk_simp
  rw [after0_17]
  obtain ⟨s, i, j, rfl⟩ : ∃ (s : Fin 4) (i : Fin 256) (j : Fin 768), y = ix3 s i j := ⟨y 0, y 1, y 2, by blk_ext⟩
  have hj : (win0_17.blk t).view.emb (ix3 s i j) = (ix3 (entryOf t s) (tokenOf t i) j : S32x2304x768.Idx) := by
    unfold entryOf tokenOf; blk_ext [idx t]
  rw [hj, kvq_at]
  refine (out17_at i (fun r => read_token m c t s r) (fun _ => rfl) (fun _ => rfl) (read_shift m c t s) (read_scale m c t s) (read_gain m c t)
    (M := fun k j => m ((c : Thread nD τ).loc main_arg5) (ix2 k j)) (fun k j => ?_)
    (read_tap m c t 0) (read_tap m c t 1) (read_tap m c t 2) (read_heads m c t) j).trans ?_
  · blk_point [iblk, V, idx t]
  · simp only [← tokens0_at m c t s _ (stream t _)]
    rw [above_eq, below_eq]
    unfold KinRefIdeal.Steps.features
    simp only [product768_at]

/-- The decays and write strengths. -/
theorem final18 : (dats m 0 c).arrAt 18 (cfgs 0).N
    = gb (product128 (tokens0 m c) (m ((c : Thread nD τ).loc main_arg6))) (m ((c : Thread nD τ).loc main_arg11))
        (m ((c : Thread nD τ).loc main_arg12)) := by
  refine (dats m 0 c).arrAt_eq_of_covers 18 _ (by decide +kernel) fun t _ y => ?_
  blk_simp
  rw [after0_18]
  obtain ⟨s, i, j, rfl⟩ : ∃ (s : Fin 4) (i : Fin 256) (j : Fin 128), y = ix3 s i j := ⟨y 0, y 1, y 2, by blk_ext⟩
  have hj : (win0_18.blk t).view.emb (ix3 s i j) = (ix3 (entryOf t s) (tokenOf t i) j : S32x2304x128.Idx) := by
    unfold entryOf tokenOf; blk_ext [idx t]
  rw [hj, gb_at, product128_at, tokens0_at m c t s _ (stream t i)]
  refine out18_at i (read_token m c t s i) (read_gain m c t) (read_scale m c t s) (read_shift m c t s) (fun k j => ?_)
    (t' := fun j => m ((c : Thread nD τ).loc main_arg12) (ix1 j)) (a' := fun j => m ((c : Thread nD τ).loc main_arg11) (ix1 j))
    (read_bias m c t) (read_log m c t) j
  blk_point [iblk, V, idx t]

/-- The output gate's projection. -/
theorem final19 : (dats m 0 c).arrAt 19 (cfgs 0).N
    = truncf .bf16 (product256 (tokens0 m c) (m ((c : Thread nD τ).loc main_arg7))) bitsLt_bf16_f32 := by
  refine (dats m 0 c).arrAt_eq_of_covers 19 _ (by decide +kernel) fun t _ y => ?_
  blk_simp
  rw [after0_19]
  obtain ⟨s, i, j, rfl⟩ : ∃ (s : Fin 4) (i : Fin 256) (j : Fin 256), y = ix3 s i j := ⟨y 0, y 1, y 2, by blk_ext⟩
  have hj : (win0_19.blk t).view.emb (ix3 s i j) = (ix3 (entryOf t s) (tokenOf t i) j : S32x2304x256.Idx) := by
    unfold entryOf tokenOf; blk_ext [idx t]
  rw [hj]
  refine Eq.trans ?_ (product256_at (entryOf t s) (tokenOf t i) (tokens0 m c) (m ((c : Thread nD τ).loc main_arg7)) j).symm
  rw [tokens0_at m c t s _ (stream t i)]
  refine out19_at i (read_token m c t s i) (read_gain m c t) (read_scale m c t s) (read_shift m c t s) (fun k j => ?_) j
  blk_point [iblk, V, idx t]

/-- The FNet branch's input. -/
theorem final20 : (dats m 0 c).arrAt 20 (cfgs 0).N
    = truncf .bf16 (product512 (tokens0 m c) (m ((c : Thread nD τ).loc main_arg8))) bitsLt_bf16_f32 := by
  refine (dats m 0 c).arrAt_eq_of_covers 20 _ (by decide +kernel) fun t _ y => ?_
  blk_simp
  rw [after0_20]
  obtain ⟨s, i, j, rfl⟩ : ∃ (s : Fin 4) (i : Fin 256) (j : Fin 512), y = ix3 s i j := ⟨y 0, y 1, y 2, by blk_ext⟩
  have hj : (win0_20.blk t).view.emb (ix3 s i j) = (ix3 (entryOf t s) (tokenOf t i) j : S32x2304x512.Idx) := by
    unfold entryOf tokenOf; blk_ext [idx t]
  rw [hj]
  refine Eq.trans ?_ (product512_at (entryOf t s) (tokenOf t i) (tokens0 m c) (m ((c : Thread nD τ).loc main_arg8)) j).symm
  rw [tokens0_at m c t s _ (stream t i)]
  refine out20_at i (read_token m c t s i) (read_gain m c t) (read_scale m c t s) (read_shift m c t s) (fun k j => ?_) j
  blk_point [iblk, V, idx t]

/-- The gating branch's input. -/
theorem final21 : (dats m 0 c).arrAt 21 (cfgs 0).N
    = truncf .bf16 (product512 (tokens0 m c) (m ((c : Thread nD τ).loc main_arg9))) bitsLt_bf16_f32 := by
  refine (dats m 0 c).arrAt_eq_of_covers 21 _ (by decide +kernel) fun t _ y => ?_
  blk_simp
  rw [after0_21]
  obtain ⟨s, i, j, rfl⟩ : ∃ (s : Fin 4) (i : Fin 256) (j : Fin 512), y = ix3 s i j := ⟨y 0, y 1, y 2, by blk_ext⟩
  have hj : (win0_21.blk t).view.emb (ix3 s i j) = (ix3 (entryOf t s) (tokenOf t i) j : S32x2304x512.Idx) := by
    unfold entryOf tokenOf; blk_ext [idx t]
  rw [hj]
  refine Eq.trans ?_ (product512_at (entryOf t s) (tokenOf t i) (tokens0 m c) (m ((c : Thread nD τ).loc main_arg9)) j).symm
  rw [tokens0_at m c t s _ (stream t i)]
  refine out21_at i (read_token m c t s i) (read_gain m c t) (read_scale m c t s) (read_shift m c t s) (fun k j => ?_) j
  blk_point [iblk, V, idx t]

/-- The modulated tokens. -/
theorem final22 : (dats m 0 c).arrAt 22 (cfgs 0).N = truncf .bf16 (tokens0 m c) bitsLt_bf16_f32 := by
  refine (dats m 0 c).arrAt_eq_of_covers 22 _ (by decide +kernel) fun t _ y => ?_
  blk_simp
  rw [after0_22]
  obtain ⟨s, i, k, rfl⟩ : ∃ (s : Fin 4) (i : Fin 256) (k : Fin 1024), y = ix3 s i k := ⟨y 0, y 1, y 2, by blk_ext⟩
  have hj : (win0_22.blk t).view.emb (ix3 s i k) = (ix3 (entryOf t s) (tokenOf t i) k : S32x2304x1024.Idx) := by
    unfold entryOf tokenOf; blk_ext [idx t]
  rw [hj]
  refine Eq.trans ?_ (congrFun (tokens0_at m c t s (tokenOf t i) (stream t i)) k).symm
  exact out22_at i (read_token m c t s i) (read_gain m c t) (read_scale m c t s) (read_shift m c t s) k

end Cert.KinIdeal.Final
-- ==== Proof.Kin.Run.lean ====
/- The run of the input projections' reference, its results written with the steps. -/
module

public import proofs.«01_k».proof.Proof.Kin.Reference
public import proofs.«01_k».proof.Proof.Gen.KinRefIdeal.Run
public import Idealize.ShloMosaic.PureOps.Ideal
public import Idealize.ShloMosaic.Lib.Pipeline.ValueKit

@[expose] public section

set_option maxRecDepth 16384
noncomputable section
open Idealize.ShloMosaic Idealize.ShloMosaic.TcCoe Idealize.SL.Sem

namespace Cert.KinRefIdeal.Steps
open Cert.KinRefIdeal Cert.KinRefIdeal.Gen

/-- The modulated tokens, from the reference's arguments. -/
abbrev tokens1 (m : (ℓ : Loc nD τ sig) → Buf (Elt Ideal) ℓ) (c : Dev nD) : FVec Ideal S32x2304x1024 .f32 :=
  hidden (m ((c.tc : Thread nD τ).loc main_arg0)) (m ((c.tc : Thread nD τ).loc main_arg1)) (m ((c.tc : Thread nD τ).loc main_arg2))
    (m ((c.tc : Thread nD τ).loc main_arg3))

/-- Equal arguments give equal modulated tokens. -/
theorem hidden_congr {X X' : FVec Ideal S32x2304x1024 .f32} {M M' : FVec Ideal S32x1x6144 .f32} {C C' : FVec Ideal S6144 .f32}
    {g g' : FVec Ideal S1024 .f32} (hX : X = X') (hM : M = M') (hC : C = C') (hg : g = g') : hidden X M C g = hidden X' M' C' g' := by
  rw [hX, hM, hC, hg]

/-- The terms the run of the reference ends with are the steps' over its arguments, which stay as they were. -/
theorem run_terms (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v224) = product256 (tokens1 m c) (m ((c.tc : Thread nD τ).loc main_arg4))
      ∧ r.2.mem ((c.tc : Thread nD τ).loc main_v225)
          = kvq (product768 (tokens1 m c) (m ((c.tc : Thread nD τ).loc main_arg5))) (m ((c.tc : Thread nD τ).loc main_arg10))
      ∧ r.2.mem ((c.tc : Thread nD τ).loc main_v222)
          = gb (product128 (tokens1 m c) (m ((c.tc : Thread nD τ).loc main_arg6))) (m ((c.tc : Thread nD τ).loc main_arg11))
              (m ((c.tc : Thread nD τ).loc main_arg12))
      ∧ r.2.mem ((c.tc : Thread nD τ).loc main_v227)
          = truncf .bf16 (product256 (tokens1 m c) (m ((c.tc : Thread nD τ).loc main_arg7))) bitsLt_bf16_f32
      ∧ r.2.mem ((c.tc : Thread nD τ).loc main_v229)
          = truncf .bf16 (product512 (tokens1 m c) (m ((c.tc : Thread nD τ).loc main_arg8))) bitsLt_bf16_f32
      ∧ r.2.mem ((c.tc : Thread nD τ).loc main_v231)
          = truncf .bf16 (product512 (tokens1 m c) (m ((c.tc : Thread nD τ).loc main_arg9))) bitsLt_bf16_f32
      ∧ r.2.mem ((c.tc : Thread nD τ).loc main_v232) = truncf .bf16 (tokens1 m c) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1, (h c).2.1, (h c).2.2.1, (h c).2.2.2.1, (h c).2.2.2.2.1, (h c).2.2.2.2.2.1, (h c).2.2.2.2.2.2.1,
    (h c).2.2.2.2.2.2.2⟩)
    (Cert.KinRefIdeal.Value.run m g)

end Cert.KinRefIdeal.Steps
-- ==== Proof.Kin.Claim.lean ====
/- The claims about the input projections. -/
module

public import proofs.«01_k».proof.Defs
public import proofs.«01_k».proof.Proof.Kin.Value
public import proofs.«01_k».proof.Proof.Kin.Run
public import Idealize.ShloMosaic.Lib.Claim

@[expose] public section

set_option maxRecDepth 16384
noncomputable section
open Idealize.ShloMosaic Idealize.ShloMosaic.TcCoe Idealize.SL.Sem

namespace Cert.KinIdeal.Final

/-- The reference terminates and leaves its arguments as they were. -/
theorem frame_reference : Cert.quiescent_KinRefIdeal (hKinRefIdeal := Cert.KinRefIdeal.Gen.facts) := by
  intro m g _
  exact (θ_run Cert.KinRefIdeal.defs _ _).mono
    (fun r h => ⟨fun c => (h c).2.2.2.2.2.2.2, sem_eq_zero_of_no_sems (by decide) r.2⟩) (Cert.KinRefIdeal.Value.run m g)

set_option maxHeartbeats 4000000 in
/-- Kernel and reference end with the same seven results. -/
theorem algebraic : Cert.algebraic_KinIdeal_KinRefIdeal (hKinIdeal := Cert.KinIdeal.Gen.facts)
    (hKinRefIdeal := Cert.KinRefIdeal.Gen.facts) := by
  pair_intro
  · run_from Cert.KinIdeal.Gen.run_main m g
    exacts [hc.1 16, hc.1 17, hc.1 18, hc.1 19, hc.1 20, hc.1 21, hc.1 22]
  · have hT (c) : Cert.KinRefIdeal.Steps.tokens1 m' c = tokens0 m c :=
      Cert.KinRefIdeal.Steps.hidden_congr (hagree c).1 (hagree c).2.1 (hagree c).2.2.1 (hagree c).2.2.2.1
    have e16 (c) := (congrArg₂ Cert.KinRefIdeal.Steps.product256 (hT c) (hagree c).2.2.2.2.1).trans (final16 m c).symm
    have e17 (c) := (congrArg₂ Cert.KinRefIdeal.Steps.kvq
      (congrArg₂ Cert.KinRefIdeal.Steps.product768 (hT c) (hagree c).2.2.2.2.2.1) (hagree c).2.2.2.2.2.2.2.2.2.2.1).trans
      (final17 m c).symm
    have e18 (c) := (congr (congrArg₂ Cert.KinRefIdeal.Steps.gb
      (congrArg₂ Cert.KinRefIdeal.Steps.product128 (hT c) (hagree c).2.2.2.2.2.2.1) (hagree c).2.2.2.2.2.2.2.2.2.2.2.1)
      (hagree c).2.2.2.2.2.2.2.2.2.2.2.2).trans (final18 m c).symm
    have e19 (c) := (congrArg (truncf .bf16 · Cert.KinRefIdeal.Gen.bitsLt_bf16_f32)
      (congrArg₂ Cert.KinRefIdeal.Steps.product256 (hT c) (hagree c).2.2.2.2.2.2.2.1)).trans (final19 m c).symm
    have e20 (c) := (congrArg (truncf .bf16 · Cert.KinRefIdeal.Gen.bitsLt_bf16_f32)
      (congrArg₂ Cert.KinRefIdeal.Steps.product512 (hT c) (hagree c).2.2.2.2.2.2.2.2.1)).trans (final20 m c).symm
    have e21 (c) := (congrArg (truncf .bf16 · Cert.KinRefIdeal.Gen.bitsLt_bf16_f32)
      (congrArg₂ Cert.KinRefIdeal.Steps.product512 (hT c) (hagree c).2.2.2.2.2.2.2.2.2.1)).trans (final21 m c).symm
    have e22 (c) := (congrArg (truncf .bf16 · Cert.KinRefIdeal.Gen.bitsLt_bf16_f32) (hT c)).trans (final22 m c).symm
    beta_reduce at e19 e20 e21 e22
    refine (θ_run _ _ _).mono (fun r h c => ?_) (Cert.KinRefIdeal.Steps.run_terms m' g')
    exact ⟨(h c).1.trans (e16 c), (h c).2.1.trans (e17 c), (h c).2.2.1.trans (e18 c), (h c).2.2.2.1.trans (e19 c),
      (h c).2.2.2.2.1.trans (e20 c), (h c).2.2.2.2.2.1.trans (e21 c), (h c).2.2.2.2.2.2.1.trans (e22 c), (h c).2.2.2.2.2.2.2⟩

end Cert.KinIdeal.Final
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Pre_branches_finite
public import proofs.«01_k».proof.Proof.Gen.Gdn
public import proofs.«01_k».proof.Proof.Gen.Gdn.Skeleton
public import proofs.«01_k».proof.Proof.Gen.Gdn.Launch
public import proofs.«01_k».proof.Proof.Gen.Gdn.Points
public import proofs.«01_k».proof.Proof.Gen.Gdn.Frame
public import proofs.«01_k».proof.Proof.Gen.GdnIdeal
public import proofs.«01_k».proof.Proof.Gen.GdnIdeal.Skeleton
public import proofs.«01_k».proof.Proof.Gen.GdnIdeal.Launch
public import proofs.«01_k».proof.Proof.Gen.GdnIdeal.Points
public import proofs.«01_k».proof.Proof.Gen.GdnIdeal.Frame
public import proofs.«01_k».proof.Proof.Gen.Kin
public import proofs.«01_k».proof.Proof.Gen.Kin.Skeleton
public import proofs.«01_k».proof.Proof.Gen.Kin.Launch
public import proofs.«01_k».proof.Proof.Gen.Kin.Points
public import proofs.«01_k».proof.Proof.Gen.Kin.Frame
public import proofs.«01_k».proof.Proof.Gen.KinIdeal
public import proofs.«01_k».proof.Proof.Gen.KinIdeal.Skeleton
public import proofs.«01_k».proof.Proof.Gen.KinIdeal.Launch
public import proofs.«01_k».proof.Proof.Gen.KinIdeal.Points
public import proofs.«01_k».proof.Proof.Gen.KinIdeal.Frame
public import proofs.«01_k».proof.Proof.Gen.KinRefIdeal
public import Idealize.ShloMosaic.Adequacy
public import Idealize.ShloMosaic.Init

public import proofs.«01_k».proof.Proof.Gen.FfnIdeal.Value
public import proofs.«01_k».proof.Proof.Gen.FfnRefIdeal.Run
public import proofs.«01_k».proof.Proof.Gen.MidIdeal.Value
public import proofs.«01_k».proof.Proof.Gen.MidRefIdeal.Run
public import proofs.«01_k».proof.Proof.Gen.MergeIdeal.Value
public import proofs.«01_k».proof.Proof.Gen.MergeRefIdeal.Run
public import proofs.«01_k».proof.Proof.Gen.KinIdeal.Value
public import proofs.«01_k».proof.Proof.Gen.KinRefIdeal.Run

public import proofs.«01_k».proof.Proof.Ffn.Claim
public import proofs.«01_k».proof.Proof.Mid.Claim
public import proofs.«01_k».proof.Proof.Merge.Claim
public import proofs.«01_k».proof.Proof.Kin.Claim

@[expose] public section

noncomputable section

namespace Cert.Proof

open Idealize.ShloMosaic Idealize.SL.Sem Cert.Ffn

/-- The certificate, call by call: the frames, the preservation (no rewrite was made), the values. -/
theorem claim : Cert.Claim := ⟨Cert.Ffn.Gen.facts, Cert.FfnIdeal.Gen.facts, Cert.FfnRefIdeal.Gen.facts,
  Cert.Mid.Gen.facts, Cert.MidIdeal.Gen.facts, Cert.MidRefIdeal.Gen.facts,
  Cert.Merge.Gen.facts, Cert.MergeIdeal.Gen.facts, Cert.MergeRefIdeal.Gen.facts, Cert.Gdn.Gen.facts, Cert.GdnIdeal.Gen.facts,
  Cert.Kin.Gen.facts, Cert.KinIdeal.Gen.facts, Cert.KinRefIdeal.Gen.facts, Cert.Pre_branches_finite.Gen.facts,
  fun m ρ _ => Cert.Ffn.Gen.frame m ρ, fun m ρ _ => Cert.FfnIdeal.Gen.frame m ρ, Cert.FfnIdeal.Final.frame_reference,
  fun m ρ _ => Cert.Mid.Gen.frame m ρ, fun m ρ _ => Cert.MidIdeal.Gen.frame m ρ, Cert.MidIdeal.Final.frame_reference,
  fun m ρ _ => Cert.Merge.Gen.frame m ρ, fun m ρ _ => Cert.MergeIdeal.Gen.frame m ρ,
  fun m ρ _ => Cert.MergeIdeal.Gen.frame m ρ, Cert.MergeIdeal.Final.frame_reference,
  fun m ρ _ => Cert.MergeIdeal.Final.frame_reference m ρ trivial,
  fun m ρ _ => Cert.Gdn.Gen.frame m ρ, fun m ρ _ => Cert.GdnIdeal.Gen.frame m ρ,
  fun m ρ _ => Cert.Kin.Gen.frame m ρ, fun m ρ _ => Cert.KinIdeal.Gen.frame m ρ, Cert.KinIdeal.Final.frame_reference,
  trivial, Cert.FfnIdeal.Final.algebraic, trivial, Cert.MidIdeal.Final.algebraic,
  trivial, Cert.MergeIdeal.Final.algebraic, trivial,
  trivial, Cert.KinIdeal.Final.algebraic⟩

end Cert.Proof

end
